-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4x2097152 : Shape := ⟨2, ![4, 2097152]⟩
abbrev S4x1048576 : Shape := ⟨2, ![4, 1048576]⟩
abbrev S4x1048576x3 : Shape := ⟨3, ![4, 1048576, 3]⟩
abbrev S3x32 : Shape := ⟨2, ![3, 32]⟩
abbrev S32 : Shape := ⟨1, ![32]⟩
abbrev S32x1 : Shape := ⟨2, ![32, 1]⟩
abbrev S_ : Shape := ⟨0, ![]⟩

class Facts : Prop where
  bcast_S_S4x1048576 : S_.BroadcastsInDim S4x1048576 (![] : Fin 0 → Fin S4x1048576.rank)
  reducesTo_S4x1048576_S_d0_1 : S4x1048576.ReducesTo [0, 1] S_
  h_S_ : 0 < S_.numel

variable [Facts]

def fn {F : FTy → Type} [FloatOps F] (main_arg0 : FVec F S4x2097152 .f32) (main_arg1 : IVec S4x1048576 32) (main_arg2 : IVec S4x1048576x3 32) (main_arg3 : FVec F S4x1048576x3 .f32) (main_arg4 : FVec F S3x32 .f32) (main_arg5 : FVec F S32 .f32) (main_arg6 : FVec F S32x1 .f32) : IVec S_ 1 :=
  let main_c : IVec S_ 32 := constantI S_ 32 0#32
  let main_v0 : IVec S4x1048576 32 := broadcastInDim S4x1048576 ![] bcast_S_S4x1048576 main_c
  let main_v1 : IVec S4x1048576 1 := cmpi .sge main_arg1 main_v0
  let main_c_0 : IVec S_ 1 := constantI S_ 1 1#1
  let main_v2 : IVec S_ 1 := (fun x v => Host.reduce IntOp.andi x v reducesTo_S4x1048576_S_d0_1 h_S_) main_v1 main_c_0
  main_v2
-- ==== Kernel.lean ====
abbrev S4x2097152 : Shape := ⟨2, ![4, 2097152]⟩
abbrev S4x1048576 : Shape := ⟨2, ![4, 1048576]⟩
abbrev S4x1048576x3 : Shape := ⟨3, ![4, 1048576, 3]⟩
abbrev S3x32 : Shape := ⟨2, ![3, 32]⟩
abbrev S32 : Shape := ⟨1, ![32]⟩
abbrev S32x1 : Shape := ⟨2, ![32, 1]⟩
abbrev S3x4x1048576 : Shape := ⟨3, ![3, 4, 1048576]⟩
abbrev S1x4x8192 : Shape := ⟨3, ![1, 4, 8192]⟩
abbrev S4x8192 : Shape := ⟨2, ![4, 8192]⟩
abbrev S4x1 : Shape := ⟨2, ![4, 1]⟩
abbrev S1x1 : Shape := ⟨2, ![1, 1]⟩
abbrev S1 : Shape := ⟨1, ![1]⟩
abbrev S65536 : Shape := ⟨1, ![65536]⟩
abbrev S4x4096 : Shape := ⟨2, ![4, 4096]⟩
abbrev S2x8192 : Shape := ⟨2, ![2, 8192]⟩
abbrev S4 : Shape := ⟨1, ![4]⟩
abbrev S_ : Shape := ⟨0, ![]⟩
abbrev S1x4096 : Shape := ⟨2, ![1, 4096]⟩
abbrev S4096 : Shape := ⟨1, ![4096]⟩
abbrev S16 : Shape := ⟨1, ![16]⟩
abbrev S1x16 : Shape := ⟨2, ![1, 16]⟩
abbrev S1x8192 : Shape := ⟨2, ![1, 8192]⟩
abbrev S8192 : Shape := ⟨1, ![8192]⟩

abbrev nBuf : Table → Nat
  | .hbm => 12
  | .local .tc .vmem => 14
  | .local .tc .smem => 3
  | .local .scVector .vmem => 4
  | _ => 0

abbrev bufTy : (tb : Table) → Fin (nBuf tb) → BufTy
  | .hbm, ⟨0, _⟩ => ⟨S4x2097152, .f32⟩
  | .hbm, ⟨1, _⟩ => ⟨S4x1048576, .i32⟩
  | .hbm, ⟨2, _⟩ => ⟨S4x1048576x3, .i32⟩
  | .hbm, ⟨3, _⟩ => ⟨S4x1048576x3, .f32⟩
  | .hbm, ⟨4, _⟩ => ⟨S3x32, .f32⟩
  | .hbm, ⟨5, _⟩ => ⟨S32, .f32⟩
  | .hbm, ⟨6, _⟩ => ⟨S32x1, .f32⟩
  | .hbm, ⟨7, _⟩ => ⟨S3x4x1048576, .i32⟩
  | .hbm, ⟨8, _⟩ => ⟨S3x4x1048576, .f32⟩
  | .hbm, ⟨9, _⟩ => ⟨S32, .f32⟩
  | .hbm, ⟨10, _⟩ => ⟨S4x1048576, .f32⟩
  | .hbm, ⟨11, _⟩ => ⟨S4x2097152, .f32⟩
  | .local .tc .vmem, ⟨0, _⟩ => ⟨S1x4x8192, .i32⟩
  | .local .tc .vmem, ⟨1, _⟩ => ⟨S1x4x8192, .i32⟩
  | .local .tc .vmem, ⟨2, _⟩ => ⟨S1x4x8192, .i32⟩
  | .local .tc .vmem, ⟨3, _⟩ => ⟨S1x4x8192, .i32⟩
  | .local .tc .vmem, ⟨4, _⟩ => ⟨S1x4x8192, .i32⟩
  | .local .tc .vmem, ⟨5, _⟩ => ⟨S1x4x8192, .i32⟩
  | .local .tc .vmem, ⟨6, _⟩ => ⟨S1x4x8192, .f32⟩
  | .local .tc .vmem, ⟨7, _⟩ => ⟨S1x4x8192, .f32⟩
  | .local .tc .vmem, ⟨8, _⟩ => ⟨S1x4x8192, .f32⟩
  | .local .tc .vmem, ⟨9, _⟩ => ⟨S1x4x8192, .f32⟩
  | .local .tc .vmem, ⟨10, _⟩ => ⟨S1x4x8192, .f32⟩
  | .local .tc .vmem, ⟨11, _⟩ => ⟨S1x4x8192, .f32⟩
  | .local .tc .vmem, ⟨12, _⟩ => ⟨S4x8192, .f32⟩
  | .local .tc .vmem, ⟨13, _⟩ => ⟨S4x8192, .f32⟩
  | .local .tc .smem, ⟨0, _⟩ => ⟨S3x32, .f32⟩
  | .local .tc .smem, ⟨1, _⟩ => ⟨S32, .f32⟩
  | .local .tc .smem, ⟨2, _⟩ => ⟨S32, .f32⟩
  | .local .scVector .vmem, ⟨0, _⟩ => ⟨S65536, .f32⟩
  | .local .scVector .vmem, ⟨1, _⟩ => ⟨S4x4096, .i32⟩
  | .local .scVector .vmem, ⟨2, _⟩ => ⟨S4x4096, .f32⟩
  | .local .scVector .vmem, ⟨3, _⟩ => ⟨S2x8192, .f32⟩
  | _, _ => ⟨S4x2097152, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0_scv : Ref sig .scVector := ⟨.hbm, 0, rfl⟩
abbrev main_arg1_scv : Ref sig .scVector := ⟨.hbm, 1, rfl⟩
abbrev main_v3_scv : Ref sig .scVector := ⟨.hbm, 10, rfl⟩
abbrev main_v4_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S3x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

@[reducible] def k1_t1_loop : Scf.Loop 32 :=
  let c0_i32_51 : BitVec 32 := 0#32
  let c4_i32 : BitVec 32 := 4#32
  let v83 : BitVec 32 := Scalar.addi c0_i32_51 c4_i32
  let c1_i32_52 : BitVec 32 := 1#32
  ⟨c0_i32_51, v83, c1_i32_52⟩
@[reducible] def k1_t2_loop : Scf.Loop 32 :=
  let c0_i32_55 : BitVec 32 := 0#32
  let c4096_i32_56 : BitVec 32 := 4096#32
  let v84 : BitVec 32 := Scalar.addi c0_i32_55 c4096_i32_56
  let c1_i32_57 : BitVec 32 := 1#32
  ⟨c0_i32_55, v84, c1_i32_57⟩
def k1_off1 (k1_t2 : Fin k1_t2_loop.trips) : Fin 1 → Nat :=
  let c0_i32_55 : BitVec 32 := 0#32
  let c1_i32_57 : BitVec 32 := 1#32
  let arg14 : BitVec 32 := Scf.iv c0_i32_55 c1_i32_57 k1_t2
  let c16_i32 : BitVec 32 := 16#32
  let v180 : BitVec 32 := Scalar.muli arg14 c16_i32
  let v181 : Index := Scalar.indexCast v180
  ![v181.toNat]
@[reducible] def k1_t3_loop : Scf.Loop 32 :=
  let c0_i32_60 : BitVec 32 := 0#32
  let c64_i32 : BitVec 32 := 64#32
  let v85 : BitVec 32 := Scalar.addi c0_i32_60 c64_i32
  let c1_i32_61 : BitVec 32 := 1#32
  ⟨c0_i32_60, v85, c1_i32_61⟩
def k1_off2 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c0_i32_130 : BitVec 32 := 0#32
  ![arg13.toNat, 0]
@[reducible] def k1_t4_loop : Scf.Loop 32 :=
  let c0_i32_140 : BitVec 32 := 0#32
  let c256_i32 : BitVec 32 := 256#32
  let v201 : BitVec 32 := Scalar.addi c0_i32_140 c256_i32
  let c1_i32_141 : BitVec 32 := 1#32
  ⟨c0_i32_140, v201, c1_i32_141⟩
def k1_off3 (k1_t4 : Fin k1_t4_loop.trips) : Fin 2 → Nat :=
  let c0_i32_243 : BitVec 32 := 0#32
  let v364 : Index := Scalar.indexCast c0_i32_243
  let c0_i32_140 : BitVec 32 := 0#32
  let c1_i32_141 : BitVec 32 := 1#32
  let arg15 : BitVec 32 := Scf.iv c0_i32_140 c1_i32_141 k1_t4
  let c16_i32 : BitVec 32 := 16#32
  let v363 : BitVec 32 := Scalar.muli arg15 c16_i32
  let v365 : Index := Scalar.indexCast v363
  ![0, v365.toNat]

def k1_chk1 (v376 : IVec S16 32) : Prop :=
  (∀ a x, ((![v376] : Fin 1 → IVec S16 32) a x).toNat < S65536.size a)
theorem k1_idx1_inb : ∀ (v376 : IVec S16 32) (k1_hw1 : k1_chk1 v376), ∀ a x, ((![v376] : Fin 1 → IVec S16 32) a x).toNat < S65536.size a := fun v376 k1_hw1 => k1_hw1
def k1_off4 (k1_t1 : Fin k1_t1_loop.trips) (k1_t3 : Fin k1_t3_loop.trips) (c0_i32_126 : BitVec 32) : Fin 2 → Nat :=
  let c0_i32_51 : BitVec 32 := 0#32
  let c1_i32_52 : BitVec 32 := 1#32
  let arg13 : BitVec 32 := Scf.iv c0_i32_51 c1_i32_52 k1_t1
  let c0_i32_60 : BitVec 32 := 0#32
  let c1_i32_61 : BitVec 32 := 1#32
  let arg14 : BitVec 32 := Scf.iv c0_i32_60 c1_i32_61 k1_t3
  let c4_i32_125 : BitVec 32 := 4#32
  let v179 : BitVec 32 := Scalar.muli arg14 c4_i32_125
  let v180 : BitVec 32 := Scalar.addi v179 c0_i32_126
  let c4_i32_143 : BitVec 32 := 4#32
  let v202 : BitVec 32 := Scalar.addi v180 c4_i32_143
  let c255_i32 : BitVec 32 := 255#32
  let v203 : BitVec 32 := Scalar.minsi v202 c255_i32
  let c4096_i32_144 : BitVec 32 := 4096#32
  let v204 : BitVec 32 := Scalar.muli v203 c4096_i32_144
  ![arg13.toNat, v204.toNat]
@[reducible] def k1_t5_loop : Scf.Loop 32 :=
  let c0_i32_168 : BitVec 32 := 0#32
  let c256_i32_169 : BitVec 32 := 256#32
  let v247 : BitVec 32 := Scalar.addi c0_i32_168 c256_i32_169
  let c1_i32_170 : BitVec 32 := 1#32
  ⟨c0_i32_168, v247, c1_i32_170⟩
def k1_off5 (k1_t5 : Fin k1_t5_loop.trips) : Fin 2 → Nat :=
  let c1_i32_243 : BitVec 32 := 1#32
  let v364 : Index := Scalar.indexCast c1_i32_243
  let c0_i32_168 : BitVec 32 := 0#32
  let c1_i32_170 : BitVec 32 := 1#32
  let arg15 : BitVec 32 := Scf.iv c0_i32_168 c1_i32_170 k1_t5
  let c16_i32 : BitVec 32 := 16#32
  let v363 : BitVec 32 := Scalar.muli arg15 c16_i32
  let v365 : Index := Scalar.indexCast v363
  ![1, v365.toNat]

def k1_chk2 (v376 : IVec S16 32) : Prop :=
  (∀ a x, ((![v376] : Fin 1 → IVec S16 32) a x).toNat < S65536.size a)
theorem k1_idx2_inb : ∀ (v376 : IVec S16 32) (k1_hw2 : k1_chk2 v376), ∀ a x, ((![v376] : Fin 1 → IVec S16 32) a x).toNat < S65536.size a := fun v376 k1_hw2 => k1_hw2
@[reducible] def k1_t6_loop : Scf.Loop 32 :=
  let c0_i32_198 : BitVec 32 := 0#32
  let c256_i32_199 : BitVec 32 := 256#32
  let v293 : BitVec 32 := Scalar.addi c0_i32_198 c256_i32_199
  let c1_i32_200 : BitVec 32 := 1#32
  ⟨c0_i32_198, v293, c1_i32_200⟩
def k1_off6 (k1_t6 : Fin k1_t6_loop.trips) : Fin 2 → Nat :=
  let c2_i32_243 : BitVec 32 := 2#32
  let v364 : Index := Scalar.indexCast c2_i32_243
  let c0_i32_198 : BitVec 32 := 0#32
  let c1_i32_200 : BitVec 32 := 1#32
  let arg15 : BitVec 32 := Scf.iv c0_i32_198 c1_i32_200 k1_t6
  let c16_i32 : BitVec 32 := 16#32
  let v363 : BitVec 32 := Scalar.muli arg15 c16_i32
  let v365 : Index := Scalar.indexCast v363
  ![2, v365.toNat]

def k1_chk3 (v376 : IVec S16 32) : Prop :=
  (∀ a x, ((![v376] : Fin 1 → IVec S16 32) a x).toNat < S65536.size a)
theorem k1_idx3_inb : ∀ (v376 : IVec S16 32) (k1_hw3 : k1_chk3 v376), ∀ a x, ((![v376] : Fin 1 → IVec S16 32) a x).toNat < S65536.size a := fun v376 k1_hw3 => k1_hw3
@[reducible] def k1_t7_loop : Scf.Loop 32 :=
  let c0_i32_228 : BitVec 32 := 0#32
  let c256_i32_229 : BitVec 32 := 256#32
  let v339 : BitVec 32 := Scalar.addi c0_i32_228 c256_i32_229
  let c1_i32_230 : BitVec 32 := 1#32
  ⟨c0_i32_228, v339, c1_i32_230⟩
def k1_off7 (k1_t7 : Fin k1_t7_loop.trips) : Fin 2 → Nat :=
  let c3_i32_243 : BitVec 32 := 3#32
  let v364 : Index := Scalar.indexCast c3_i32_243
  let c0_i32_228 : BitVec 32 := 0#32
  let c1_i32_230 : BitVec 32 := 1#32
  let arg15 : BitVec 32 := Scf.iv c0_i32_228 c1_i32_230 k1_t7
  let c16_i32 : BitVec 32 := 16#32
  let v363 : BitVec 32 := Scalar.muli arg15 c16_i32
  let v365 : Index := Scalar.indexCast v363
  ![3, v365.toNat]

def k1_chk4 (v376 : IVec S16 32) : Prop :=
  (∀ a x, ((![v376] : Fin 1 → IVec S16 32) a x).toNat < S65536.size a)
theorem k1_idx4_inb : ∀ (v376 : IVec S16 32) (k1_hw4 : k1_chk4 v376), ∀ a x, ((![v376] : Fin 1 → IVec S16 32) a x).toNat < S65536.size a := fun v376 k1_hw4 => k1_hw4
def k1_off8 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c0_i32_66 : BitVec 32 := 0#32
  ![arg13.toNat, 0]
def k1_cond1 (k1_t1 : Fin k1_t1_loop.trips) : BitVec 1 :=
  let c0_i32_51 : BitVec 32 := 0#32
  let c1_i32_52 : BitVec 32 := 1#32
  let arg13 : BitVec 32 := Scf.iv c0_i32_51 c1_i32_52 k1_t1
  let c3_i32_111 : BitVec 32 := 3#32
  let v166 : BitVec 1 := Scalar.cmpi .slt arg13 c3_i32_111
  let v167 : BitVec 32 := Scalar.extui v166
  let c0_i32_112 : BitVec 32 := 0#32
  let v168 : BitVec 1 := Scalar.cmpi .ne v167 c0_i32_112
  v168

def k1_off9 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c1_i32_125 : BitVec 32 := 1#32
  let v179 : BitVec 32 := Scalar.addi arg13 c1_i32_125
  let c0_i32_129 : BitVec 32 := 0#32
  ![v179.toNat, 0]
def k1_off10 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c1_i32_125 : BitVec 32 := 1#32
  let v179 : BitVec 32 := Scalar.addi arg13 c1_i32_125
  let c4096_i32_141 : BitVec 32 := 4096#32
  ![v179.toNat, 4096]
def k1_off11 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c1_i32_125 : BitVec 32 := 1#32
  let v179 : BitVec 32 := Scalar.addi arg13 c1_i32_125
  let c8192_i32_153 : BitVec 32 := 8192#32
  ![v179.toNat, 8192]
def k1_off12 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c1_i32_125 : BitVec 32 := 1#32
  let v179 : BitVec 32 := Scalar.addi arg13 c1_i32_125
  let c12288_i32_165 : BitVec 32 := 12288#32
  ![v179.toNat, 12288]
def k1_off13 (i : grid1.Coords) (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![arg13.toNat, v2.toNat]
@[reducible] def k1_t8_loop : Scf.Loop 32 :=
  let c0_i32_117 : BitVec 32 := 0#32
  let c4_i32_118 : BitVec 32 := 4#32
  let v177 : BitVec 32 := Scalar.addi c0_i32_117 c4_i32_118
  let c1_i32_119 : BitVec 32 := 1#32
  ⟨c0_i32_117, v177, c1_i32_119⟩
def k1_off14 (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let c0_i32_129 : BitVec 32 := 0#32
  ![arg13.toNat, 0]
def k1_cond2 (k1_t8 : Fin k1_t8_loop.trips) : BitVec 1 :=
  let c0_i32_117 : BitVec 32 := 0#32
  let c1_i32_119 : BitVec 32 := 1#32
  let arg14 : BitVec 32 := Scf.iv c0_i32_117 c1_i32_119 k1_t8
  let c2_i32_125 : BitVec 32 := 2#32
  let v179 : BitVec 32 := Scalar.muli arg14 c2_i32_125
  let c0_i32_126 : BitVec 32 := 0#32
  let v180 : BitVec 32 := Scalar.addi v179 c0_i32_126
  let c7_i32 : BitVec 32 := 7#32
  let v189 : BitVec 1 := Scalar.cmpi .slt v180 c7_i32
  let v190 : BitVec 32 := Scalar.extui v189
  let c0_i32_132 : BitVec 32 := 0#32
  let v191 : BitVec 1 := Scalar.cmpi .ne v190 c0_i32_132
  v191

def k1_off15 (i : grid1.Coords) (k1_t1 : Fin k1_t1_loop.trips) (k1_t8 : Fin k1_t8_loop.trips) : Fin 2 → Nat :=
  let c0_i32_51 : BitVec 32 := 0#32
  let c1_i32_52 : BitVec 32 := 1#32
  let arg13 : BitVec 32 := Scf.iv c0_i32_51 c1_i32_52 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_117 : BitVec 32 := 0#32
  let c1_i32_119 : BitVec 32 := 1#32
  let arg14 : BitVec 32 := Scf.iv c0_i32_117 c1_i32_119 k1_t8
  let c2_i32_125 : BitVec 32 := 2#32
  let v179 : BitVec 32 := Scalar.muli arg14 c2_i32_125
  let c0_i32_126 : BitVec 32 := 0#32
  let v180 : BitVec 32 := Scalar.addi v179 c0_i32_126
  let c1_i32_155 : BitVec 32 := 1#32
  let v225 : BitVec 32 := Scalar.addi v180 c1_i32_155
  let c8192_i32_156 : BitVec 32 := 8192#32
  let v226 : BitVec 32 := Scalar.muli v225 c8192_i32_156
  let v227 : BitVec 32 := Scalar.addi v2 v226
  ![arg13.toNat, v227.toNat]
@[reducible] def k1_t9_loop : Scf.Loop 32 :=
  let c0_i32_134 : BitVec 32 := 0#32
  let c512_i32 : BitVec 32 := 512#32
  let v192 : BitVec 32 := Scalar.addi c0_i32_134 c512_i32
  let c1_i32_135 : BitVec 32 := 1#32
  ⟨c0_i32_134, v192, c1_i32_135⟩
def k1_off16 (k1_t9 : Fin k1_t9_loop.trips) : Fin 2 → Nat :=
  let c0_i32_155 : BitVec 32 := 0#32
  let v226 : Index := Scalar.indexCast c0_i32_155
  let c0_i32_134 : BitVec 32 := 0#32
  let c1_i32_135 : BitVec 32 := 1#32
  let arg15 : BitVec 32 := Scf.iv c0_i32_134 c1_i32_135 k1_t9
  let c16_i32 : BitVec 32 := 16#32
  let v225 : BitVec 32 := Scalar.muli arg15 c16_i32
  let v227 : Index := Scalar.indexCast v225
  ![0, v227.toNat]
def k1_off17 (k1_t8 : Fin k1_t8_loop.trips) (k1_t9 : Fin k1_t9_loop.trips) : Fin 1 → Nat :=
  let c0_i32_117 : BitVec 32 := 0#32
  let c1_i32_119 : BitVec 32 := 1#32
  let arg14 : BitVec 32 := Scf.iv c0_i32_117 c1_i32_119 k1_t8
  let c2_i32_125 : BitVec 32 := 2#32
  let v179 : BitVec 32 := Scalar.muli arg14 c2_i32_125
  let c0_i32_126 : BitVec 32 := 0#32
  let v180 : BitVec 32 := Scalar.addi v179 c0_i32_126
  let c8192_i32_156 : BitVec 32 := 8192#32
  let v229 : BitVec 32 := Scalar.muli v180 c8192_i32_156
  let c0_i32_134 : BitVec 32 := 0#32
  let c1_i32_135 : BitVec 32 := 1#32
  let arg15 : BitVec 32 := Scf.iv c0_i32_134 c1_i32_135 k1_t9
  let c16_i32_157 : BitVec 32 := 16#32
  let v230 : BitVec 32 := Scalar.muli arg15 c16_i32_157
  let v231 : BitVec 32 := Scalar.addi v229 v230
  let v232 : Index := Scalar.indexCast v231
  ![v232.toNat]
def k1_off18 (k1_t8 : Fin k1_t8_loop.trips) (c0_i32_126 : BitVec 32) : Fin 1 → Nat :=
  let c0_i32_117 : BitVec 32 := 0#32
  let c1_i32_119 : BitVec 32 := 1#32
  let arg14 : BitVec 32 := Scf.iv c0_i32_117 c1_i32_119 k1_t8
  let c2_i32_125 : BitVec 32 := 2#32
  let v179 : BitVec 32 := Scalar.muli arg14 c2_i32_125
  let v180 : BitVec 32 := Scalar.addi v179 c0_i32_126
  let c8192_i32_137 : BitVec 32 := 8192#32
  let v193 : BitVec 32 := Scalar.muli v180 c8192_i32_137
  ![v193.toNat]
def k1_off19 (i : grid1.Coords) (k1_t1 : Fin k1_t1_loop.trips) (k1_t8 : Fin k1_t8_loop.trips) (c0_i32_126 : BitVec 32) : Fin 2 → Nat :=
  let c0_i32_51 : BitVec 32 := 0#32
  let c1_i32_52 : BitVec 32 := 1#32
  let arg13 : BitVec 32 := Scf.iv c0_i32_51 c1_i32_52 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_117 : BitVec 32 := 0#32
  let c1_i32_119 : BitVec 32 := 1#32
  let arg14 : BitVec 32 := Scf.iv c0_i32_117 c1_i32_119 k1_t8
  let c2_i32_125 : BitVec 32 := 2#32
  let v179 : BitVec 32 := Scalar.muli arg14 c2_i32_125
  let v180 : BitVec 32 := Scalar.addi v179 c0_i32_126
  let c8192_i32_138 : BitVec 32 := 8192#32
  let v194 : BitVec 32 := Scalar.muli v180 c8192_i32_138
  let v195 : BitVec 32 := Scalar.addi v2 v194
  ![arg13.toNat, v195.toNat]
def k1_cond3 (k1_t8 : Fin k1_t8_loop.trips) : BitVec 1 :=
  let c0_i32_117 : BitVec 32 := 0#32
  let c1_i32_119 : BitVec 32 := 1#32
  let arg14 : BitVec 32 := Scf.iv c0_i32_117 c1_i32_119 k1_t8
  let c2_i32_139 : BitVec 32 := 2#32
  let v202 : BitVec 32 := Scalar.muli arg14 c2_i32_139
  let c1_i32_140 : BitVec 32 := 1#32
  let v203 : BitVec 32 := Scalar.addi v202 c1_i32_140
  let c7_i32_146 : BitVec 32 := 7#32
  let v212 : BitVec 1 := Scalar.cmpi .slt v203 c7_i32_146
  let v213 : BitVec 32 := Scalar.extui v212
  let c0_i32_147 : BitVec 32 := 0#32
  let v214 : BitVec 1 := Scalar.cmpi .ne v213 c0_i32_147
  v214

def k1_off20 (i : grid1.Coords) (k1_t1 : Fin k1_t1_loop.trips) (k1_t8 : Fin k1_t8_loop.trips) : Fin 2 → Nat :=
  let c0_i32_51 : BitVec 32 := 0#32
  let c1_i32_52 : BitVec 32 := 1#32
  let arg13 : BitVec 32 := Scf.iv c0_i32_51 c1_i32_52 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_117 : BitVec 32 := 0#32
  let c1_i32_119 : BitVec 32 := 1#32
  let arg14 : BitVec 32 := Scf.iv c0_i32_117 c1_i32_119 k1_t8
  let c2_i32_139 : BitVec 32 := 2#32
  let v202 : BitVec 32 := Scalar.muli arg14 c2_i32_139
  let c1_i32_140 : BitVec 32 := 1#32
  let v203 : BitVec 32 := Scalar.addi v202 c1_i32_140
  let c1_i32_155 : BitVec 32 := 1#32
  let v225 : BitVec 32 := Scalar.addi v203 c1_i32_155
  let c8192_i32_156 : BitVec 32 := 8192#32
  let v226 : BitVec 32 := Scalar.muli v225 c8192_i32_156
  let v227 : BitVec 32 := Scalar.addi v2 v226
  ![arg13.toNat, v227.toNat]
@[reducible] def k1_t10_loop : Scf.Loop 32 :=
  let c0_i32_149 : BitVec 32 := 0#32
  let c512_i32_150 : BitVec 32 := 512#32
  let v215 : BitVec 32 := Scalar.addi c0_i32_149 c512_i32_150
  let c1_i32_151 : BitVec 32 := 1#32
  ⟨c0_i32_149, v215, c1_i32_151⟩
def k1_off21 (k1_t10 : Fin k1_t10_loop.trips) : Fin 2 → Nat :=
  let c1_i32_155 : BitVec 32 := 1#32
  let v226 : Index := Scalar.indexCast c1_i32_155
  let c0_i32_149 : BitVec 32 := 0#32
  let c1_i32_151 : BitVec 32 := 1#32
  let arg15 : BitVec 32 := Scf.iv c0_i32_149 c1_i32_151 k1_t10
  let c16_i32 : BitVec 32 := 16#32
  let v225 : BitVec 32 := Scalar.muli arg15 c16_i32
  let v227 : Index := Scalar.indexCast v225
  ![1, v227.toNat]
def k1_off22 (k1_t8 : Fin k1_t8_loop.trips) (k1_t10 : Fin k1_t10_loop.trips) : Fin 1 → Nat :=
  let c0_i32_117 : BitVec 32 := 0#32
  let c1_i32_119 : BitVec 32 := 1#32
  let arg14 : BitVec 32 := Scf.iv c0_i32_117 c1_i32_119 k1_t8
  let c2_i32_139 : BitVec 32 := 2#32
  let v202 : BitVec 32 := Scalar.muli arg14 c2_i32_139
  let c1_i32_140 : BitVec 32 := 1#32
  let v203 : BitVec 32 := Scalar.addi v202 c1_i32_140
  let c8192_i32_156 : BitVec 32 := 8192#32
  let v229 : BitVec 32 := Scalar.muli v203 c8192_i32_156
  let c0_i32_149 : BitVec 32 := 0#32
  let c1_i32_151 : BitVec 32 := 1#32
  let arg15 : BitVec 32 := Scf.iv c0_i32_149 c1_i32_151 k1_t10
  let c16_i32_157 : BitVec 32 := 16#32
  let v230 : BitVec 32 := Scalar.muli arg15 c16_i32_157
  let v231 : BitVec 32 := Scalar.addi v229 v230
  let v232 : Index := Scalar.indexCast v231
  ![v232.toNat]
@[reducible] def k1_t11_loop : Scf.Loop 32 :=
  let c0_i32_122 : BitVec 32 := 0#32
  let c8_i32 : BitVec 32 := 8#32
  let v178 : BitVec 32 := Scalar.addi c0_i32_122 c8_i32
  let c1_i32_123 : BitVec 32 := 1#32
  ⟨c0_i32_122, v178, c1_i32_123⟩
def k1_off23 (i : grid1.Coords) (k1_t1 : Fin k1_t1_loop.trips) : Fin 2 → Nat :=
  let c0_i32_51 : BitVec 32 := 0#32
  let c1_i32_52 : BitVec 32 := 1#32
  let arg13 : BitVec 32 := Scf.iv c0_i32_51 c1_i32_52 k1_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![arg13.toNat, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2097152 : Shape := ⟨2, ![4, 2097152]⟩
abbrev S4x1048576 : Shape := ⟨2, ![4, 1048576]⟩
abbrev S4x1048576x3 : Shape := ⟨3, ![4, 1048576, 3]⟩
abbrev S3x32 : Shape := ⟨2, ![3, 32]⟩
abbrev S32 : Shape := ⟨1, ![32]⟩
abbrev S32x1 : Shape := ⟨2, ![32, 1]⟩
abbrev S_ : Shape := ⟨0, ![]⟩
abbrev S1x1048576x3 : Shape := ⟨3, ![1, 1048576, 3]⟩
abbrev S1048576x3 : Shape := ⟨2, ![1048576, 3]⟩
abbrev S1048576x32 : Shape := ⟨2, ![1048576, 32]⟩
abbrev S1x32 : Shape := ⟨2, ![1, 32]⟩
abbrev S1048576x1 : Shape := ⟨2, ![1048576, 1]⟩
abbrev S1048576 : Shape := ⟨1, ![1048576]⟩
abbrev S1x1048576 : Shape := ⟨2, ![1, 1048576]⟩
abbrev S1048576x2 : Shape := ⟨2, ![1048576, 2]⟩

abbrev nBuf : Space → Nat
  | .hbm => 281
  | .vmem => 0
  | .smem => 0
  | _ => 0

abbrev hbmTy0_0 (i : Nat) : BufTy := match i % 128 with
  | 0 => ⟨S4x2097152, .f32⟩
  | 1 => ⟨S4x1048576, .i32⟩
  | 2 => ⟨S4x1048576x3, .i32⟩
  | 3 => ⟨S4x1048576x3, .f32⟩
  | 4 => ⟨S3x32, .f32⟩
  | 5 => ⟨S32, .f32⟩
  | 6 => ⟨S32x1, .f32⟩
  | 7 => ⟨S_, .f32⟩
  | 8 => ⟨S4x2097152, .f32⟩
  | 9 => ⟨S1x1048576x3, .i32⟩
  | 10 => ⟨S1048576x3, .i32⟩
  | 11 => ⟨S1048576x3, .f32⟩
  | 12 => ⟨S_, .f32⟩
  | 13 => ⟨S1048576x3, .f32⟩
  | 14 => ⟨S1048576x3, .f32⟩
  | 15 => ⟨S_, .f32⟩
  | 16 => ⟨S1048576x3, .f32⟩
  | 17 => ⟨S1048576x3, .f32⟩
  | 18 => ⟨S_, .f32⟩
  | 19 => ⟨S1048576x3, .f32⟩
  | 20 => ⟨S1048576x3, .f32⟩
  | 21 => ⟨S_, .f32⟩
  | 22 => ⟨S1048576x3, .f32⟩
  | 23 => ⟨S1048576x3, .f32⟩
  | 24 => ⟨S1x1048576x3, .f32⟩
  | 25 => ⟨S1048576x3, .f32⟩
  | 26 => ⟨S_, .f32⟩
  | 27 => ⟨S1048576x3, .f32⟩
  | 28 => ⟨S1048576x3, .f32⟩
  | 29 => ⟨S_, .f32⟩
  | 30 => ⟨S1048576x3, .f32⟩
  | 31 => ⟨S1048576x3, .f32⟩
  | 32 => ⟨S_, .f32⟩
  | 33 => ⟨S1048576x3, .f32⟩
  | 34 => ⟨S1048576x3, .f32⟩
  | 35 => ⟨S1048576x3, .f32⟩
  | 36 => ⟨S1048576x32, .f32⟩
  | 37 => ⟨S1x32, .f32⟩
  | 38 => ⟨S1048576x32, .f32⟩
  | 39 => ⟨S1048576x32, .f32⟩
  | 40 => ⟨S_, .f32⟩
  | 41 => ⟨S1048576x32, .f32⟩
  | 42 => ⟨S1048576x32, .f32⟩
  | 43 => ⟨S1048576x1, .f32⟩
  | 44 => ⟨S_, .f32⟩
  | 45 => ⟨S1048576x1, .f32⟩
  | 46 => ⟨S1048576x1, .f32⟩
  | 47 => ⟨S1048576x1, .f32⟩
  | 48 => ⟨S1048576x1, .f32⟩
  | 49 => ⟨S1048576x1, .i1⟩
  | 50 => ⟨S1048576x1, .f32⟩
  | 51 => ⟨S1048576x1, .f32⟩
  | 52 => ⟨S1048576x1, .f32⟩
  | 53 => ⟨S1048576x1, .f32⟩
  | 54 => ⟨S1048576x1, .f32⟩
  | 55 => ⟨S1048576x1, .f32⟩
  | 56 => ⟨S1048576x1, .f32⟩
  | 57 => ⟨S1048576x1, .f32⟩
  | 58 => ⟨S1048576, .f32⟩
  | 59 => ⟨S1x1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S_, .i32⟩
  | 69 => ⟨S1048576, .i32⟩
  | 70 => ⟨S1048576, .i32⟩
  | 71 => ⟨S1048576x1, .i32⟩
  | 72 => ⟨S1048576x1, .i32⟩
  | 73 => ⟨S1048576x2, .i32⟩
  | 74 => ⟨S4x2097152, .f32⟩
  | 75 => ⟨S1x1048576x3, .i32⟩
  | 76 => ⟨S1048576x3, .i32⟩
  | 77 => ⟨S1048576x3, .f32⟩
  | 78 => ⟨S_, .f32⟩
  | 79 => ⟨S1048576x3, .f32⟩
  | 80 => ⟨S1048576x3, .f32⟩
  | 81 => ⟨S_, .f32⟩
  | 82 => ⟨S1048576x3, .f32⟩
  | 83 => ⟨S1048576x3, .f32⟩
  | 84 => ⟨S_, .f32⟩
  | 85 => ⟨S1048576x3, .f32⟩
  | 86 => ⟨S1048576x3, .f32⟩
  | 87 => ⟨S_, .f32⟩
  | 88 => ⟨S1048576x3, .f32⟩
  | 89 => ⟨S1048576x3, .f32⟩
  | 90 => ⟨S1x1048576x3, .f32⟩
  | 91 => ⟨S1048576x3, .f32⟩
  | 92 => ⟨S_, .f32⟩
  | 93 => ⟨S1048576x3, .f32⟩
  | 94 => ⟨S1048576x3, .f32⟩
  | 95 => ⟨S_, .f32⟩
  | 96 => ⟨S1048576x3, .f32⟩
  | 97 => ⟨S1048576x3, .f32⟩
  | 98 => ⟨S_, .f32⟩
  | 99 => ⟨S1048576x3, .f32⟩
  | 100 => ⟨S1048576x3, .f32⟩
  | 101 => ⟨S1048576x3, .f32⟩
  | 102 => ⟨S1048576x32, .f32⟩
  | 103 => ⟨S1x32, .f32⟩
  | 104 => ⟨S1048576x32, .f32⟩
  | 105 => ⟨S1048576x32, .f32⟩
  | 106 => ⟨S_, .f32⟩
  | 107 => ⟨S1048576x32, .f32⟩
  | 108 => ⟨S1048576x32, .f32⟩
  | 109 => ⟨S1048576x1, .f32⟩
  | 110 => ⟨S_, .f32⟩
  | 111 => ⟨S1048576x1, .f32⟩
  | 112 => ⟨S1048576x1, .f32⟩
  | 113 => ⟨S1048576x1, .f32⟩
  | 114 => ⟨S1048576x1, .f32⟩
  | 115 => ⟨S1048576x1, .i1⟩
  | 116 => ⟨S1048576x1, .f32⟩
  | 117 => ⟨S1048576x1, .f32⟩
  | 118 => ⟨S1048576x1, .f32⟩
  | 119 => ⟨S1048576x1, .f32⟩
  | 120 => ⟨S1048576x1, .f32⟩
  | 121 => ⟨S1048576x1, .f32⟩
  | 122 => ⟨S1048576x1, .f32⟩
  | 123 => ⟨S1048576x1, .f32⟩
  | 124 => ⟨S1048576, .f32⟩
  | 125 => ⟨S1x1048576, .i32⟩
  | 126 => ⟨S1048576, .i32⟩
  | 127 => ⟨S_, .i32⟩
  | _ => ⟨S4x2097152, .f32⟩

abbrev hbmTy0_1 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i32⟩
  | 5 => ⟨S1048576, .i32⟩
  | 6 => ⟨S_, .i32⟩
  | 7 => ⟨S1048576, .i32⟩
  | 8 => ⟨S1048576, .i32⟩
  | 9 => ⟨S1048576x1, .i32⟩
  | 10 => ⟨S1048576x1, .i32⟩
  | 11 => ⟨S1048576x2, .i32⟩
  | 12 => ⟨S4x2097152, .f32⟩
  | 13 => ⟨S1x1048576x3, .i32⟩
  | 14 => ⟨S1048576x3, .i32⟩
  | 15 => ⟨S1048576x3, .f32⟩
  | 16 => ⟨S_, .f32⟩
  | 17 => ⟨S1048576x3, .f32⟩
  | 18 => ⟨S1048576x3, .f32⟩
  | 19 => ⟨S_, .f32⟩
  | 20 => ⟨S1048576x3, .f32⟩
  | 21 => ⟨S1048576x3, .f32⟩
  | 22 => ⟨S_, .f32⟩
  | 23 => ⟨S1048576x3, .f32⟩
  | 24 => ⟨S1048576x3, .f32⟩
  | 25 => ⟨S_, .f32⟩
  | 26 => ⟨S1048576x3, .f32⟩
  | 27 => ⟨S1048576x3, .f32⟩
  | 28 => ⟨S1x1048576x3, .f32⟩
  | 29 => ⟨S1048576x3, .f32⟩
  | 30 => ⟨S_, .f32⟩
  | 31 => ⟨S1048576x3, .f32⟩
  | 32 => ⟨S1048576x3, .f32⟩
  | 33 => ⟨S_, .f32⟩
  | 34 => ⟨S1048576x3, .f32⟩
  | 35 => ⟨S1048576x3, .f32⟩
  | 36 => ⟨S_, .f32⟩
  | 37 => ⟨S1048576x3, .f32⟩
  | 38 => ⟨S1048576x3, .f32⟩
  | 39 => ⟨S1048576x3, .f32⟩
  | 40 => ⟨S1048576x32, .f32⟩
  | 41 => ⟨S1x32, .f32⟩
  | 42 => ⟨S1048576x32, .f32⟩
  | 43 => ⟨S1048576x32, .f32⟩
  | 44 => ⟨S_, .f32⟩
  | 45 => ⟨S1048576x32, .f32⟩
  | 46 => ⟨S1048576x32, .f32⟩
  | 47 => ⟨S1048576x1, .f32⟩
  | 48 => ⟨S_, .f32⟩
  | 49 => ⟨S1048576x1, .f32⟩
  | 50 => ⟨S1048576x1, .f32⟩
  | 51 => ⟨S1048576x1, .f32⟩
  | 52 => ⟨S1048576x1, .f32⟩
  | 53 => ⟨S1048576x1, .i1⟩
  | 54 => ⟨S1048576x1, .f32⟩
  | 55 => ⟨S1048576x1, .f32⟩
  | 56 => ⟨S1048576x1, .f32⟩
  | 57 => ⟨S1048576x1, .f32⟩
  | 58 => ⟨S1048576x1, .f32⟩
  | 59 => ⟨S1048576x1, .f32⟩
  | 60 => ⟨S1048576x1, .f32⟩
  | 61 => ⟨S1048576x1, .f32⟩
  | 62 => ⟨S1048576, .f32⟩
  | 63 => ⟨S1x1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S1048576x1, .i32⟩
  | 76 => ⟨S1048576x1, .i32⟩
  | 77 => ⟨S1048576x2, .i32⟩
  | 78 => ⟨S4x2097152, .f32⟩
  | 79 => ⟨S1x1048576x3, .i32⟩
  | 80 => ⟨S1048576x3, .i32⟩
  | 81 => ⟨S1048576x3, .f32⟩
  | 82 => ⟨S_, .f32⟩
  | 83 => ⟨S1048576x3, .f32⟩
  | 84 => ⟨S1048576x3, .f32⟩
  | 85 => ⟨S_, .f32⟩
  | 86 => ⟨S1048576x3, .f32⟩
  | 87 => ⟨S1048576x3, .f32⟩
  | 88 => ⟨S_, .f32⟩
  | 89 => ⟨S1048576x3, .f32⟩
  | 90 => ⟨S1048576x3, .f32⟩
  | 91 => ⟨S_, .f32⟩
  | 92 => ⟨S1048576x3, .f32⟩
  | 93 => ⟨S1048576x3, .f32⟩
  | 94 => ⟨S1x1048576x3, .f32⟩
  | 95 => ⟨S1048576x3, .f32⟩
  | 96 => ⟨S_, .f32⟩
  | 97 => ⟨S1048576x3, .f32⟩
  | 98 => ⟨S1048576x3, .f32⟩
  | 99 => ⟨S_, .f32⟩
  | 100 => ⟨S1048576x3, .f32⟩
  | 101 => ⟨S1048576x3, .f32⟩
  | 102 => ⟨S_, .f32⟩
  | 103 => ⟨S1048576x3, .f32⟩
  | 104 => ⟨S1048576x3, .f32⟩
  | 105 => ⟨S1048576x3, .f32⟩
  | 106 => ⟨S1048576x32, .f32⟩
  | 107 => ⟨S1x32, .f32⟩
  | 108 => ⟨S1048576x32, .f32⟩
  | 109 => ⟨S1048576x32, .f32⟩
  | 110 => ⟨S_, .f32⟩
  | 111 => ⟨S1048576x32, .f32⟩
  | 112 => ⟨S1048576x32, .f32⟩
  | 113 => ⟨S1048576x1, .f32⟩
  | 114 => ⟨S_, .f32⟩
  | 115 => ⟨S1048576x1, .f32⟩
  | 116 => ⟨S1048576x1, .f32⟩
  | 117 => ⟨S1048576x1, .f32⟩
  | 118 => ⟨S1048576x1, .f32⟩
  | 119 => ⟨S1048576x1, .i1⟩
  | 120 => ⟨S1048576x1, .f32⟩
  | 121 => ⟨S1048576x1, .f32⟩
  | 122 => ⟨S1048576x1, .f32⟩
  | 123 => ⟨S1048576x1, .f32⟩
  | 124 => ⟨S1048576x1, .f32⟩
  | 125 => ⟨S1048576x1, .f32⟩
  | 126 => ⟨S1048576x1, .f32⟩
  | 127 => ⟨S1048576x1, .f32⟩
  | _ => ⟨S4x2097152, .f32⟩

abbrev hbmTy0_2 (i : Nat) : BufTy := match i % 128 with
  | 0 => ⟨S1048576, .f32⟩
  | 1 => ⟨S1x1048576, .i32⟩
  | 2 => ⟨S1048576, .i32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i32⟩
  | 13 => ⟨S1048576x1, .i32⟩
  | 14 => ⟨S1048576x1, .i32⟩
  | 15 => ⟨S1048576x2, .i32⟩
  | 16 => ⟨S4x2097152, .f32⟩
  | 17 => ⟨S_, .f32⟩
  | 18 => ⟨S4x2097152, .f32⟩
  | 19 => ⟨S4x2097152, .i1⟩
  | 20 => ⟨S_, .f32⟩
  | 21 => ⟨S4x2097152, .f32⟩
  | 22 => ⟨S4x2097152, .f32⟩
  | 23 => ⟨S4x2097152, .f32⟩
  | 24 => ⟨S4x2097152, .f32⟩
  | _ => ⟨S4x2097152, .f32⟩

abbrev hbmTy (i : Nat) : BufTy := match i / 128 with
  | 0 => hbmTy0_0 i
  | 1 => hbmTy0_1 i
  | 2 => hbmTy0_2 i
  | _ => ⟨S4x2097152, .f32⟩

abbrev bufTy : (tb : Table) → Fin (tcTables nBuf tb) → BufTy
  | .hbm, ⟨i, _⟩ => hbmTy i
  | _, _ => ⟨S4x2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_cst_16 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_c_18 : Ref sig .tc := ⟨.hbm, 127, rfl⟩
abbrev main_v74 : Ref sig .tc := ⟨.hbm, 128, rfl⟩
abbrev main_v75 : Ref sig .tc := ⟨.hbm, 129, rfl⟩
abbrev main_c_19 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_20 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_21 : Ref sig .tc := ⟨.hbm, 144, rfl⟩
abbrev main_v88 : Ref sig .tc := ⟨.hbm, 145, rfl⟩
abbrev main_v89 : Ref sig .tc := ⟨.hbm, 146, rfl⟩
abbrev main_cst_22 : Ref sig .tc := ⟨.hbm, 147, rfl⟩
abbrev main_v90 : Ref sig .tc := ⟨.hbm, 148, rfl⟩
abbrev main_v91 : Ref sig .tc := ⟨.hbm, 149, rfl⟩
abbrev main_cst_23 : Ref sig .tc := ⟨.hbm, 150, rfl⟩
abbrev main_v92 : Ref sig .tc := ⟨.hbm, 151, rfl⟩
abbrev main_v93 : Ref sig .tc := ⟨.hbm, 152, rfl⟩
abbrev main_cst_24 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_25 : Ref sig .tc := ⟨.hbm, 158, rfl⟩
abbrev main_v98 : Ref sig .tc := ⟨.hbm, 159, rfl⟩
abbrev main_v99 : Ref sig .tc := ⟨.hbm, 160, rfl⟩
abbrev main_cst_26 : Ref sig .tc := ⟨.hbm, 161, rfl⟩
abbrev main_v100 : Ref sig .tc := ⟨.hbm, 162, rfl⟩
abbrev main_v101 : Ref sig .tc := ⟨.hbm, 163, rfl⟩
abbrev main_cst_27 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_28 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_c_29 : Ref sig .tc := ⟨.hbm, 193, rfl⟩
abbrev main_v116 : Ref sig .tc := ⟨.hbm, 194, rfl⟩
abbrev main_v117 : Ref sig .tc := ⟨.hbm, 195, rfl⟩
abbrev main_c_30 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_c_31 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_cst_32 : Ref sig .tc := ⟨.hbm, 210, rfl⟩
abbrev main_v130 : Ref sig .tc := ⟨.hbm, 211, rfl⟩
abbrev main_v131 : Ref sig .tc := ⟨.hbm, 212, rfl⟩
abbrev main_cst_33 : Ref sig .tc := ⟨.hbm, 213, rfl⟩
abbrev main_v132 : Ref sig .tc := ⟨.hbm, 214, rfl⟩
abbrev main_v133 : Ref sig .tc := ⟨.hbm, 215, rfl⟩
abbrev main_cst_34 : Ref sig .tc := ⟨.hbm, 216, rfl⟩
abbrev main_v134 : Ref sig .tc := ⟨.hbm, 217, rfl⟩
abbrev main_v135 : Ref sig .tc := ⟨.hbm, 218, rfl⟩
abbrev main_cst_35 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_36 : Ref sig .tc := ⟨.hbm, 224, rfl⟩
abbrev main_v140 : Ref sig .tc := ⟨.hbm, 225, rfl⟩
abbrev main_v141 : Ref sig .tc := ⟨.hbm, 226, rfl⟩
abbrev main_cst_37 : Ref sig .tc := ⟨.hbm, 227, rfl⟩
abbrev main_v142 : Ref sig .tc := ⟨.hbm, 228, rfl⟩
abbrev main_v143 : Ref sig .tc := ⟨.hbm, 229, rfl⟩
abbrev main_cst_38 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_39 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_call3_cst : Ref sig .tc := ⟨.hbm, 242, rfl⟩
abbrev main_call3_v0 : Ref sig .tc := ⟨.hbm, 243, rfl⟩
abbrev main_call3_v1 : Ref sig .tc := ⟨.hbm, 244, rfl⟩
abbrev main_call3_v2 : Ref sig .tc := ⟨.hbm, 245, rfl⟩
abbrev main_call3_v3 : Ref sig .tc := ⟨.hbm, 246, rfl⟩
abbrev main_call3_v4 : Ref sig .tc := ⟨.hbm, 247, rfl⟩
abbrev main_call3_v5 : Ref sig .tc := ⟨.hbm, 248, rfl⟩
abbrev main_call3_v6 : Ref sig .tc := ⟨.hbm, 249, rfl⟩
abbrev main_call3_v7 : Ref sig .tc := ⟨.hbm, 250, rfl⟩
abbrev main_call3_v8 : Ref sig .tc := ⟨.hbm, 251, rfl⟩
abbrev main_call3_v9 : Ref sig .tc := ⟨.hbm, 252, rfl⟩
abbrev main_call3_v10 : Ref sig .tc := ⟨.hbm, 253, rfl⟩
abbrev main_call3_v11 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_c_40 : Ref sig .tc := ⟨.hbm, 259, rfl⟩
abbrev main_v158 : Ref sig .tc := ⟨.hbm, 260, rfl⟩
abbrev main_v159 : Ref sig .tc := ⟨.hbm, 261, rfl⟩
abbrev main_c_41 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_c_42 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_cst_43 : Ref sig .tc := ⟨.hbm, 273, rfl⟩
abbrev main_v169 : Ref sig .tc := ⟨.hbm, 274, rfl⟩
abbrev main_v170 : Ref sig .tc := ⟨.hbm, 275, rfl⟩
abbrev main_cst_44 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩

abbrev nD : Nat := 1
abbrev τ : Topo := Topo.v7x

variable {F : FTy → Type} [FloatOps F]
-- ==== Proof.Base.lean ====
/-
  What every module of this proof shares: the program as the launch theorem for SparseCore programs sees it, the
  resource algebra (the handshakes' rounds, the TensorCore pipeline's rounds, the transfers' counters), and the
  names of the arrays.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionsLoop
public import Idealize.ShloMosaic.Lib.Pipeline.FrameBody
public import Idealize.ShloMosaic.Lib.Claim
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Dens

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds

variable {F : FTy → Type}

/-- The labels under the SparseCore layer: the one TensorCore pipeline. -/
abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, beside the TensorCore pipeline's rounds and the transfers' counters. -/
abbrev UH : Type := URounds (GSem nD τ sig) ℕ
abbrev UT : Type := URounds (GSem nD τ sig) Unit
abbrev UU : Type := UH × (UT × Counters)

local notation "𝕄" => MT nD τ sig (HIx 1) (Elt F) ℕ UU ℕ

abbrev EH : Emb UH (MT nD τ sig (HIx 1) (Elt F) ℕ UU ℕ) := embL

def EP : Emb UT (MT nD τ sig (HIx 1) (Elt F) ℕ UU ℕ) :=
  ((Emb.inl : Emb UT (UT × Counters)).trans (Emb.inr : Emb (UT × Counters) UU)).trans
    (uEmb (nD := nD) (sig := sig) (Ix := HIx 1) (Val := Elt F) (Name := ℕ) (U := UU) (Lvl := ℕ)).toEmb

instance EP_landsIn : (EP : Emb UT 𝕄).LandsIn (upEmb : UEmb _ 𝕄) := by unfold EP; infer_instance

end Cert.Proof.Dens

end
-- ==== Proof.Views.lean ====
/-
  The vector subcore's side: the thread of one tile, rules for one operation in the form "pre ⊢ wp (operation) post",
  how such rules follow one another, and where an element of a squeezed row of a rank-two memref lies.
-/
module

public import proofs.«01_k».proof.Proof.Base
public import Idealize.ShloMosaic.Lib.Batch
public import Idealize.ShloMosaic.Lib.Transfers
public import Idealize.ShloMosaic.Lib.ValueIdxCore
public import Idealize.ShloMosaic.Lib.WritesUnit

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-- The vector subcore of a pair of coordinates. -/
abbrev th (d : Dev nD) (i : grid1.Coords) : Thread nD τ := V d ((i 0).castLE hcore1) ((i 1).castLE hsub1)

/-- The rule of one program step there. -/
abbrev WP (d : Dev nD) (i : grid1.Coords) {α : Type} (p : Prog (TpuEff nD τ sig (Elt F) Λ₀ (th d i).2) α) (Q : α → sProp 𝕄) : sProp 𝕄 :=
  wp frame (wpE (defs₀ (F := F)) 𝒱₀ (th d i) none) Set.univ p Q

variable (d : Dev nD) (i : grid1.Coords)

/-- A rule in front of a continuation. -/
theorem wseq {α β : Type} {p : Prog (TpuEff nD τ sig (Elt F) Λ₀ (th d i).2) α} {P : sProp 𝕄} {R : α → sProp 𝕄} (h : P ⊢ WP d i p R)
    {k : α → Prog (TpuEff nD τ sig (Elt F) Λ₀ (th d i).2) β} {Q : β → sProp 𝕄} :
    P ⊢ iprop((∀ r, R r -∗ WP d i (k r) Q) -∗ WP d i (p >>= k) Q) := by
  unfold WP at *
  rw [wp_bind]
  iintro HP HK
  iapply (wp_wand_r frame (wpE (defs₀ (F := F)) 𝒱₀ (th d i) none) Set.univ)
  isplitl [HP]
  · iapply h; iexact HP
  · iexact HK

/-- A rule at the end of a program. -/
theorem wend {α : Type} {p : Prog (TpuEff nD τ sig (Elt F) Λ₀ (th d i).2) α} {P : sProp 𝕄} {R : α → sProp 𝕄} (h : P ⊢ WP d i p R)
    {Q : α → sProp 𝕄} :
    P ⊢ iprop((∀ r, R r -∗ Q r) -∗ WP d i p Q) := by
  unfold WP at *
  iintro HP HK
  iapply (wp_wand_r frame (wpE (defs₀ (F := F)) 𝒱₀ (th d i) none) Set.univ)
  isplitl [HP]
  · iapply h; iexact HP
  · iexact HK

/-- Returning a value. -/
theorem wret {α : Type} {x : α} {Q : α → sProp 𝕄} : Q x ⊢ WP d i (pure x) Q := by
  show Q x ⊢ wp frame (wpE (defs₀ (F := F)) 𝒱₀ (th d i) none) Set.univ (.ret x) Q
  rw [wp_ret]
  iintro H; imodintro; iexact H

/-- A rule of one operation with its continuation, at the operation alone. -/
theorem wlift {β : Type} {e : TpuEff nD τ sig (Elt F) Λ₀ (th d i).2 β} {P : sProp 𝕄} {R : sProp 𝕄} {r : β}
    (h : ∀ (k : β → Prog (TpuEff nD τ sig (Elt F) Λ₀ (th d i).2) β) (Q : β → sProp 𝕄), P ⊢ iprop((R -∗ WP d i (k r) Q) -∗ WP d i (.op e k) Q)) :
    P ⊢ WP d i (Prog.lift e) (fun x => iprop(⌜x = r⌝ ∗ R)) := by
  iintro HP
  iapply (h (fun x => .ret x) _) $$ HP
  iintro HR
  iapply (wret d i)
  isplitr
  · ipureintro; rfl
  · iexact HR

/-- A counted loop by an invariant. -/
theorem wfor {w : ℕ} (L : Scf.Loop w) (hok : L.OK) (body : Fin L.trips → Unit → Prog (TpuEff nD τ sig (Elt F) Λ₀ (th d i).2) Unit)
    (I : ℕ → sProp 𝕄) (h : ∀ k : Fin L.trips, I k.val ⊢ WP d i (body k ⟨⟩) (fun _ => I (k.val + 1))) :
    I 0 ⊢ WP d i (Scf.Loop.for L hok ⟨⟩ body) (fun _ => I L.trips) := by
  iintro HI
  iapply (Scf.wp_for frame (wpE (defs₀ (F := F)) 𝒱₀ (th d i) none) Set.univ L.lb L.ub L.st hok ⟨⟩ body (fun n _ => I n) (fun k _ => h k))
  isplitl [HI]
  · iexact HI
  · iintro %_ H; iexact H

/-! ## Where a squeezed row lies -/

omit [FloatOps F] in
theorem reshape_row {n : ℕ} (h : (⟨1, ![n]⟩ : Shape).numel = (⟨2, ![1, n]⟩ : Shape).numel) (x : (⟨1, ![n]⟩ : Shape).Idx) :
    Shape.reshapeEquiv h x = ix2 (0 : Fin 1) (x 0) := by
  refine (Shape.reshapeEquiv_cons_one (d := ![n]) h x).trans (funext fun t => ?_)
  match t with
  | ⟨0, _⟩ => rfl
  | ⟨1, _⟩ => rfl

/-- Element `x` of row `off` of a rank-two memref of shape `[1, n]` squeezed to `[n]`. -/
theorem row_emb {κ : Kind} {sp : Space} {e : EltTy} {a b n : ℕ} (M : Memref sig κ sp ⟨2, ![a, b]⟩ e) (off : Fin 2 → ℕ)
    (inb : ∀ t, off t + (⟨2, ![1, n]⟩ : Shape).size t ≤ (⟨2, ![a, b]⟩ : Shape).size t) (hf) (hs : (⟨2, ![1, n]⟩ : Shape).Squeezes ⟨1, ![n]⟩)
    (x : (⟨1, ![n]⟩ : Shape).Idx) :
    ((M.slice (Rect.unit (s := ⟨2, ![a, b]⟩) off (⟨2, ![1, n]⟩ : Shape).size inb) hf).squeeze ⟨1, ![n]⟩ hs).view.emb x
      = M.view.emb (ix2 ⟨off 0, by have := inb 0; simp at this; omega⟩ ⟨off 1 + (x 0).val, by have := inb 1; have := (x 0).isLt; simp at *; omega⟩) := by
  show M.view.emb ((Rect.unit (s := ⟨2, ![a, b]⟩) off (⟨2, ![1, n]⟩ : Shape).size inb).emb (Shape.reshapeEquiv hs.numel_eq x)) = _
  rw [reshape_row]
  refine congrArg M.view.emb (funext fun t => Fin.ext ?_)
  match t with
  | ⟨0, _⟩ => show off 0 + 1 * 0 = off 0; omega
  | ⟨1, _⟩ => show off 1 + 1 * (x 0).val = off 1 + (x 0).val; omega

end Cert.Proof.Dens

end
-- ==== Proof.Slots.lean ====
/-
  The copies of one tile: the issue and the wait of a counted batch in the form "pre ⊢ wp (operation) post", and from
  them the four operations on a slot of the ring (an index row and a density row on one semaphore).
-/
module

public import proofs.«01_k».proof.Proof.Views

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

/-- The transfers' counters. -/
abbrev EC : UEmb Counters 𝕄 := countersEmb

/-- What the tile owes, with waits of its own recorded beyond `W`. -/
def ow : sProp 𝕄 := iprop(∃ W', ⌜∀ p ∈ W', p ∈ W ∨ p.2 = none⌝ ∗ owes (th d i) O W')

/-- A batch of the tile's on the DMA semaphore `sm`: every transfer of credit `N`. -/
abbrev Bt {n : ℕ} (sm : DmaSem sig) (N : ℕ) (D : Fin n → sProp 𝕄) (j u : ℕ) : sProp 𝕄 := Batch EC (th d i) (.dma sm) none N D j u

/-- An array held at some share. -/
def rd (ℓ : Loc nD τ sig) (f : Buf (Elt F) ℓ) : sProp 𝕄 := iprop(∃ q, ℓ ↦{q} f)

/-- Part of a share of an array, restricted to a set, beside the rest of the array. -/
theorem rd_lend (ℓ : Loc nD τ sig) (f : Buf (Elt F) ℓ) (S : Finset (Idx ℓ)) :
    (rd ℓ f : sProp 𝕄) ⊢ iprop((∃ q, ℓ ↦[S]{q} f) ∗ rd ℓ f) := by
  unfold rd
  iintro ⟨%q, H⟩
  ihave H2 := (pointsTo_share (PosShare.mem_left_op_right q)).1 $$ H
  icases H2 with ⟨Hl, Hr⟩
  isplitl [Hl]
  · iexists _
    ihave H3 := (pointsTo_split_subset (Finset.subset_univ S)).1 $$ Hl
    icases H3 with ⟨H, -⟩
    iexact H
  · iexists _; iexact Hr

omit [FloatOps F] in
/-- What is written through a view is, on the view's elements, any contents that read the same. -/
theorem write_on {κ : Kind} {sp : Space} {s : Shape} {e : EltTy} (v : View sig κ sp s e) (f g : v.ty.Contents (Elt F)) (w : s.Idx → Elt F e)
    (h : v.read (Elt F) g = w) : ∀ y ∈ v.set, v.write (Elt F) f w Finset.univ y = g y := by
  intro y hy
  obtain ⟨x, -, rfl⟩ := Finset.mem_map.mp hy
  rw [View.write_emb_of_mem f w (Finset.mem_univ x), ← h]
  simp [View.read]

/-- The issue of a batch's next transfer, from a source held at the share `q`. -/
theorem startQ {sp sp' : Space} {s : Shape} {e : EltTy} {src : Memref sig (th d i).2.kind sp s e} {dst : Memref sig (th d i).2.kind sp' s e} {sm : DmaSem sig}
    {h1 : src.view.WordExact} {h2 : dst.view.WordExact} {h3 : DmaTarget.Typed sp (.dma sm) (.here (nD := nD) (p := (th d i).2) dst)}
    {n : ℕ} {D : Fin n → sProp 𝕄} {j : ℕ} (hj : j < n) {N : ℕ} (hN : dst.view.amount (.dma sm) = N) (q : PosShare TreeShare)
    {fs : Buf (Elt F) (src.view.loc (th d i))} {g : Buf (Elt F) (dst.view.loc (th d i))}
    (hg : dst.view.read (Elt F) g = src.view.read (Elt F) fs)
    (hD : iprop((dst.view.loc (th d i) ↦[dst.view.set]{fullShare} g) ∗ (src.view.loc (th d i) ↦[src.view.set]{q} fs)) ⊢ D ⟨j, hj⟩) :
    iprop((src.view.loc (th d i) ↦[src.view.set]{q} fs) ∗ (∃ fd, dst.view.loc (th d i) ↦[dst.view.set]{fullShare} fd) ∗ Bt d i sm N D j 0)
      ⊢ WP d i (Prog.lift (.enqueueDma src (.here dst) (.dma sm) h1 h2 h3)) (fun _ => Bt d i sm N D (j + 1) 0) := by
  iintro ⟨Hs, ⟨%fd, Hd⟩, HB⟩
  iapply (wp_dmaBatch (c := th d i) (𝒱 := 𝒱₀) (bd := none) (defs := defs₀ (F := F)) EC (src := src) (dst := dst) (via := .same) none N hN subset_rfl hj (Nat.zero_le _)
    (D := D) (fs := fs) (fd := fd) (q := q) (k := fun x => .ret x) ?_) $$ [Hs Hd HB]
  · iintro ⟨H, Hs⟩
    iapply hD
    isplitl [H]
    · iapply (Entails.of_eq (pointsTo_congr (write_on dst.view fd g _ hg))); iexact H
    · iexact Hs
  · isplitl [Hs]; · iexact Hs
    isplitl [Hd]; · iexact Hd
    iexact HB
  · iintro H
    iapply (wret d i); iexact H

/-- The issue of a batch's next transfer, the source's share forgotten. -/
theorem startB {sp sp' : Space} {s : Shape} {e : EltTy} {src : Memref sig (th d i).2.kind sp s e} {dst : Memref sig (th d i).2.kind sp' s e} {sm : DmaSem sig}
    {h1 : src.view.WordExact} {h2 : dst.view.WordExact} {h3 : DmaTarget.Typed sp (.dma sm) (.here (nD := nD) (p := (th d i).2) dst)}
    {n : ℕ} {D : Fin n → sProp 𝕄} {j : ℕ} (hj : j < n) {N : ℕ} (hN : dst.view.amount (.dma sm) = N)
    {fs : Buf (Elt F) (src.view.loc (th d i))} {g : Buf (Elt F) (dst.view.loc (th d i))}
    (hg : dst.view.read (Elt F) g = src.view.read (Elt F) fs)
    (hD : iprop((dst.view.loc (th d i) ↦[dst.view.set]{fullShare} g) ∗ (∃ q, src.view.loc (th d i) ↦[src.view.set]{q} fs)) ⊢ D ⟨j, hj⟩) :
    iprop((∃ q, src.view.loc (th d i) ↦[src.view.set]{q} fs) ∗ (∃ fd, dst.view.loc (th d i) ↦[dst.view.set]{fullShare} fd) ∗ Bt d i sm N D j 0)
      ⊢ WP d i (Prog.lift (.enqueueDma src (.here dst) (.dma sm) h1 h2 h3)) (fun _ => Bt d i sm N D (j + 1) 0) := by
  iintro ⟨⟨%q, Hs⟩, Hd, HB⟩
  iapply (startQ d i hj hN q hg (D := D) ?_) $$ [Hs Hd HB]
  · iintro ⟨H, Hs⟩
    iapply hD
    isplitl [H]; · iexact H
    iexists q; iexact Hs
  · isplitl [Hs]; · iexact Hs
    isplitl [Hd]; · iexact Hd
    iexact HB

/-- A wait that does not drain its batch. -/
theorem waitB {sp sp' : Space} {s s' : Shape} {e e' : EltTy} {src : Memref sig (th d i).2.kind sp s e} {dst : Memref sig (th d i).2.kind sp' s' e'} {sm : DmaSem sig}
    {h1 : src.view.WordExact} {h2 : dst.view.WordExact}
    {n : ℕ} {D : Fin n → sProp 𝕄} {u N : ℕ} (hN : dst.view.dmaCredit = N) (hu : u + N < N * n) :
    iprop(Bt d i sm N D n u ∗ ow d i O W ∗ MayWaits (th d i) none O)
      ⊢ WP d i (Prog.lift (.waitDma2 sm src dst h1 h2)) (fun _ => iprop(Bt d i sm N D n (u + N) ∗ ow d i O W)) := by
  unfold ow
  iintro ⟨HB, ⟨%W', %hW, HO⟩, HM⟩
  ihave HM' := (MayWaits.elim (SemLoc.dma sm)) $$ HM
  iapply (wp_waitBatchO (c := th d i) (𝒱 := 𝒱₀) (bd := none) (defs := defs₀ (F := F)) EC (srcw := src) (dstw := dst) none hN hu
    (D := D) (k := fun x => .ret x)) $$ [HB HO HM']
  · isplitl [HB]; · iexact HB
    isplitl [HO]; · iexact HO
    iexact HM'
  · iintro ⟨HB, HO⟩
    iapply (wret d i)
    isplitl [HB]; · iexact HB
    iexists (insert (SemLoc.dma sm, none) W')
    isplitr
    · ipureintro
      intro p hp
      rcases Finset.mem_insert.mp hp with hp | hp
      · exact .inr (by rw [hp])
      · exact hW p hp
    · iexact HO

/-- The wait that drains its batch. -/
theorem waitBL {sp sp' : Space} {s s' : Shape} {e e' : EltTy} {src : Memref sig (th d i).2.kind sp s e} {dst : Memref sig (th d i).2.kind sp' s' e'} {sm : DmaSem sig}
    {h1 : src.view.WordExact} {h2 : dst.view.WordExact}
    {n : ℕ} {D : Fin n → sProp 𝕄} {u N : ℕ} (hN : dst.view.dmaCredit = N) (hN0 : 0 < N) (hu : u + N = N * n) :
    iprop(Bt d i sm N D n u ∗ ow d i O W ∗ MayWaits (th d i) none O)
      ⊢ WP d i (Prog.lift (.waitDma2 sm src dst h1 h2)) (fun _ => iprop(bigSep Finset.univ D ∗ semVal (th d i, SemLoc.dma sm) 0 ∗ ow d i O W)) := by
  unfold ow
  iintro ⟨HB, ⟨%W', %hW, HO⟩, HM⟩
  ihave HM' := (MayWaits.elim (SemLoc.dma sm)) $$ HM
  iapply (wp_waitBatchLastO (c := th d i) (𝒱 := 𝒱₀) (bd := none) (defs := defs₀ (F := F)) EC (srcw := src) (dstw := dst) none hN hN0 hu
    (D := D) (k := fun x => .ret x)) $$ [HB HO HM']
  · isplitl [HB]; · iexact HB
    isplitl [HO]; · iexact HO
    iexact HM'
  · iintro ⟨HB, Hv, HO⟩
    iapply (wret d i)
    isplitl [HB]; · iexact HB
    isplitl [Hv]; · iexact Hv
    iexists (insert (SemLoc.dma sm, none) W')
    isplitr
    · ipureintro
      intro p hp
      rcases Finset.mem_insert.mp hp with hp | hp
      · exact .inr (by rw [hp])
      · exact hW p hp
    · iexact HO

/-! ## The slots of the ring -/

/-- Slot `b` is one of the four: of the semaphores, -/
abbrev InS (b : ℕ) : Prop := ∀ a, (![b] : Fin 1 → ℕ) a + S1.size a ≤ S4.size a

/-- and of the rows. -/
abbrev InR (b : ℕ) : Prop := ∀ a, (![b, 0] : Fin 2 → ℕ) a + S1x4096.size a ≤ S4x4096.size a

/-- The semaphore of slot `b`. -/
abbrev semOf (b : ℕ) (h : InS b) : DmaSem sig :=
  ((cc1_scratch4.slice (Rect.unit (s := S4) ![b] S1.size h)).squeeze S_ squeezes_S1_S_).sem

/-- Row `b` of the index ring, -/
abbrev rowI (b : ℕ) (h : InR b) : Memref sig (th d i).2.kind .vmem S4096 .i32 :=
  ((Memref.whole cc1_scratch1 : Memref sig .scVector .vmem S4x4096 .i32).slice (Rect.unit (s := S4x4096) ![b, 0] S1x4096.size h) (fun _ => rfl)).squeeze S4096 squeezes_S1x4096_S4096

/-- and of the density ring. -/
abbrev rowD (b : ℕ) (h : InR b) : Memref sig (th d i).2.kind .vmem S4096 .f32 :=
  ((Memref.whole cc1_scratch2 : Memref sig .scVector .vmem S4x4096 .f32).slice (Rect.unit (s := S4x4096) ![b, 0] S1x4096.size h) (fun _ => rfl)).squeeze S4096 squeezes_S1x4096_S4096

/-- 4096 sample indices, -/
abbrev winI (off : Fin 2 → ℕ) (h : ∀ a, off a + S1x4096.size a ≤ S4x1048576.size a) : Memref sig (th d i).2.kind .hbm S4096 .i32 :=
  ((Memref.whole main_arg1_scv : Memref sig .scVector .hbm S4x1048576 .i32).slice (Rect.unit (s := S4x1048576) off S1x4096.size h) (fun _ => rfl)).squeeze S4096 squeezes_S1x4096_S4096

/-- and 4096 densities. -/
abbrev winD (off : Fin 2 → ℕ) (h : ∀ a, off a + S1x4096.size a ≤ S4x1048576.size a) : Memref sig (th d i).2.kind .hbm S4096 .f32 :=
  ((Memref.whole main_v3_scv : Memref sig .scVector .hbm S4x1048576 .f32).slice (Rect.unit (s := S4x1048576) off S1x4096.size h) (fun _ => rfl)).squeeze S4096 squeezes_S1x4096_S4096

/-- The credit of one row's copy. -/
def rowN : ℕ := sig.dmaCredit .scVector (Kind.scVector.table .vmem) (cc1_scratch1 : Ref sig .scVector).idx S4096 .i32

theorem rowN_pos : 0 < rowN := sig.dmaCredit_pos _ _ _ _ _ (by decide)

theorem rowN_I (b : ℕ) (hb : InR b) : (rowI d i b hb).view.dmaCredit = rowN := rfl

theorem rowN_D (b : ℕ) (hb : InR b) : (rowD d i b hb).view.dmaCredit = rowN :=
  show sig.dmaCredit .scVector (Kind.scVector.table .vmem) (cc1_scratch2 : Ref sig .scVector).idx S4096 .f32
    = sig.dmaCredit .scVector (Kind.scVector.table .vmem) (cc1_scratch1 : Ref sig .scVector).idx S4096 .i32 by decide

attribute [irreducible] rowN

/-- Chunk `k` of row `c` of an array of samples, at every row of a ring. -/
def chunk {α : Type} (f : S4x1048576.Idx → α) (c : Fin 4) (k : ℕ) : S4x4096.Idx → α :=
  fun y => f (ix2 c (Fin.ofNat 1048576 (4096 * k + (y 1).val)))

abbrev locI : Loc nD τ sig := (Memref.whole main_arg1_scv : Memref sig (th d i).2.kind .hbm S4x1048576 .i32).view.loc (th d i)
abbrev locD : Loc nD τ sig := (Memref.whole main_v3_scv : Memref sig (th d i).2.kind .hbm S4x1048576 .f32).view.loc (th d i)

variable (fI : S4x1048576.Idx → BitVec 32) (fD : S4x1048576.Idx → F .f32)

/-- Row `b` of the index ring holds chunk `k`, -/
abbrev hasI (b : ℕ) (hb : InR b) (c : Fin 4) (k : ℕ) : sProp 𝕄 :=
  (rowI d i b hb).view.loc (th d i) ↦[(rowI d i b hb).view.set]{fullShare} chunk fI c k

/-- and of the density ring. -/
abbrev hasD (b : ℕ) (hb : InR b) (c : Fin 4) (k : ℕ) : sProp 𝕄 :=
  (rowD d i b hb).view.loc (th d i) ↦[(rowD d i b hb).view.set]{fullShare} chunk fD c k

/-- What the two copies into slot `b` deliver. -/
def slotD (b : ℕ) (hb : InR b) (c : Fin 4) (k : ℕ) : Fin 2 → sProp 𝕄
  | 0 => hasI d i fI b hb c k
  | 1 => hasD d i fD b hb c k

instance slotD_storable (b : ℕ) (hb : InR b) (c : Fin 4) (k : ℕ) (t : Fin 2) : Storable (upEmb : UEmb _ 𝕄) (slotD d i fI fD b hb c k t) := by
  unfold slotD; split <;> infer_instance

/-- Slot `b` with `j` of the two copies of chunk `k` issued and `u` units waited for. -/
abbrev slot (b : ℕ) (hs : InS b) (hb : InR b) (c : Fin 4) (k j u : ℕ) : sProp 𝕄 :=
  Bt d i (semOf b hs) rowN (slotD d i fI fD b hb c k) j u

theorem chunk_ix {o k : ℕ} (h : o + 4096 ≤ 1048576) (hk : o = 4096 * k) (x : S4096.Idx) :
    (Fin.ofNat 1048576 (4096 * k + (0 + (x 0).val))).val = o + (x 0).val := by
  have h0 : (x 0).val < 4096 := (x 0).isLt
  simp only [Fin.ofNat]
  rw [Nat.mod_eq_of_lt] <;> omega

omit [FloatOps F] in
/-- A row that holds a chunk reads as the chunk's window of the array: of the indices, -/
theorem read_chunkI {b : ℕ} {hb : InR b} {c : Fin 4} {k : ℕ} {off : Fin 2 → ℕ} {h} (h0 : off 0 = c.val) (hk : off 1 = 4096 * k) :
    (rowI d i b hb).view.read (Elt F) (chunk fI c k) = (winI d i off h).view.read (Elt F) fI := by
  funext x
  refine (congrArg (chunk fI c k) (row_emb _ _ _ _ _ x)).trans (Eq.trans ?_ (congrArg fI (row_emb _ _ _ _ _ x)).symm)
  refine congrArg fI (congrArg₂ ix2 (Fin.ext h0.symm) (Fin.ext ?_))
  exact chunk_ix (h 1) hk x

omit [FloatOps F] in
/-- and of the densities. -/
theorem read_chunkD {b : ℕ} {hb : InR b} {c : Fin 4} {k : ℕ} {off : Fin 2 → ℕ} {h} (h0 : off 0 = c.val) (hk : off 1 = 4096 * k) :
    (rowD d i b hb).view.read (Elt F) (chunk fD c k) = (winD d i off h).view.read (Elt F) fD := by
  funext x
  refine (congrArg (chunk fD c k) (row_emb _ _ _ _ _ x)).trans (Eq.trans ?_ (congrArg fD (row_emb _ _ _ _ _ x)).symm)
  refine congrArg fD (congrArg₂ ix2 (Fin.ext h0.symm) (Fin.ext ?_))
  exact chunk_ix (h 1) hk x

theorem startI {b : ℕ} {hs : InS b} {hb : InR b} {c : Fin 4} {k : ℕ} {off : Fin 2 → ℕ} {h h1 h2 h3} (h0 : off 0 = c.val) (hk : off 1 = 4096 * k) :
    iprop(rd (locI d i) fI ∗ (∃ f, (rowI d i b hb).view.loc (th d i) ↦[(rowI d i b hb).view.set]{fullShare} f) ∗ semVal (th d i, SemLoc.dma (semOf b hs)) 0)
      ⊢ WP d i (Prog.lift (.enqueueDma (winI d i off h) (.here (rowI d i b hb)) (.dma (semOf b hs)) h1 h2 h3))
          (fun _ => iprop(rd (locI d i) fI ∗ slot d i fI fD b hs hb c k 1 0)) := by
  iintro ⟨Hr, Hd, Hv⟩
  ihave Hr' := (rd_lend (locI d i) fI (winI d i off h).view.set) $$ Hr
  icases Hr' with ⟨Hs, Hr⟩
  iapply (fupd_wp _ _ _)
  imod (batch_alloc' EC (c := th d i) (none : HIx 1) rowN (slotD d i fI fD b hb c k)) $$ Hv with HB
  imodintro
  iapply (wend d i (startB d i (hj := Nat.zero_lt_two) (N := rowN) (rowN_I d i b hb) (read_chunkI d i fI h0 hk) (D := slotD d i fI fD b hb c k)
    (show _ ⊢ hasI d i fI b hb c k from by iintro ⟨H, -⟩; iexact H))) $$ [Hs Hd HB]
  · isplitl [Hs]; · iexact Hs
    isplitl [Hd]; · iexact Hd
    iexact HB
  · iintro %_ HB
    isplitl [Hr]; · iexact Hr
    iexact HB

theorem startD {b : ℕ} {hs : InS b} {hb : InR b} {c : Fin 4} {k : ℕ} {off : Fin 2 → ℕ} {h h1 h2 h3} (h0 : off 0 = c.val) (hk : off 1 = 4096 * k) :
    iprop(rd (locD d i) fD ∗ (∃ f, (rowD d i b hb).view.loc (th d i) ↦[(rowD d i b hb).view.set]{fullShare} f) ∗ slot d i fI fD b hs hb c k 1 0)
      ⊢ WP d i (Prog.lift (.enqueueDma (winD d i off h) (.here (rowD d i b hb)) (.dma (semOf b hs)) h1 h2 h3))
          (fun _ => iprop(rd (locD d i) fD ∗ slot d i fI fD b hs hb c k 2 0)) := by
  iintro ⟨Hr, Hd, HB⟩
  ihave Hr' := (rd_lend (locD d i) fD (winD d i off h).view.set) $$ Hr
  icases Hr' with ⟨Hs, Hr⟩
  iapply (wend d i (startB d i (hj := Nat.one_lt_two) (N := rowN) (rowN_D d i b hb) (read_chunkD d i fD h0 hk) (D := slotD d i fI fD b hb c k)
    (show _ ⊢ hasD d i fD b hb c k from by iintro ⟨H, -⟩; iexact H))) $$ [Hs Hd HB]
  · isplitl [Hs]; · iexact Hs
    isplitl [Hd]; · iexact Hd
    iexact HB
  · iintro %_ HB
    isplitl [Hr]; · iexact Hr
    iexact HB

theorem waitI {b : ℕ} {hs : InS b} {hb : InR b} {c : Fin 4} {k : ℕ} {off : Fin 2 → ℕ} {h h1 h2} :
    iprop(slot d i fI fD b hs hb c k 2 0 ∗ ow d i O W ∗ MayWaits (th d i) none O)
      ⊢ WP d i (Prog.lift (.waitDma2 (semOf b hs) (winI d i off h) (rowI d i b hb) h1 h2))
          (fun _ => iprop(slot d i fI fD b hs hb c k 2 (0 + rowN) ∗ ow d i O W)) :=
  waitB d i O W (N := rowN) (rowN_I d i b hb) (by have := rowN_pos; omega)

theorem waitD {b : ℕ} {hs : InS b} {hb : InR b} {c : Fin 4} {k : ℕ} {off : Fin 2 → ℕ} {h h1 h2} :
    iprop(slot d i fI fD b hs hb c k 2 (0 + rowN) ∗ ow d i O W ∗ MayWaits (th d i) none O)
      ⊢ WP d i (Prog.lift (.waitDma2 (semOf b hs) (winD d i off h) (rowD d i b hb) h1 h2))
          (fun _ => iprop(hasI d i fI b hb c k ∗ hasD d i fD b hb c k ∗ semVal (th d i, SemLoc.dma (semOf b hs)) 0 ∗ ow d i O W)) := by
  iintro H
  iapply (wend d i (waitBL d i O W (N := rowN) (rowN_D d i b hb) rowN_pos (by omega))) $$ H
  iintro %_ ⟨HD, Hv, HO⟩
  ihave HD' := (Entails.of_eq (show bigSep Finset.univ (slotD d i fI fD b hb c k) = iprop(hasI d i fI b hb c k ∗ hasD d i fD b hb c k) from by
    rw [show (Finset.univ : Finset (Fin 2)) = {0, 1} by decide, SparseCore.bigSep_insert' (by decide), bigSep_singleton]; rfl)) $$ HD
  icases HD' with ⟨H1, H2⟩
  isplitl [H1]; · iexact H1
  isplitl [H2]; · iexact H2
  isplitl [Hv]; · iexact Hv
  iexact HO

end Cert.Proof.Dens

end
-- ==== Proof.Scat.lean ====
/-
  The scatter of one chunk: sixteen lanes of an indexed store are sixteen steps of the sweep over the samples.
-/
module

public import proofs.«01_k».proof.Proof.Slots
public import Idealize.ShloMosaic.Lib.LaneScatter.Casts
public import Idealize.ShloMosaic.Lib.WordCmp

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords)

/-- The word of sample `n` of row `c`. -/
abbrev at2 {α : Type} (f : S4x1048576.Idx → α) (c : Fin 4) (n : ℕ) : α := f (ix2 c (Fin.ofNat 1048576 n))

/-- The tile's block after the first `n` samples of row `c`: where sample `n` names the element, its density is written. -/
def sweep (v2 : BitVec 32) (fI : S4x1048576.Idx → BitVec 32) (fD : S4x1048576.Idx → F .f32) (c : Fin 4) : ℕ → S65536.Idx → F .f32
  | 0 => fun _ => Scalar.ofBits .f32 0x00000000#32
  | n + 1 => fun x => if (at2 fI c n - v2).toNat = (x 0).val then at2 fD c n else sweep v2 fI fD c n x

/-- One step of the sweep over given contents. -/
def stepAt (w : BitVec 32) (y : F .f32) (g : S65536.Idx → F .f32) : S65536.Idx → F .f32 :=
  fun x => if w.toNat = (x 0).val then y else g x

theorem pay2_apply (v2 : BitVec 32) (vi : Vec F S1x16 .i32) (x : S16.Idx) : k1_pay2 v2 vi x = vi (ix2 0 (x 0)) - v2 := by
  show shapeCast S16 vi shapeCasts_S1x16_S16 x - v2 = _
  refine congrArg (· - v2) ((shapeCast_dropUnit_apply (n := 1) ![16] vi shapeCasts_S1x16_S16 x).trans (congrArg vi (funext fun t => ?_)))
  match t with
  | ⟨0, _⟩ => rfl
  | ⟨1, _⟩ => rfl

theorem pay1_apply (vd : Vec F S1x16 .f32) (x : S16.Idx) : k1_pay1 vd x = vd (ix2 0 (x 0)) := by
  refine ((shapeCast_dropUnit_apply (n := 1) ![16] vd shapeCasts_S1x16_S16 x).trans (congrArg vd (funext fun t => ?_)))
  match t with
  | ⟨0, _⟩ => rfl
  | ⟨1, _⟩ => rfl

theorem pay3_iff (v2 : BitVec 32) (vi : Vec F S1x16 .i32) (x : S16.Idx) : k1_pay3 v2 vi x = 1 ↔ (k1_pay2 v2 vi x).toNat < 65536 := by
  show BitVec.ofBool (decide ((k1_pay2 v2 vi x).toNat < (65536#32).toNat)) = 1#1 ↔ _
  by_cases h : (k1_pay2 v2 vi x).toNat < 65536 <;> simp [h]

/-- Every lane's index is inside the block, a masked-off lane's being zero. -/
theorem chk_ok (v2 : BitVec 32) (vi : Vec F S1x16 .i32) : k1_chk1 (k1_pay4 v2 vi) := by
  intro a x
  match a with
  | ⟨0, _⟩ =>
    show (if k1_pay3 v2 vi x = 1 then k1_pay2 v2 vi x else 0#32).toNat < 65536
    split
    · next h => exact (pay3_iff v2 vi x).mp h
    · decide

/-- The element lane `x` names, where the lane is on. -/
theorem lane_at (v2 : BitVec 32) (vi : Vec F S1x16 .i32) (h : k1_chk1 (k1_pay4 v2 vi)) (x : S16.Idx) (hm : k1_pay3 v2 vi x = 1) (j : S65536.Idx) :
    (∀ a, (j a).val = ((idxAt (s := S65536) ![k1_pay4 v2 vi] (k1_idx1_inb _ h) x) a).val) ↔ (k1_pay2 v2 vi x).toNat = (j 0).val := by
  have e : ∀ a, ((idxAt (s := S65536) ![k1_pay4 v2 vi] (k1_idx1_inb _ h) x) a).val = (k1_pay2 v2 vi x).toNat := by
    intro a
    match a with
    | ⟨0, _⟩ =>
      show (if k1_pay3 v2 vi x = 1 then k1_pay2 v2 vi x else 0#32).toNat = _
      rw [if_pos hm]
  constructor
  · intro hj; exact ((hj 0).trans (e 0)).symm
  · intro hj a
    match a with
    | ⟨0, _⟩ => exact hj.symm.trans (e 0).symm

/-- Sixteen lanes are sixteen steps. -/
theorem store_sweep (v2 : BitVec 32) (fI : S4x1048576.Idx → BitVec 32) (fD : S4x1048576.Idx → F .f32) (c : Fin 4) (n : ℕ)
    (vi : Vec F S1x16 .i32) (vd : Vec F S1x16 .f32) (h : k1_chk1 (k1_pay4 v2 vi))
    (hi : ∀ l : Fin 16, vi (ix2 0 l) = at2 fI c (n + l.val)) (hd : ∀ l : Fin 16, vd (ix2 0 l) = at2 fD c (n + l.val)) :
    storeIdx (s := S65536) (e := .f32) (sweep v2 fI fD c n) ![k1_pay4 v2 vi] (k1_pay1 vd) (k1_pay3 v2 vi) false (k1_idx1_inb _ h) = sweep v2 fI fD c (n + 16) := by
  have key : ∀ m ≤ 16, ((List.finRange 16).take m).foldl (fun g (k : Fin 16) => stepAt (vi (ix2 0 k) - v2) (vd (ix2 0 k)) g) (sweep v2 fI fD c n)
      = sweep v2 fI fD c (n + m) := by
    intro m
    induction m with
    | zero => intro _; rfl
    | succ m ih =>
      intro hm
      have hlen : m < (List.finRange 16).length := by rw [List.length_finRange]; omega
      rw [List.take_add_one, List.getElem?_eq_getElem hlen, List.foldl_append, ih (by omega), List.getElem_finRange]
      show stepAt _ _ _ = _
      rw [hi, hd]
      rfl
  have h16 := key 16 le_rfl
  rw [List.take_of_length_le (by rw [List.length_finRange])] at h16
  refine Eq.trans ?_ h16
  unfold storeIdx
  refine congrArg (fun f => List.foldl f (sweep v2 fI fD c n) (List.finRange 16)) ?_
  funext g k
  have hp2 := pay2_apply v2 vi (Shape.ofLane k)
  have hp1 := pay1_apply vd (Shape.ofLane k)
  funext j
  unfold stepAt
  refine Eq.trans ?_ (if_congr (Iff.of_eq (congrArg (fun w : BitVec 32 => w.toNat = (j 0).val) hp2)) hp1 rfl)
  by_cases hm : k1_pay3 v2 vi (Shape.ofLane k) = 1
  · dsimp only
    rw [if_pos hm]
    by_cases hq : (k1_pay2 v2 vi (Shape.ofLane k)).toNat = (j 0).val
    · exact (if_pos ((lane_at v2 vi h _ hm j).mpr hq)).trans (if_pos hq).symm
    · exact (if_neg (mt (lane_at v2 vi h _ hm j).mp hq)).trans (if_neg hq).symm
  · dsimp only
    rw [if_neg hm]
    have hj : (j 0).val < 65536 := (j 0).isLt
    have := mt (pay3_iff v2 vi (Shape.ofLane k)).mpr hm
    rw [if_neg (by omega)]

/-! ## One group of the loop -/

/-- A load. -/
theorem wload {s : Shape} {e : EltTy} {m : Memref sig (th d i).2.kind .vmem s e} {r : LoadRect s} {hl} {S : Finset m.view.ty.Idx} {q : PosShare TreeShare}
    {f : Buf (Elt F) (m.view.loc (th d i))} (hS : m.view.setOn r.set ⊆ S) :
    (m.view.loc (th d i) ↦[S]{q} f : sProp 𝕄) ⊢ WP d i (Prog.lift (.load m r hl)) (fun v => iprop(⌜v = m.view.readAt (Elt F) r f⌝ ∗ (m.view.loc (th d i) ↦[S]{q} f))) :=
  wlift d i fun k Q => wp_load (defs := defs₀ (F := F)) 𝒱₀ (th d i) none Set.univ hS

theorem memI (b : ℕ) (hb : InR b) (x : S4x4096.Idx) : x ∈ (rowI d i b hb).view.set ↔ (x 0).val = b := by
  unfold View.set
  rw [Finset.mem_map]
  constructor
  · rintro ⟨y, -, hy⟩
    rw [← hy, row_emb]
    rfl
  · intro h
    refine ⟨ix1 (x 1), Finset.mem_univ _, ?_⟩
    rw [row_emb]
    refine (funext fun t => Fin.ext ?_)
    match t with
    | ⟨0, _⟩ => exact h.symm
    | ⟨1, _⟩ => exact Nat.zero_add _

theorem memD (b : ℕ) (hb : InR b) (x : S4x4096.Idx) : x ∈ (rowD d i b hb).view.set ↔ (x 0).val = b := by
  unfold View.set
  rw [Finset.mem_map]
  constructor
  · rintro ⟨y, -, hy⟩
    rw [← hy, row_emb]
    rfl
  · intro h
    refine ⟨ix1 (x 1), Finset.mem_univ _, ?_⟩
    rw [row_emb]
    refine (funext fun t => Fin.ext ?_)
    match t with
    | ⟨0, _⟩ => exact h.symm
    | ⟨1, _⟩ => exact Nat.zero_add _

abbrev mI : Memref sig (th d i).2.kind .vmem S4x4096 .i32 := (Memref.whole cc1_scratch1 : Memref sig .scVector .vmem S4x4096 .i32)
abbrev mD : Memref sig (th d i).2.kind .vmem S4x4096 .f32 := (Memref.whole cc1_scratch2 : Memref sig .scVector .vmem S4x4096 .f32)
/-- The tile's block in its own memory. -/
abbrev mT : Memref sig (th d i).2.kind .vmem S65536 .f32 := (Memref.whole cc1_scratch0 : Memref sig .scVector .vmem S65536 .f32)

/-- The block holds `f`. -/
abbrev tmp (f : S65536.Idx → F .f32) : sProp 𝕄 := (mT d i).view.loc (th d i) ↦[Finset.univ]{fullShare} f

theorem tmp_whole (f : S65536.Idx → F .f32) : tmp d i f ⊣⊢ (((mT d i).access (.whole S65536)).loc (th d i) ↦[((mT d i).access (.whole S65536)).set]{fullShare} f : sProp 𝕄) := by
  have h : ((mT d i).access (.whole S65536)).set = Finset.univ := Memref.set_access_whole _
  rw [h]

variable (v2 : BitVec 32) (fI : S4x1048576.Idx → BitVec 32) (fD : S4x1048576.Idx → F .f32)

/-- One group of sixteen samples, at the rows' offset `off`. -/
def group (off : Fin 2 → ℕ) (inb : ∀ a, off a + S1x16.size a ≤ S4x4096.size a) : Prog (TpuEff nD τ sig (Elt F) Λ₀ (th d i).2) Unit := do
  let vi : Vec F S1x16 .i32 ← Prog.lift (.load (mI d i) (Rect.unit (s := S4x4096) off S1x16.size inb).toLoadRect (View.loadsAt_vmem h_S1x16))
  let vd : Vec F S1x16 .f32 ← Prog.lift (.load (mD d i) (Rect.unit (s := S4x4096) off S1x16.size inb).toLoadRect (View.loadsAt_vmem h_S1x16))
  have w : IVec S16 32 := k1_pay4 v2 vi
  have hw : k1_chk1 w := (← Prog.lift (TpuEff.assume (k1_chk1 w) (k1_chk1.dec w))).down
  SparseCore.vectorStoreIdx (mT d i) ![w] (k1_pay1 vd) (k1_pay3 v2 vi) false (k1_idx1_inb w hw) (View.stores_vmem_bits_univ h_S65536 rfl)
  pure ⟨⟩

/-- The row's offset group `j` loads at. -/
theorem groupWP {b : ℕ} {hb : InR b} {c : Fin 4} {k j : ℕ} {off : Fin 2 → ℕ} {inb} (h0 : off 0 = b) (h1 : off 1 = 16 * j) :
    iprop(hasI d i fI b hb c k ∗ hasD d i fD b hb c k ∗ tmp d i (sweep v2 fI fD c (4096 * k + 16 * j)))
      ⊢ WP d i (group (F := F) d i v2 off inb) (fun _ => iprop(hasI d i fI b hb c k ∗ hasD d i fD b hb c k ∗ tmp d i (sweep v2 fI fD c (4096 * k + 16 * (j + 1))))) := by
  have hx : ∀ x ∈ (Rect.unit (s := S4x4096) off S1x16.size inb).toLoadRect.set, (x 0).val = b := by
    intro x hx
    have := Rect.mem_set_unit.mp hx 0
    have h : off 0 ≤ (x 0).val ∧ (x 0).val < off 0 + 1 := this
    omega
  have hv : ∀ {α : Type} (f : S4x1048576.Idx → α) (l : Fin 16),
      chunk f c k ((Rect.unit (s := S4x4096) off S1x16.size inb).emb (ix2 0 l)) = at2 f c (4096 * k + 16 * j + l.val) := by
    intro α f l
    show f (ix2 c (Fin.ofNat 1048576 (4096 * k + (off 1 + 1 * l.val)))) = f (ix2 c (Fin.ofNat 1048576 (4096 * k + 16 * j + l.val)))
    rw [h1, Nat.one_mul, Nat.add_assoc]
  unfold group
  iintro ⟨HI, HD, HT⟩
  iapply (wseq d i (wload d i (m := mI d i) (f := chunk fI c k) (S := (rowI d i b hb).view.set) (q := fullShare) ?_)) $$ HI
  · intro x hx'
    exact (memI d i b hb x).mpr (hx x ((View.mem_setOn (v := (mI d i).view) (x := x)).mp hx'))
  iintro %vi ⟨%hvi, HI⟩
  iapply (wseq d i (wload d i (m := mD d i) (f := chunk fD c k) (S := (rowD d i b hb).view.set) (q := fullShare) ?_)) $$ HD
  · intro x hx'
    exact (memD d i b hb x).mpr (hx x ((View.mem_setOn (v := (mD d i).view) (x := x)).mp hx'))
  iintro %vd ⟨%hvd, HD⟩
  have hi : ∀ l : Fin 16, vi (ix2 0 l) = at2 fI c (4096 * k + 16 * j + l.val) := fun l => by rw [hvi]; exact hv fI l
  have hd : ∀ l : Fin 16, vd (ix2 0 l) = at2 fD c (4096 * k + 16 * j + l.val) := fun l => by rw [hvd]; exact hv fD l
  have hw := chk_ok v2 vi
  iapply (wp_assume (defs := defs₀ (F := F)) 𝒱₀ (th d i) none Set.univ hw)
  ihave HT' := (tmp_whole d i _).1 $$ HT
  iapply (SparseCore.wp_vectorStoreIdx (defs := defs₀ (F := F)) 𝒱₀ (th d i) none Set.univ (base := mT d i)) $$ HT'
  iintro HT
  iapply (wret d i)
  isplitl [HI]; · iexact HI
  isplitl [HD]; · iexact HD
  iapply (tmp_whole d i _).2
  iapply (Entails.of_eq (congrArg (fun f => (((mT d i).access (.whole S65536)).loc (th d i) ↦[((mT d i).access (.whole S65536)).set]{fullShare} f : sProp 𝕄)) ?_)) $$ HT
  refine (Memref.write_access_whole_univ (Elt F) cc1_scratch0 _ _).trans ?_
  refine (congrArg (fun g => storeIdx (s := S65536) (e := .f32) g ![k1_pay4 v2 vi] (k1_pay1 vd) (k1_pay3 v2 vi) false (k1_idx1_inb _ hw))
    (Memref.read_access_whole (Elt F) cc1_scratch0 (sweep v2 fI fD c (4096 * k + 16 * j)))).trans ?_
  exact (store_sweep v2 fI fD c (4096 * k + 16 * j) vi vd hw hi hd).trans (congrArg (sweep v2 fI fD c) (by omega))

/-- A chunk's loop: 256 groups, at row `b` of the rings. -/
theorem scatRow {b : ℕ} {hb : InR b} {c : Fin 4} {k : ℕ} {w : ℕ} (L : Scf.Loop w) (hL : L.trips = 256) (hok : L.OK)
    (body : Fin L.trips → Unit → Prog (TpuEff nD τ sig (Elt F) Λ₀ (th d i).2) Unit) (off : Fin L.trips → Fin 2 → ℕ)
    (inb : ∀ j, ∀ a, off j a + S1x16.size a ≤ S4x4096.size a) (hbody : ∀ j, body j ⟨⟩ = group d i v2 (off j) (inb j))
    (hoff : ∀ j, off j 0 = b ∧ off j 1 = 16 * j.val) :
    iprop(hasI d i fI b hb c k ∗ hasD d i fD b hb c k ∗ tmp d i (sweep v2 fI fD c (4096 * k)))
      ⊢ WP d i (Scf.Loop.for L hok ⟨⟩ body) (fun _ => iprop(hasI d i fI b hb c k ∗ hasD d i fD b hb c k ∗ tmp d i (sweep v2 fI fD c (4096 * (k + 1))))) := by
  have h := wfor d i L hok body (fun j => iprop(hasI d i fI b hb c k ∗ hasD d i fD b hb c k ∗ tmp d i (sweep v2 fI fD c (4096 * k + 16 * j))))
    (fun j => by rw [hbody j]; exact groupWP d i v2 fI fD (hoff j).1 (hoff j).2)
  rw [hL, show 4096 * k + 16 * 256 = 4096 * (k + 1) by omega, show 4096 * k + 16 * 0 = 4096 * k by omega] at h
  exact h

/-- The four loops' offsets. -/
theorem off3 : ∀ j : Fin k1_t4_loop.trips, k1_off3 j 0 = 0 ∧ k1_off3 j 1 = 16 * j.val := by decide +kernel
theorem off5 : ∀ j : Fin k1_t5_loop.trips, k1_off5 j 0 = 1 ∧ k1_off5 j 1 = 16 * j.val := by decide +kernel
theorem off6 : ∀ j : Fin k1_t6_loop.trips, k1_off6 j 0 = 2 ∧ k1_off6 j 1 = 16 * j.val := by decide +kernel
theorem off7 : ∀ j : Fin k1_t7_loop.trips, k1_off7 j 0 = 3 ∧ k1_off7 j 1 = 16 * j.val := by decide +kernel

end Cert.Proof.Dens

end
-- ==== Proof.Offs.lean ====
/-
  The offsets the tile computes, as numbers.
-/
module

public import proofs.«01_k».proof.Proof.Base
public import Idealize.ShloMosaic.Lib.ValueIdxCore

@[expose] public section

noncomputable section

namespace Cert.Proof.Dens

open Cert.KernelIdeal Cert.KernelIdeal.Gen

open Idealize.ShloMosaic Idealize.ShloMosaic.ValueIdx
/-- A pair of coordinates. -/
def pair (a : Fin 2) (b : Fin 16) : grid1.Coords := fun t => match t with | ⟨0, _⟩ => a | ⟨1, _⟩ => b

theorem eq_pair (i : grid1.Coords) : i = pair (i 0) (i 1) := by
  funext t
  match t with
  | ⟨0, _⟩ => rfl
  | ⟨1, _⟩ => rfl

/-- The first element of the tile's block. -/
def base (i : grid1.Coords) : ℕ := ((i 1).val * 2 + (i 0).val) * 65536

/-- The same as the program's word. -/
def baseW (i : grid1.Coords) : BitVec 32 :=
  Scalar.muli (Scalar.addi (Scalar.muli (BitVec.ofNat 32 (i 1).val) 2#32) (BitVec.ofNat 32 (i 0).val)) 65536#32

theorem base_lt (i : grid1.Coords) : base i + 65536 ≤ 2097152 := by
  have h0 : (i 0).val < 2 := (i 0).isLt
  have h1 : (i 1).val < 16 := (i 1).isLt
  unfold base
  omega

theorem baseW_toNat (i : grid1.Coords) : (baseW i).toNat = base i := by
  have h : ∀ (a : Fin 2) (b : Fin 16), (baseW (pair a b)).toNat = base (pair a b) := by decide +kernel
  rw [eq_pair i]; exact h _ _

theorem off1 : ∀ j : Fin k1_t2_loop.trips, k1_off1 j 0 = 16 * j.val := by decide +kernel
theorem off2 : ∀ t : Fin k1_t1_loop.trips, k1_off2 t 0 = t.val ∧ k1_off2 t 1 = 0 := by decide +kernel
theorem off8 : ∀ t : Fin k1_t1_loop.trips, k1_off8 t 0 = t.val ∧ k1_off8 t 1 = 0 := by decide +kernel
theorem off4 : ∀ (t : Fin k1_t1_loop.trips) (k : Fin k1_t3_loop.trips) (r : Fin 4),
    k1_off4 t k (BitVec.ofNat 32 r.val) 0 = t.val ∧ k1_off4 t k (BitVec.ofNat 32 r.val) 1 = 4096 * min (4 * (k.val + 1) + r.val) 255 := by decide +kernel
theorem off9 : ∀ t : Fin k1_t1_loop.trips, k1_cond1 t = 1#1 → k1_off9 t 0 = t.val + 1 ∧ k1_off9 t 1 = 4096 * 0 := by decide +kernel
theorem off10 : ∀ t : Fin k1_t1_loop.trips, k1_cond1 t = 1#1 → k1_off10 t 0 = t.val + 1 ∧ k1_off10 t 1 = 4096 * 1 := by decide +kernel
theorem off11 : ∀ t : Fin k1_t1_loop.trips, k1_cond1 t = 1#1 → k1_off11 t 0 = t.val + 1 ∧ k1_off11 t 1 = 4096 * 2 := by decide +kernel
theorem off12 : ∀ t : Fin k1_t1_loop.trips, k1_cond1 t = 1#1 → k1_off12 t 0 = t.val + 1 ∧ k1_off12 t 1 = 4096 * 3 := by decide +kernel
theorem cond1 : ∀ t : Fin k1_t1_loop.trips, k1_cond1 t = 1#1 ↔ t.val + 1 < 4 := by decide +kernel
theorem cond2 : ∀ t : Fin k1_t8_loop.trips, k1_cond2 t = 1#1 := by decide +kernel
theorem cond3 : ∀ t : Fin k1_t8_loop.trips, k1_cond3 t = 1#1 ↔ t.val + 1 < 4 := by decide +kernel

theorem off13 (i : grid1.Coords) (t : Fin k1_t1_loop.trips) : k1_off13 i t 0 = t.val ∧ k1_off13 i t 1 = base i + 8192 * 0 := by
  have h : ∀ (a : Fin 2) (b : Fin 16) (t : Fin k1_t1_loop.trips), k1_off13 (pair a b) t 0 = t.val ∧ k1_off13 (pair a b) t 1 = base (pair a b) + 8192 * 0 := by
    decide +kernel
  rw [eq_pair i]; exact h _ _ t

theorem off15 (i : grid1.Coords) (t : Fin k1_t1_loop.trips) (p : Fin k1_t8_loop.trips) :
    k1_off15 i t p 0 = t.val ∧ k1_off15 i t p 1 = base i + 8192 * (2 * p.val + 1) := by
  have h : ∀ (a : Fin 2) (b : Fin 16) (t : Fin k1_t1_loop.trips) (p : Fin k1_t8_loop.trips),
      k1_off15 (pair a b) t p 0 = t.val ∧ k1_off15 (pair a b) t p 1 = base (pair a b) + 8192 * (2 * p.val + 1) := by decide +kernel
  rw [eq_pair i]; exact h _ _ t p

theorem off20 (i : grid1.Coords) (t : Fin k1_t1_loop.trips) (p : Fin k1_t8_loop.trips) (hp : k1_cond3 p = 1#1) :
    k1_off20 i t p 0 = t.val ∧ k1_off20 i t p 1 = base i + 8192 * (2 * (p.val + 1)) := by
  have h : ∀ (a : Fin 2) (b : Fin 16) (t : Fin k1_t1_loop.trips) (p : Fin k1_t8_loop.trips), k1_cond3 p = 1#1 →
      k1_off20 (pair a b) t p 0 = t.val ∧ k1_off20 (pair a b) t p 1 = base (pair a b) + 8192 * (2 * (p.val + 1)) := by decide +kernel
  rw [eq_pair i]; exact h _ _ t p hp

theorem off19 (i : grid1.Coords) (t : Fin k1_t1_loop.trips) (p : Fin k1_t8_loop.trips) (r : Fin 2) :
    k1_off19 i t p (BitVec.ofNat 32 r.val) 0 = t.val ∧ k1_off19 i t p (BitVec.ofNat 32 r.val) 1 = base i + 8192 * (2 * p.val + r.val) := by
  have h : ∀ (a : Fin 2) (b : Fin 16) (t : Fin k1_t1_loop.trips) (p : Fin k1_t8_loop.trips) (r : Fin 2),
      k1_off19 (pair a b) t p (BitVec.ofNat 32 r.val) 0 = t.val ∧ k1_off19 (pair a b) t p (BitVec.ofNat 32 r.val) 1 = base (pair a b) + 8192 * (2 * p.val + r.val) := by
    decide +kernel
  rw [eq_pair i]; exact h _ _ t p r

theorem off16 : ∀ j : Fin k1_t9_loop.trips, k1_off16 j 0 = 0 ∧ k1_off16 j 1 = 16 * j.val := by decide +kernel
theorem off21 : ∀ j : Fin k1_t10_loop.trips, k1_off21 j 0 = 1 ∧ k1_off21 j 1 = 16 * j.val := by decide +kernel
theorem off17 : ∀ (p : Fin k1_t8_loop.trips) (j : Fin k1_t9_loop.trips), k1_off17 p j 0 = 8192 * (2 * p.val + 0) + 16 * j.val := by decide +kernel
theorem off22 : ∀ (p : Fin k1_t8_loop.trips) (j : Fin k1_t10_loop.trips), k1_off22 p j 0 = 8192 * (2 * p.val + 1) + 16 * j.val := by decide +kernel
theorem off18 : ∀ (p : Fin k1_t8_loop.trips) (r : Fin 2), k1_off18 p (BitVec.ofNat 32 r.val) 0 = 8192 * (2 * p.val + r.val) := by decide +kernel

end Cert.Proof.Dens

end
-- ==== Proof.Merge.lean ====
/-
  The tile's block in its own memory: cleared before a row's samples, and afterwards merged piece by piece with the row
  of the grid, each piece staged in one of two rows and copied out when it is merged.
-/
module

public import proofs.«01_k».proof.Proof.Scat
public import proofs.«01_k».proof.Proof.Offs
public import Idealize.ShloMosaic.Lib.LaneScatter.Casts
public import Idealize.ShloMosaic.Lib.WordCmp

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

/-! ## Stores of sixteen -/

/-- A store, over contents given where they are held. -/
theorem wstore {off : Fin 1 → ℕ} {inb : ∀ a, off a + S16.size a ≤ S65536.size a} {w : Vec F S16 .f32} {h1 h2} {S : Finset S65536.Idx}
    {f g : S65536.Idx → F .f32} (hS : ∀ x : S65536.Idx, off 0 ≤ (x 0).val → (x 0).val < off 0 + 16 → x ∈ S)
    (hin : ∀ l : Fin 16, g (ix1 ⟨off 0 + l.val, by have := inb 0; have := l.isLt; simp at *; omega⟩) = w (ix1 l))
    (hout : ∀ x ∈ S, ¬(off 0 ≤ (x 0).val ∧ (x 0).val < off 0 + 16) → g x = f x) :
    ((mT d i).view.loc (th d i) ↦[S]{fullShare} f : sProp 𝕄)
      ⊢ WP d i (Prog.lift (.store (mT d i) (Rect.unit (s := S65536) off S16.size inb) w Finset.univ h1 h2)) (fun _ => ((mT d i).view.loc (th d i) ↦[S]{fullShare} g)) := by
  have hmem : ∀ x : S65536.Idx, x ∈ ((mT d i).access (Rect.unit (s := S65536) off S16.size inb)).setOn Finset.univ ↔ off 0 ≤ (x 0).val ∧ (x 0).val < off 0 + 16 := by
    intro x
    have e : ((mT d i).access (Rect.unit (s := S65536) off S16.size inb)).setOn Finset.univ = (Rect.unit (s := S65536) off S16.size inb).set :=
      View.set_slice_whole cc1_scratch0 _
    rw [e]
    refine Rect.mem_set_unit.trans ⟨fun h => h 0, fun h a => ?_⟩
    match a with
    | ⟨0, _⟩ => exact h
  iintro H
  iapply (wp_store (defs := defs₀ (F := F)) 𝒱₀ (th d i) none Set.univ (m := mT d i) (r := Rect.unit (s := S65536) off S16.size inb) (k := fun x => .ret x) (f := f) (S := S) ?_) $$ H
  · intro x hx
    exact hS x ((hmem x).mp hx).1 ((hmem x).mp hx).2
  iintro H
  iapply (wret d i)
  iapply (Entails.of_eq (pointsTo_congr ?_)) $$ H
  intro x hx
  by_cases hr : off 0 ≤ (x 0).val ∧ (x 0).val < off 0 + 16
  · have ex : x = ix1 ⟨off 0 + (⟨(x 0).val - off 0, by omega⟩ : Fin 16).val, by have h : off 0 + 16 ≤ 65536 := inb 0; have := hr.1; simp only []; omega⟩ := by
      refine (eq_ix1 x).trans (congrArg ix1 (Fin.ext ?_))
      show (x 0).val = off 0 + ((x 0).val - off 0)
      omega
    refine Eq.trans ?_ (Eq.trans (hin ⟨(x 0).val - off 0, by omega⟩).symm (congrArg g ex.symm))
    have ee : ((mT d i).access (Rect.unit (s := S65536) off S16.size inb)).emb (ix1 (⟨(x 0).val - off 0, by omega⟩ : Fin 16)) = x := by
      refine funext fun t => Fin.ext ?_
      match t with
      | ⟨0, _⟩ => show off 0 + 1 * ((x 0).val - off 0) = (x 0).val; omega
    have := View.write_emb_of_mem (v := (mT d i).access (Rect.unit (s := S65536) off S16.size inb)) (Val := Elt F) f w
      (Finset.mem_univ (ix1 (⟨(x 0).val - off 0, by omega⟩ : Fin 16)))
    rw [ee] at this
    exact this
  · rw [View.write_of_not_mem (h := fun h => hr ((hmem x).mp h))]
    exact (hout x hx hr).symm

/-! ## The block cleared -/

/-- One group of the clearing loop. -/
def clear (off : Fin 1 → ℕ) (inb : ∀ a, off a + S16.size a ≤ S65536.size a) : Prog (TpuEff nD τ sig (Elt F) Λ₀ (th d i).2) Unit := do
  let _ ← Prog.lift (.load (mT d i) (Rect.unit (s := S65536) off S16.size inb).toLoadRect (View.loadsAt_vmem h_S16))
  Prog.lift (.store (mT d i) (Rect.unit (s := S65536) off S16.size inb) (k1_pay18 (F := F)) Finset.univ (View.stores_vmem_bits_univ h_S16 rfl) (.inl rfl))
  pure ⟨⟩

/-- `f` with its first `n` elements zero. -/
def zeroed (n : ℕ) (f : S65536.Idx → F .f32) : S65536.Idx → F .f32 := fun x => if (x 0).val < n then Scalar.ofBits .f32 0x00000000#32 else f x

theorem clearWP {off : Fin 1 → ℕ} {inb} {j : ℕ} (h0 : off 0 = 16 * j) (f : S65536.Idx → F .f32) :
    tmp d i (zeroed (16 * j) f) ⊢ WP d i (clear (F := F) d i off inb) (fun _ => tmp d i (zeroed (16 * (j + 1)) f)) := by
  unfold clear
  iintro H
  iapply (wseq d i (wload d i (m := mT d i) (f := zeroed (16 * j) f) (S := Finset.univ) (q := fullShare) (Finset.subset_univ _))) $$ H
  iintro %v ⟨-, H⟩
  iapply (wseq d i (wstore d i (S := Finset.univ) (g := zeroed (16 * (j + 1)) f) (fun x _ _ => Finset.mem_univ x) ?_ ?_)) $$ H
  · intro l
    have := l.isLt
    exact if_pos (show off 0 + l.val < 16 * (j + 1) by omega)
  · intro x _ hx
    unfold zeroed
    refine if_congr ?_ rfl rfl
    omega
  iintro %_ H
  iapply (wret d i); iexact H

/-! ## The grid's pieces, staged -/

/-- Row `h` of the staging buffer, -/
abbrev InG (h : ℕ) : Prop := ∀ a, (![h, 0] : Fin 2 → ℕ) a + S1x8192.size a ≤ S2x8192.size a

abbrev rowG (h : ℕ) (hh : InG h) : Memref sig (th d i).2.kind .vmem S8192 .f32 :=
  ((Memref.whole cc1_scratch3 : Memref sig .scVector .vmem S2x8192 .f32).slice (Rect.unit (s := S2x8192) ![h, 0] S1x8192.size hh) (fun _ => rfl)).squeeze S8192 squeezes_S1x8192_S8192

/-- 8192 elements of the grid, -/
abbrev winG (off : Fin 2 → ℕ) (h : ∀ a, off a + S1x8192.size a ≤ S4x2097152.size a) : Memref sig (th d i).2.kind .hbm S8192 .f32 :=
  ((Memref.whole main_arg0_scv : Memref sig .scVector .hbm S4x2097152 .f32).slice (Rect.unit (s := S4x2097152) off S1x8192.size h) (fun _ => rfl)).squeeze S8192 squeezes_S1x8192_S8192

/-- and of the result. -/
abbrev winO (off : Fin 2 → ℕ) (h : ∀ a, off a + S1x8192.size a ≤ S4x2097152.size a) : Memref sig (th d i).2.kind .hbm S8192 .f32 :=
  ((Memref.whole main_v4_scv : Memref sig .scVector .hbm S4x2097152 .f32).slice (Rect.unit (s := S4x2097152) off S1x8192.size h) (fun _ => rfl)).squeeze S8192 squeezes_S1x8192_S8192

abbrev mG : Memref sig (th d i).2.kind .vmem S2x8192 .f32 := (Memref.whole cc1_scratch3 : Memref sig .scVector .vmem S2x8192 .f32)
abbrev locG : Loc nD τ sig := (Memref.whole main_arg0_scv : Memref sig (th d i).2.kind .hbm S4x2097152 .f32).view.loc (th d i)
abbrev locO : Loc nD τ sig := (Memref.whole main_v4_scv : Memref sig (th d i).2.kind .hbm S4x2097152 .f32).view.loc (th d i)

def gridN : ℕ := sig.dmaCredit .scVector (Kind.scVector.table .vmem) (cc1_scratch3 : Ref sig .scVector).idx S8192 .f32
theorem gridN_pos : 0 < gridN := sig.dmaCredit_pos _ _ _ _ _ (by decide)
theorem gridN_row (h : ℕ) (hh : InG h) : (rowG d i h hh).view.dmaCredit = gridN := rfl

def outN : ℕ := sig.dmaCredit .scVector (Kind.scVector.table .hbm) (main_v4_scv : Ref sig .scVector).idx S8192 .f32
theorem outN_pos : 0 < outN := sig.dmaCredit_pos _ _ _ _ _ (by decide)
theorem outN_win (off : Fin 2 → ℕ) (h) : (winO d i off h).view.dmaCredit = outN := rfl

attribute [irreducible] gridN outN

variable (fG : S4x2097152.Idx → F .f32)

/-- The elements of row `c` of the grid from `n` on, at every row of the staging buffer. -/
def gchunk (c : Fin 4) (n : ℕ) : S2x8192.Idx → F .f32 := fun y => fG (ix2 c (Fin.ofNat 2097152 (n + (y 1).val)))

abbrev hasG (h : ℕ) (hh : InG h) (c : Fin 4) (n : ℕ) : sProp 𝕄 :=
  (rowG d i h hh).view.loc (th d i) ↦[(rowG d i h hh).view.set]{fullShare} gchunk fG c n

theorem memG (h : ℕ) (hh : InG h) (x : S2x8192.Idx) : x ∈ (rowG d i h hh).view.set ↔ (x 0).val = h := by
  unfold View.set
  rw [Finset.mem_map]
  constructor
  · rintro ⟨y, -, hy⟩
    rw [← hy, row_emb]
    rfl
  · intro e
    refine ⟨ix1 (x 1), Finset.mem_univ _, ?_⟩
    rw [row_emb]
    refine (funext fun t => Fin.ext ?_)
    match t with
    | ⟨0, _⟩ => exact e.symm
    | ⟨1, _⟩ => exact Nat.zero_add _

/-- A piece of the grid on its way. -/
abbrev flyG (h : ℕ) (hh : InG h) (c : Fin 4) (n : ℕ) (j : ℕ) : sProp 𝕄 :=
  Bt d i cc1_scratch5.sem gridN (fun _ : Fin 1 => hasG d i fG h hh c n) j 0

theorem startG {h : ℕ} {hh : InG h} {c : Fin 4} {n : ℕ} {off : Fin 2 → ℕ} {inb h1 h2 h3} (h0 : off 0 = c.val) (hn : off 1 = n) :
    iprop(rd (locG d i) fG ∗ (∃ f, (rowG d i h hh).view.loc (th d i) ↦[(rowG d i h hh).view.set]{fullShare} f) ∗ semVal (th d i, SemLoc.dma cc1_scratch5.sem) 0)
      ⊢ WP d i (Prog.lift (.enqueueDma (winG d i off inb) (.here (rowG d i h hh)) (.dma cc1_scratch5.sem) h1 h2 h3))
          (fun _ => iprop(rd (locG d i) fG ∗ flyG d i fG h hh c n 1)) := by
  have hg : (rowG d i h hh).view.read (Elt F) (gchunk fG c n) = (winG d i off inb).view.read (Elt F) fG := by
    funext x
    refine (congrArg (gchunk fG c n) (row_emb _ _ _ _ _ x)).trans (Eq.trans ?_ (congrArg fG (row_emb _ _ _ _ _ x)).symm)
    refine congrArg fG (congrArg₂ ix2 (Fin.ext h0.symm) (Fin.ext ?_))
    have h8 : off 1 + 8192 ≤ 2097152 := inb 1
    have hx : (x 0).val < 8192 := (x 0).isLt
    show (n + (0 + (x 0).val)) % 2097152 = off 1 + (x 0).val
    rw [Nat.mod_eq_of_lt] <;> omega
  iintro ⟨Hr, Hd, Hv⟩
  ihave Hr' := (rd_lend (locG d i) fG (winG d i off inb).view.set) $$ Hr
  icases Hr' with ⟨Hs, Hr⟩
  iapply (fupd_wp _ _ _)
  imod (batch_alloc' EC (c := th d i) (none : HIx 1) gridN (fun _ : Fin 1 => hasG d i fG h hh c n)) $$ Hv with HB
  imodintro
  iapply (wend d i (startB d i (hj := Nat.one_pos) (N := gridN) (gridN_row d i h hh) hg (D := fun _ : Fin 1 => hasG d i fG h hh c n)
    (show _ ⊢ hasG d i fG h hh c n from by iintro ⟨H, -⟩; iexact H))) $$ [Hs Hd HB]
  · isplitl [Hs]; · iexact Hs
    isplitl [Hd]; · iexact Hd
    iexact HB
  · iintro %_ HB
    isplitl [Hr]; · iexact Hr
    iexact HB

theorem waitG {h : ℕ} {hh : InG h} {c : Fin 4} {n : ℕ} {off : Fin 2 → ℕ} {inb h1 h2} :
    iprop(flyG d i fG h hh c n 1 ∗ ow d i O W ∗ MayWaits (th d i) none O)
      ⊢ WP d i (Prog.lift (.waitDma2 cc1_scratch5.sem (winG d i off inb) (rowG d i h hh) h1 h2))
          (fun _ => iprop(hasG d i fG h hh c n ∗ semVal (th d i, SemLoc.dma cc1_scratch5.sem) 0 ∗ ow d i O W)) := by
  iintro H
  iapply (wend d i (waitBL d i O W (N := gridN) (gridN_row d i h hh) gridN_pos (by omega))) $$ H
  iintro %_ ⟨HD, Hv, HO⟩
  ihave HD' := (Entails.of_eq (show bigSep Finset.univ (fun _ : Fin 1 => hasG d i fG h hh c n) = hasG d i fG h hh c n from by
    rw [show (Finset.univ : Finset (Fin 1)) = {0} by decide, bigSep_singleton])) $$ HD
  isplitl [HD']; · iexact HD'
  isplitl [Hv]; · iexact Hv
  iexact HO

/-! ## The merge -/

/-- One element merged: an element of the grid below zero stays, another decays and is raised to the swept value. -/
def mrg (g t : F .f32) : F .f32 :=
  Scalar.select (FloatOps.cmpf .olt g (Scalar.ofBits .f32 0x00000000#32)) g (FloatOps.maximumf (FloatOps.mulf g (Scalar.ofBits .f32 0x3F733333#32)) t)

/-- The block with its first `m` elements merged with row `c` of the grid from `n` on. -/
def mix (c : Fin 4) (n m : ℕ) (A : S65536.Idx → F .f32) : S65536.Idx → F .f32 :=
  fun x => if (x 0).val < m then mrg (fG (ix2 c (Fin.ofNat 2097152 (n + (x 0).val)))) (A x) else A x

theorem pay17_apply (g : Vec F S1x16 .f32) (t : Vec F S16 .f32) (l : Fin 16) : k1_pay17 g t (ix1 l) = mrg (g (ix2 0 l)) (t (ix1 l)) := by
  have e : shapeCast S16 g shapeCasts_S1x16_S16 (ix1 l) = g (ix2 0 l) := by
    refine (shapeCast_dropUnit_apply (n := 1) ![16] g shapeCasts_S1x16_S16 (ix1 l)).trans (congrArg g (funext fun t => ?_))
    match t with
    | ⟨0, _⟩ => rfl
    | ⟨1, _⟩ => rfl
  rw [← e]
  rfl

/-- One group of the merging loop. -/
def merge (off : Fin 2 → ℕ) (inb : ∀ a, off a + S1x16.size a ≤ S2x8192.size a) (off' : Fin 1 → ℕ) (inb' : ∀ a, off' a + S16.size a ≤ S65536.size a) :
    Prog (TpuEff nD τ sig (Elt F) Λ₀ (th d i).2) Unit := do
  let g : Vec F S1x16 .f32 ← Prog.lift (.load (mG d i) (Rect.unit (s := S2x8192) off S1x16.size inb).toLoadRect (View.loadsAt_vmem h_S1x16))
  let t : Vec F S16 .f32 ← Prog.lift (.load (mT d i) (Rect.unit (s := S65536) off' S16.size inb').toLoadRect (View.loadsAt_vmem h_S16))
  let _ ← Prog.lift (.load (mT d i) (Rect.unit (s := S65536) off' S16.size inb').toLoadRect (View.loadsAt_vmem h_S16))
  Prog.lift (.store (mT d i) (Rect.unit (s := S65536) off' S16.size inb') (k1_pay17 g t) Finset.univ (View.stores_vmem_bits_univ h_S16 rfl) (.inl rfl))
  pure ⟨⟩

/-- The block from piece `p` on. -/
def tail (p : ℕ) : Finset S65536.Idx := Finset.univ.filter fun x => 8192 * p ≤ (x 0).val

/-- The part of the block not yet on its way, merged up to `m`. -/
abbrev tmpM (c : Fin 4) (n p m : ℕ) (A : S65536.Idx → F .f32) : sProp 𝕄 := (mT d i).view.loc (th d i) ↦[tail p]{fullShare} mix fG c n m A

theorem mergeWP {h : ℕ} {hh : InG h} {c : Fin 4} {n p j : ℕ} (hj : j < 512) {off : Fin 2 → ℕ} {inb} {off' : Fin 1 → ℕ} {inb'} (A : S65536.Idx → F .f32)
    (h0 : off 0 = h) (h1 : off 1 = 16 * j) (h' : off' 0 = 8192 * p + 16 * j) :
    iprop(hasG d i fG h hh c (n + 8192 * p) ∗ tmpM d i fG c n p (8192 * p + 16 * j) A)
      ⊢ WP d i (merge (F := F) d i off inb off' inb') (fun _ => iprop(hasG d i fG h hh c (n + 8192 * p) ∗ tmpM d i fG c n p (8192 * p + 16 * (j + 1)) A)) := by
  have hb : off' 0 + 16 ≤ 65536 := inb' 0
  have hT : ∀ x : S65536.Idx, off' 0 ≤ (x 0).val → (x 0).val < off' 0 + 16 → x ∈ tail p := fun x h _ =>
    Finset.mem_filter.mpr ⟨Finset.mem_univ _, by omega⟩
  have hL : (mT d i).view.setOn (Rect.unit (s := S65536) off' S16.size inb').toLoadRect.set ⊆ tail p := by
    intro x hx
    have hx' := (View.mem_setOn (v := (mT d i).view) (x := x)).mp hx
    have := (Rect.mem_set_unit.mp hx') 0
    exact hT x this.1 this.2
  unfold merge
  iintro ⟨HG, HT⟩
  iapply (wseq d i (wload d i (m := mG d i) (f := gchunk fG c (n + 8192 * p)) (S := (rowG d i h hh).view.set) (q := fullShare) ?_)) $$ HG
  · intro x hx
    have hx' := (View.mem_setOn (v := (mG d i).view) (x := x)).mp hx
    have := (Rect.mem_set_unit.mp hx') 0
    have h2 : off 0 ≤ (x 0).val ∧ (x 0).val < off 0 + 1 := this
    exact (memG d i h hh x).mpr (by omega)
  iintro %g ⟨%hg, HG⟩
  iapply (wseq d i (wload d i (m := mT d i) (f := mix fG c n (8192 * p + 16 * j) A) (S := tail p) (q := fullShare) hL)) $$ HT
  iintro %t ⟨%ht, HT⟩
  iapply (wseq d i (wload d i (m := mT d i) (f := mix fG c n (8192 * p + 16 * j) A) (S := tail p) (q := fullShare) hL)) $$ HT
  iintro %_ ⟨-, HT⟩
  iapply (wseq d i (wstore d i (S := tail p) (g := mix fG c n (8192 * p + 16 * (j + 1)) A) hT ?_ ?_)) $$ HT
  · intro l
    have hl := l.isLt
    rw [pay17_apply]
    refine (if_pos (show off' 0 + l.val < 8192 * p + 16 * (j + 1) by omega)).trans (congrArg₂ mrg ?_ ?_)
    · rw [hg]
      show fG _ = fG (ix2 c (Fin.ofNat 2097152 (n + 8192 * p + (off 1 + 1 * l.val))))
      refine congrArg (fun m => fG (ix2 c (Fin.ofNat 2097152 m))) ?_
      show n + (off' 0 + l.val) = n + 8192 * p + (off 1 + 1 * l.val)
      omega
    · rw [ht]
      have e : (Rect.unit (s := S65536) off' S16.size inb').emb (ix1 l) = ix1 ⟨off' 0 + l.val, by omega⟩ := by
        refine funext fun t => Fin.ext ?_
        match t with
        | ⟨0, _⟩ => show off' 0 + 1 * l.val = off' 0 + l.val; omega
      refine Eq.trans ?_ (congrArg (mix fG c n (8192 * p + 16 * j) A) e).symm
      exact (if_neg (show ¬ off' 0 + l.val < 8192 * p + 16 * j by omega)).symm
  · intro x hx hn
    have : 8192 * p ≤ (x 0).val := (Finset.mem_filter.mp hx).2
    exact if_congr (by omega) rfl rfl
  iintro %_ HT
  iapply (wret d i)
  isplitl [HG]; · iexact HG
  iexact HT

/-- The loop over one piece. -/
theorem mergeRow {h : ℕ} {hh : InG h} {c : Fin 4} {n p : ℕ} {w : ℕ} (L : Scf.Loop w) (hL : L.trips = 512) (hok : L.OK)
    (body : Fin L.trips → Unit → Prog (TpuEff nD τ sig (Elt F) Λ₀ (th d i).2) Unit) (off : Fin L.trips → Fin 2 → ℕ)
    (inb : ∀ j, ∀ a, off j a + S1x16.size a ≤ S2x8192.size a) (off' : Fin L.trips → Fin 1 → ℕ) (inb' : ∀ j, ∀ a, off' j a + S16.size a ≤ S65536.size a)
    (hbody : ∀ j, body j ⟨⟩ = merge d i (off j) (inb j) (off' j) (inb' j)) (hoff : ∀ j, off j 0 = h ∧ off j 1 = 16 * j.val)
    (hoff' : ∀ j, off' j 0 = 8192 * p + 16 * j.val) (A : S65536.Idx → F .f32) :
    iprop(hasG d i fG h hh c (n + 8192 * p) ∗ tmpM d i fG c n p (8192 * p) A)
      ⊢ WP d i (Scf.Loop.for L hok ⟨⟩ body) (fun _ => iprop(hasG d i fG h hh c (n + 8192 * p) ∗ tmpM d i fG c n p (8192 * (p + 1)) A)) := by
  have h := wfor d i L hok body (fun j => iprop(hasG d i fG h hh c (n + 8192 * p) ∗ tmpM d i fG c n p (8192 * p + 16 * j) A))
    (fun j => by rw [hbody j]; exact mergeWP d i fG (hL ▸ j.isLt) A (hoff j).1 (hoff j).2 (hoff' j))
  rw [hL, show 8192 * p + 16 * 512 = 8192 * (p + 1) by omega, show 8192 * p + 16 * 0 = 8192 * p by omega] at h
  exact h

end Cert.Proof.Dens

end
-- ==== Proof.Out.lean ====
/-
  The merged pieces on their way to the result: eight copies on one semaphore, each of a piece of the tile's block to its
  window of the result's row, and what the tile holds of the result before and after.
-/
module

public import proofs.«01_k».proof.Proof.Merge

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32) (fG : S4x2097152.Idx → F .f32)

/-- The block after all the samples of row `c`. -/
abbrev swept (c : Fin 4) : S65536.Idx → F .f32 := sweep (baseW i) fI fD c 1048576

/-- The result: each element of the grid merged with its block's swept value. -/
def outFn : S4x2097152.Idx → F .f32 := fun y =>
  mrg (fG y) (sweep (BitVec.ofNat 32 ((y 1).val / 65536 * 65536)) fI fD (y 0) 1048576 (ix1 ⟨(y 1).val % 65536, Nat.mod_lt _ (by decide)⟩))

/-- At the tile's own elements it is the merged block. -/
theorem outFn_at (c : Fin 4) (m : ℕ) (x : S65536.Idx) (hx : (x 0).val < m) (h) :
    outFn fI fD fG (ix2 c ⟨base i + (x 0).val, h⟩) = mix fG c (base i) m (swept i fI fD c) x := by
  have hx6 : (x 0).val < 65536 := (x 0).isLt
  have hdv : base i % 65536 = 0 := by unfold base; omega
  have hb := base_lt i
  refine Eq.trans ?_ (if_pos hx).symm
  refine congrArg₂ mrg (congrArg (fun n => fG (ix2 c n)) (Fin.ext ?_)) ?_
  · show base i + (x 0).val = (base i + (x 0).val) % 2097152
    rw [Nat.mod_eq_of_lt]; omega
  · have e1 : (base i + (x 0).val) / 65536 * 65536 = base i := by omega
    have e2 : (base i + (x 0).val) % 65536 = (x 0).val := by omega
    have e3 : BitVec.ofNat 32 (base i) = baseW i := by
      apply BitVec.eq_of_toNat_eq
      rw [baseW_toNat, BitVec.toNat_ofNat]
      exact Nat.mod_eq_of_lt (by omega)
    show sweep (BitVec.ofNat 32 ((base i + (x 0).val) / 65536 * 65536)) fI fD c 1048576 (ix1 ⟨(base i + (x 0).val) % 65536, _⟩) = _
    rw [e1, e3]
    refine congrArg (sweep (baseW i) fI fD c 1048576) ((congrArg ix1 (Fin.ext e2)).trans (eq_ix1 x).symm)

/-- Piece `p` of the block, -/
def piece (p : ℕ) : Finset S65536.Idx := Finset.univ.filter fun x => 8192 * p ≤ (x 0).val ∧ (x 0).val < 8192 * (p + 1)

/-- and its window of row `c` of the result. -/
def win (c : Fin 4) (p : ℕ) : Finset S4x2097152.Idx :=
  Finset.univ.filter fun y => (y 0).val = c.val ∧ base i + 8192 * p ≤ (y 1).val ∧ (y 1).val < base i + 8192 * (p + 1)

theorem set_piece {off : Fin 1 → ℕ} {inb} {p : ℕ} (h0 : off 0 = 8192 * p) :
    ((mT d i).slice (Rect.unit (s := S65536) off S8192.size inb) (fun _ => rfl)).view.set = piece p := by
  refine (View.set_slice_whole cc1_scratch0 (Rect.unit (s := S65536) off S8192.size inb)).trans (Finset.ext fun x => ?_)
  rw [Rect.mem_set_unit]
  refine Iff.trans (b := off 0 ≤ (x 0).val ∧ (x 0).val < off 0 + 8192) ⟨fun h => h 0, fun h a => ?_⟩ ?_
  · match a with
    | ⟨0, _⟩ => exact h
  · unfold piece
    rw [Finset.mem_filter]
    constructor
    · rintro ⟨h1, h2⟩; exact ⟨Finset.mem_univ _, by omega, by omega⟩
    · rintro ⟨-, h1, h2⟩; exact ⟨by omega, by omega⟩

theorem set_win {off : Fin 2 → ℕ} {inb} {c : Fin 4} {p : ℕ} (h0 : off 0 = c.val) (h1 : off 1 = base i + 8192 * p) :
    (winO d i off inb).view.set = win i c p := by
  refine Finset.ext fun y => ?_
  unfold View.set win
  rw [Finset.mem_map, Finset.mem_filter]
  constructor
  · rintro ⟨x, -, hx⟩
    rw [← hx, row_emb]
    have hx8 : (x 0).val < 8192 := (x 0).isLt
    refine ⟨Finset.mem_univ _, h0, ?_, ?_⟩
    · show base i + 8192 * p ≤ off 1 + (x 0).val; omega
    · show off 1 + (x 0).val < base i + 8192 * (p + 1); omega
  · rintro ⟨-, e0, e1, e2⟩
    refine ⟨ix1 ⟨(y 1).val - off 1, by omega⟩, Finset.mem_univ _, ?_⟩
    rw [row_emb]
    refine (funext fun t => Fin.ext ?_)
    match t with
    | ⟨0, _⟩ => exact h0.trans e0.symm
    | ⟨1, _⟩ => show off 1 + ((y 1).val - off 1) = (y 1).val; omega

/-- What the copy of piece `p` delivers. -/
def outD (c : Fin 4) (p : Fin 8) : sProp 𝕄 :=
  iprop(((mT d i).view.loc (th d i) ↦[piece p.val]{fullShare} mix fG c (base i) 65536 (swept i fI fD c)) ∗ (locO d i ↦[win i c p.val]{fullShare} outFn fI fD fG))

instance outD_storable (c : Fin 4) (p : Fin 8) : Storable (upEmb : UEmb _ 𝕄) (outD d i fI fD fG c p) := by
  unfold outD; infer_instance

/-- The tile's windows from number `n` on (of four rows of eight), -/
def todo (n : ℕ) : Finset S4x2097152.Idx :=
  Finset.univ.filter fun y => base i ≤ (y 1).val ∧ (y 1).val < base i + 65536 ∧ n ≤ 8 * (y 0).val + ((y 1).val - base i) / 8192

/-- and the rows below `c`. -/
def done (c : ℕ) : Finset S4x2097152.Idx :=
  Finset.univ.filter fun y => base i ≤ (y 1).val ∧ (y 1).val < base i + 65536 ∧ (y 0).val < c

/-- The windows not yet written, -/
def outTodo (n : ℕ) : sProp 𝕄 := iprop(∃ f, locO d i ↦[todo i n]{fullShare} f)

/-- and the rows written. -/
def outDone (c : ℕ) : sProp 𝕄 := locO d i ↦[done i c]{fullShare} outFn fI fD fG

theorem win_todo {b c p x0 x1 : ℕ} (hp : p < 8) (h : x0 = c ∧ b + 8192 * p ≤ x1 ∧ x1 < b + 8192 * (p + 1)) :
    b ≤ x1 ∧ x1 < b + 65536 ∧ 8 * c + p ≤ 8 * x0 + (x1 - b) / 8192 := by
  obtain ⟨h0, h1, h2⟩ := h
  have h3 : b ≤ x1 := Nat.le_trans (Nat.le_add_right _ _) h1
  have h4 : x1 < b + 65536 := Nat.lt_of_lt_of_le h2 (Nat.add_le_add_left (Nat.mul_le_mul_left 8192 hp) b)
  have : p ≤ (x1 - b) / 8192 := (Nat.le_div_iff_mul_le (by decide)).mpr (by omega)
  exact ⟨h3, h4, h0 ▸ Nat.add_le_add_left this _⟩

theorem todo_win {b c p x0 x1 : ℕ} (hp : p < 8) :
    (b ≤ x1 ∧ x1 < b + 65536 ∧ 8 * c + p ≤ 8 * x0 + (x1 - b) / 8192) ∧ ¬(x0 = c ∧ b + 8192 * p ≤ x1 ∧ x1 < b + 8192 * (p + 1))
      ↔ b ≤ x1 ∧ x1 < b + 65536 ∧ 8 * c + (p + 1) ≤ 8 * x0 + (x1 - b) / 8192 := by
  by_cases hb : b ≤ x1 ∧ x1 < b + 65536
  · have h1 := Nat.div_add_mod (x1 - b) 8192
    have h2 := Nat.mod_lt (x1 - b) (show 8192 > 0 by decide)
    generalize (x1 - b) / 8192 = q at *
    generalize (x1 - b) % 8192 = r at *
    have hq : q < 8 := by omega
    constructor
    · rintro ⟨⟨-, -, h⟩, hn⟩
      refine ⟨hb.1, hb.2, ?_⟩
      by_contra hc
      have e : 8 * c + p = 8 * x0 + q := by omega
      have e0 : x0 = c := by omega
      have e1 : q = p := by omega
      exact hn ⟨e0, by omega, by omega⟩
    · rintro ⟨-, -, h⟩
      refine ⟨⟨hb.1, hb.2, by omega⟩, ?_⟩
      rintro ⟨e0, e1, e2⟩
      have : q < p + 1 := by omega
      omega
  · constructor
    · rintro ⟨⟨h1, h2, -⟩, -⟩; exact absurd ⟨h1, h2⟩ hb
    · rintro ⟨h1, h2, -⟩; exact absurd ⟨h1, h2⟩ hb

theorem take_win (c : Fin 4) (p : ℕ) (hp : p < 8) :
    outTodo (F := F) d i (8 * c.val + p) ⊢ iprop((∃ f, locO d i ↦[win i c p]{fullShare} f) ∗ outTodo d i (8 * c.val + (p + 1))) := by
  have hsub : win i c p ⊆ todo i (8 * c.val + p) := by
    intro y hy
    exact Finset.mem_filter.mpr ⟨Finset.mem_univ _, win_todo hp (Finset.mem_filter.mp hy).2⟩
  have hd : todo i (8 * c.val + p) \ win i c p = todo i (8 * c.val + (p + 1)) := by
    ext y
    unfold todo win
    simp only [Finset.mem_sdiff, Finset.mem_filter, Finset.mem_univ, _root_.true_and]
    exact todo_win hp
  unfold outTodo
  iintro ⟨%f, H⟩
  ihave H' := (pointsTo_split_subset hsub).1 $$ H
  icases H' with ⟨H1, H2⟩
  rw [hd]
  isplitl [H1]
  · iexists f; iexact H1
  · iexists f; iexact H2

/-- The issue of one piece's copy. -/
theorem startO {c : Fin 4} {p : ℕ} (hp : p < 8) {off : Fin 1 → ℕ} {inb} {off' : Fin 2 → ℕ} {inb' h1 h2 h3}
    (h0 : off 0 = 8192 * p) (h0' : off' 0 = c.val) (h1' : off' 1 = base i + 8192 * p) :
    iprop(tmpM d i fG c (base i) p (8192 * (p + 1)) (swept i fI fD c) ∗ outTodo d i (8 * c.val + p) ∗ Bt d i cc1_scratch6.sem outN (outD d i fI fD fG c) p 0)
      ⊢ WP d i (Prog.lift (.enqueueDma ((mT d i).slice (Rect.unit (s := S65536) off S8192.size inb) (fun _ => rfl)) (.here (winO d i off' inb')) (.dma cc1_scratch6.sem) h1 h2 h3))
          (fun _ => iprop(tmpM d i fG c (base i) (p + 1) (8192 * (p + 1)) (swept i fI fD c) ∗ outTodo d i (8 * c.val + (p + 1)) ∗ Bt d i cc1_scratch6.sem outN (outD d i fI fD fG c) (p + 1) 0)) := by
  have hsub : piece p ⊆ tail p := fun x hx => Finset.mem_filter.mpr ⟨Finset.mem_univ _, (Finset.mem_filter.mp hx).2.1⟩
  have hd : tail p \ piece p = tail (p + 1) := by
    ext x
    unfold tail piece
    simp only [Finset.mem_sdiff, Finset.mem_filter, Finset.mem_univ, _root_.true_and]
    omega
  have hg : (winO d i off' inb').view.read (Elt F) (outFn fI fD fG)
      = ((mT d i).slice (Rect.unit (s := S65536) off S8192.size inb) (fun _ => rfl)).view.read (Elt F) (mix fG c (base i) (8192 * (p + 1)) (swept i fI fD c)) := by
    funext x
    have hx : (x 0).val < 8192 := (x 0).isLt
    have hb := base_lt i
    refine (congrArg (outFn fI fD fG) (row_emb _ _ _ _ _ x)).trans ?_
    have e : ((mT d i).slice (Rect.unit (s := S65536) off S8192.size inb) (fun _ => rfl)).view.emb x = ix1 ⟨8192 * p + (x 0).val, by omega⟩ := by
      refine funext fun t => Fin.ext ?_
      match t with
      | ⟨0, _⟩ => show off 0 + 1 * (x 0).val = 8192 * p + (x 0).val; omega
    refine Eq.trans ?_ (congrArg (mix fG c (base i) (8192 * (p + 1)) (swept i fI fD c)) e).symm
    refine Eq.trans (congrArg (outFn fI fD fG) (congrArg₂ ix2 (Fin.ext h0') (Fin.ext ?_)))
      (outFn_at i fI fD fG c (8192 * (p + 1)) (ix1 ⟨8192 * p + (x 0).val, by omega⟩) (show 8192 * p + (x 0).val < _ by omega)
        (show base i + (8192 * p + (x 0).val) < _ by omega))
    show off' 1 + (x 0).val = base i + (8192 * p + (x 0).val)
    omega
  iintro ⟨HT, HO, HB⟩
  ihave HT' := (pointsTo_split_subset hsub).1 $$ HT
  icases HT' with ⟨HT1, HT2⟩
  rw [hd]
  ihave HO' := (take_win d i c p hp) $$ HO
  icases HO' with ⟨HO1, HO2⟩
  iapply (wend d i (startQ d i (hj := hp) (N := outN) (outN_win d i off' inb') fullShare hg (D := outD d i fI fD fG c) ?_)) $$ [HT1 HO1 HB]
  · rw [set_piece d i h0, set_win d i h0' h1']
    unfold outD
    iintro ⟨H1, H2⟩
    isplitl [H2]
    · iapply (Entails.of_eq (pointsTo_congr ?_)) $$ H2
      intro x hx
      obtain ⟨-, hx1, hx2⟩ := Finset.mem_filter.mp hx
      have hx6 : (x 0).val < 65536 := (x 0).isLt
      exact if_congr (by omega) rfl rfl
    · iexact H1
  · rw [set_piece d i h0, set_win d i h0' h1']
    isplitl [HT1]; · iexact HT1
    isplitl [HO1]; · iexact HO1
    iexact HB
  · iintro %_ HB
    isplitl [HT2]; · iexact HT2
    isplitl [HO2]; · iexact HO2
    iexact HB

/-- The eight copies of a row collected: the block is whole again and the row is written. -/
theorem collect (c : Fin 4) :
    iprop(bigSep Finset.univ (outD d i fI fD fG c) ∗ outDone d i fI fD fG c.val)
      ⊢ iprop((∃ f, tmp d i f) ∗ outDone d i fI fD fG (c.val + 1)) := by
  have hT : Finset.univ.biUnion (fun p : Fin 8 => piece p.val) = (Finset.univ : Finset S65536.Idx) := by
    ext x
    simp only [Finset.mem_biUnion, Finset.mem_univ, _root_.true_and, iff_true]
    have hx6 : (x 0).val < 65536 := (x 0).isLt
    exact ⟨⟨(x 0).val / 8192, by omega⟩, Finset.mem_filter.mpr ⟨Finset.mem_univ _, by simp only []; omega, by simp only []; omega⟩⟩
  have hO : done i c.val ∪ Finset.univ.biUnion (fun p : Fin 8 => win i c p.val) = done i (c.val + 1) := by
    ext y
    simp only [Finset.mem_union, Finset.mem_biUnion, Finset.mem_univ, _root_.true_and]
    unfold done win
    simp only [Finset.mem_filter, Finset.mem_univ, _root_.true_and]
    constructor
    · rintro (h | ⟨p, h⟩)
      · omega
      · have := p.isLt; omega
    · intro h
      by_cases hc : (y 0).val < c.val
      · exact .inl ⟨h.1, h.2.1, hc⟩
      · exact .inr ⟨⟨((y 1).val - base i) / 8192, by omega⟩, by simp only []; omega⟩
  have hdT : ∀ p ∈ (Finset.univ : Finset (Fin 8)), ∀ p' ∈ (Finset.univ : Finset (Fin 8)), p ≠ p' → Disjoint (piece p.val) (piece p'.val) := by
    intro p _ p' _ hne
    rw [Finset.disjoint_left]
    intro x h1 h2
    have h1 := (Finset.mem_filter.mp h1).2
    have h2 := (Finset.mem_filter.mp h2).2
    exact hne (Fin.ext (by omega))
  have hdO : ∀ p ∈ (Finset.univ : Finset (Fin 8)), ∀ p' ∈ (Finset.univ : Finset (Fin 8)), p ≠ p' → Disjoint (win i c p.val) (win i c p'.val) := by
    intro p _ p' _ hne
    rw [Finset.disjoint_left]
    intro x h1 h2
    have h1 := (Finset.mem_filter.mp h1).2
    have h2 := (Finset.mem_filter.mp h2).2
    exact hne (Fin.ext (by omega))
  have hdd : Disjoint (done i c.val) (Finset.univ.biUnion (fun p : Fin 8 => win i c p.val)) := by
    rw [Finset.disjoint_left]
    intro y h1 h2
    obtain ⟨p, -, h2⟩ := Finset.mem_biUnion.mp h2
    have h1 := (Finset.mem_filter.mp h1).2
    have h2 := (Finset.mem_filter.mp h2).2
    omega
  unfold outDone
  iintro ⟨HD, HO⟩
  ihave HD' := (Entails.of_eq (show bigSep Finset.univ (outD d i fI fD fG c) = iprop(((mT d i).view.loc (th d i) ↦[Finset.univ]{fullShare} mix fG c (base i) 65536 (swept i fI fD c))
      ∗ (locO d i ↦[Finset.univ.biUnion (fun p : Fin 8 => win i c p.val)]{fullShare} outFn fI fD fG)) from by
    rw [← hT, pointsTo_biUnion _ _ hdT, pointsTo_biUnion _ _ hdO]; exact bigSep_sep _ _ _)) $$ HD
  icases HD' with ⟨H1, H2⟩
  isplitl [H1]
  · iexists _; iexact H1
  · rw [← hO]
    iapply (pointsTo_union hdd).2
    isplitl [HO]; · iexact HO
    iexact H2

end Cert.Proof.Dens

end
-- ==== Proof.Tile.lean ====
/-
  The samples of one row: the ring of four slots, each waited for, swept into the tile's block and refilled.
-/
module

public import proofs.«01_k».proof.Proof.Out

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32)

/-! ## Rules with their continuations -/

theorem cps2 {α β : Type} {p : Prog (TpuEff nD τ sig (Elt F) Λ₀ (th d i).2) α} {A B : sProp 𝕄} {R : α → sProp 𝕄} (h : iprop(A ∗ B) ⊢ WP d i p R)
    {k : α → Prog (TpuEff nD τ sig (Elt F) Λ₀ (th d i).2) β} {Q : β → sProp 𝕄} :
    A ⊢ iprop(B -∗ (∀ r, R r -∗ WP d i (k r) Q) -∗ WP d i (p >>= k) Q) := by
  iintro HA HB
  iapply (wseq d i h)
  isplitl [HA]; · iexact HA
  iexact HB

theorem cps3 {α β : Type} {p : Prog (TpuEff nD τ sig (Elt F) Λ₀ (th d i).2) α} {A B C : sProp 𝕄} {R : α → sProp 𝕄} (h : iprop(A ∗ B ∗ C) ⊢ WP d i p R)
    {k : α → Prog (TpuEff nD τ sig (Elt F) Λ₀ (th d i).2) β} {Q : β → sProp 𝕄} :
    A ⊢ iprop(B -∗ C -∗ (∀ r, R r -∗ WP d i (k r) Q) -∗ WP d i (p >>= k) Q) := by
  iintro HA HB HC
  iapply (wseq d i h)
  isplitl [HA]; · iexact HA
  isplitl [HB]; · iexact HB
  iexact HC

/-! ## One trip -/

theorem in0 : InS 0 := by decide
theorem in1 : InS 1 := by decide
theorem in2 : InS 2 := by decide
theorem in3 : InS 3 := by decide
theorem ir0 : InR 0 := by decide
theorem ir1 : InR 1 := by decide
theorem ir2 : InR 2 := by decide
theorem ir3 : InR 3 := by decide

/-- Slot `b` empty. -/
def free (b : ℕ) (hs : InS b) (hb : InR b) : sProp 𝕄 :=
  iprop((∃ f, (rowI d i b hb).view.loc (th d i) ↦[(rowI d i b hb).view.set]{fullShare} f)
    ∗ (∃ f, (rowD d i b hb).view.loc (th d i) ↦[(rowD d i b hb).view.set]{fullShare} f) ∗ semVal (th d i, SemLoc.dma (semOf b hs)) 0)

/-- The slot filling with chunk `k` of row `c`. -/
abbrev fly (b : ℕ) (hs : InS b) (hb : InR b) (c : Fin 4) (k : ℕ) : sProp 𝕄 := slot d i fI fD b hs hb c k 2 0

theorem part1 (c : Fin 4) (t1 : Fin k1_t1_loop.trips) (t3 : Fin k1_t3_loop.trips) (k : ℕ) :
    iprop(fly d i fI fD 0 in0 ir0 c k ∗ tmp d i (sweep (baseW i) fI fD c (4096 * k)) ∗ ow d i O W ∗ MayWaits (th d i) none O)
      ⊢ WP d i (k1_part1 (F := F) i (Memref.whole main_arg0_scv) (Memref.isWhole_whole _) (Memref.whole main_arg1_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 0#32 1#32 t3)
        (fun _ => iprop(free d i 0 in0 ir0 ∗ tmp d i (sweep (baseW i) fI fD c (4096 * (k + 1))) ∗ ow d i O W)) := by
  rw [k1_part1_eq_skeleton]
  unfold k1_part1_skel
  dsimp only
  iintro ⟨HS, HT, HO, #HM⟩
  iapply (cps3 d i (waitI d i O W fI fD)) $$ HS HO HM
  iintro %_ ⟨HS, HO⟩
  iapply (cps3 d i (waitD d i O W fI fD)) $$ HS HO HM
  iintro %_ ⟨HI, HD, HV, HO⟩
  iapply (cps3 d i (scatRow d i (baseW i) fI fD k1_t4_loop rfl k1_t4_ok _ k1_off3 k1_off3_inb (fun _ => rfl) off3)) $$ HI HD HT
  iintro %_ ⟨HI, HD, HT⟩
  iapply (wret d i)
  isplitl [HI HD HV]
  · unfold free
    isplitl [HI]; · iexists _; iexact HI
    isplitl [HD]; · iexists _; iexact HD
    iexact HV
  isplitl [HT]; · iexact HT
  iexact HO

theorem part2 (c : Fin 4) (t1 : Fin k1_t1_loop.trips) (hc : t1.val = c.val) (t3 : Fin k1_t3_loop.trips) (w : BitVec 32) (k : ℕ) :
    iprop(rd (locI d i) fI ∗ rd (locD d i) fD ∗ free d i 0 in0 ir0 ∗ fly d i fI fD 1 in1 ir1 c k ∗ ow d i O W ∗ MayWaits (th d i) none O)
      ⊢ WP d i (k1_part2 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 t1 t3 w)
        (fun _ => iprop(rd (locI d i) fI ∗ rd (locD d i) fD ∗ fly d i fI fD 0 in0 ir0 c (min (4 * (t3.val + 1) + 0) 255)
          ∗ hasI d i fI 1 ir1 c k ∗ hasD d i fD 1 ir1 c k ∗ semVal (th d i, SemLoc.dma (semOf 1 in1)) 0 ∗ ow d i O W)) := by
  rw [k1_part2_eq_skeleton]
  unfold k1_part2_skel free
  dsimp only
  have h4 := off4 t1 t3 0
  iintro ⟨HRI, HRD, ⟨HI, HD, HV⟩, HS, HO, #HM⟩
  iapply (cps3 d i (startI d i fI fD (b := 0) (hs := in0) (hb := ir0) (h4.1.trans hc) h4.2)) $$ HRI HI HV
  iintro %_ ⟨HRI, HF⟩
  iapply (cps3 d i (startD d i fI fD (b := 0) (hs := in0) (hb := ir0) (h4.1.trans hc) h4.2)) $$ HRD HD HF
  iintro %_ ⟨HRD, HF⟩
  iapply (cps3 d i (waitI d i O W fI fD)) $$ HS HO HM
  iintro %_ ⟨HS, HO⟩
  iapply (cps3 d i (waitD d i O W fI fD)) $$ HS HO HM
  iintro %_ ⟨HI, HD, HV, HO⟩
  iapply (wret d i)
  isplitl [HRI]; · iexact HRI
  isplitl [HRD]; · iexact HRD
  isplitl [HF]; · iexact HF
  isplitl [HI]; · iexact HI
  isplitl [HD]; · iexact HD
  isplitl [HV]; · iexact HV
  iexact HO

theorem part3 (c : Fin 4) (t1 : Fin k1_t1_loop.trips) (hc : t1.val = c.val) (t3 : Fin k1_t3_loop.trips) (w w' : BitVec 32) (k : ℕ) :
    iprop(rd (locI d i) fI ∗ rd (locD d i) fD ∗ (hasI d i fI 1 ir1 c k ∗ hasD d i fD 1 ir1 c k ∗ semVal (th d i, SemLoc.dma (semOf 1 in1)) 0)
        ∗ tmp d i (sweep (baseW i) fI fD c (4096 * k)))
      ⊢ WP d i (k1_part3 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 t3 w w')
        (fun _ => iprop(rd (locI d i) fI ∗ rd (locD d i) fD ∗ fly d i fI fD 1 in1 ir1 c (min (4 * (t3.val + 1) + 1) 255)
          ∗ tmp d i (sweep (baseW i) fI fD c (4096 * (k + 1))))) := by
  rw [k1_part3_eq_skeleton]
  unfold k1_part3_skel
  dsimp only
  have h4 := off4 t1 t3 1
  iintro ⟨HRI, HRD, ⟨HI, HD, HV⟩, HT⟩
  iapply (cps3 d i (scatRow d i (baseW i) fI fD k1_t5_loop rfl k1_t5_ok _ k1_off5 k1_off5_inb (fun _ => rfl) off5)) $$ HI HD HT
  iintro %_ ⟨HI, HD, HT⟩
  iapply (cps3 d i (startI d i fI fD (b := 1) (hs := in1) (hb := ir1) (h4.1.trans hc) h4.2)) $$ HRI [HI] HV
  · iexists _; iexact HI
  iintro %_ ⟨HRI, HF⟩
  iapply (cps3 d i (startD d i fI fD (b := 1) (hs := in1) (hb := ir1) (h4.1.trans hc) h4.2)) $$ HRD [HD] HF
  · iexists _; iexact HD
  iintro %_ ⟨HRD, HF⟩
  iapply (wret d i)
  isplitl [HRI]; · iexact HRI
  isplitl [HRD]; · iexact HRD
  isplitl [HF]; · iexact HF
  iexact HT

theorem part4 (c : Fin 4) (t1 : Fin k1_t1_loop.trips) (hc : t1.val = c.val) (t3 : Fin k1_t3_loop.trips) (w : BitVec 32) (k : ℕ) :
    iprop(rd (locI d i) fI ∗ fly d i fI fD 2 in2 ir2 c k ∗ tmp d i (sweep (baseW i) fI fD c (4096 * k)) ∗ ow d i O W ∗ MayWaits (th d i) none O)
      ⊢ WP d i (k1_part4 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 t3 w)
        (fun _ => iprop(rd (locI d i) fI ∗ slot d i fI fD 2 in2 ir2 c (min (4 * (t3.val + 1) + 2) 255) 1 0 ∗ hasD d i fD 2 ir2 c k
          ∗ tmp d i (sweep (baseW i) fI fD c (4096 * (k + 1))) ∗ ow d i O W)) := by
  rw [k1_part4_eq_skeleton]
  unfold k1_part4_skel
  dsimp only
  have h4 := off4 t1 t3 2
  iintro ⟨HRI, HS, HT, HO, #HM⟩
  iapply (cps3 d i (waitI d i O W fI fD)) $$ HS HO HM
  iintro %_ ⟨HS, HO⟩
  iapply (cps3 d i (waitD d i O W fI fD)) $$ HS HO HM
  iintro %_ ⟨HI, HD, HV, HO⟩
  iapply (cps3 d i (scatRow d i (baseW i) fI fD k1_t6_loop rfl k1_t6_ok _ k1_off6 k1_off6_inb (fun _ => rfl) off6)) $$ HI HD HT
  iintro %_ ⟨HI, HD, HT⟩
  iapply (cps3 d i (startI d i fI fD (b := 2) (hs := in2) (hb := ir2) (h4.1.trans hc) h4.2)) $$ HRI [HI] HV
  · iexists _; iexact HI
  iintro %_ ⟨HRI, HF⟩
  iapply (wret d i)
  isplitl [HRI]; · iexact HRI
  isplitl [HF]; · iexact HF
  isplitl [HD]; · iexact HD
  isplitl [HT]; · iexact HT
  iexact HO

theorem part5 (c : Fin 4) (t1 : Fin k1_t1_loop.trips) (hc : t1.val = c.val) (t3 : Fin k1_t3_loop.trips) (w : BitVec 32) (k k' : ℕ) :
    iprop(rd (locD d i) fD ∗ (slot d i fI fD 2 in2 ir2 c (min (4 * (t3.val + 1) + 2) 255) 1 0 ∗ hasD d i fD 2 ir2 c k')
        ∗ fly d i fI fD 3 in3 ir3 c k ∗ tmp d i (sweep (baseW i) fI fD c (4096 * k)) ∗ ow d i O W ∗ MayWaits (th d i) none O)
      ⊢ WP d i (k1_part5 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 t3 w)
        (fun _ => iprop(rd (locD d i) fD ∗ fly d i fI fD 2 in2 ir2 c (min (4 * (t3.val + 1) + 2) 255) ∗ free d i 3 in3 ir3
          ∗ tmp d i (sweep (baseW i) fI fD c (4096 * (k + 1))) ∗ ow d i O W)) := by
  rw [k1_part5_eq_skeleton]
  unfold k1_part5_skel free
  dsimp only
  have h4 := off4 t1 t3 2
  iintro ⟨HRD, ⟨HF, HD⟩, HS, HT, HO, #HM⟩
  iapply (cps3 d i (startD d i fI fD (b := 2) (hs := in2) (hb := ir2) (h4.1.trans hc) h4.2)) $$ HRD [HD] HF
  · iexists _; iexact HD
  iintro %_ ⟨HRD, HF⟩
  iapply (cps3 d i (waitI d i O W fI fD)) $$ HS HO HM
  iintro %_ ⟨HS, HO⟩
  iapply (cps3 d i (waitD d i O W fI fD)) $$ HS HO HM
  iintro %_ ⟨HI, HD, HV, HO⟩
  iapply (cps3 d i (scatRow d i (baseW i) fI fD k1_t7_loop rfl k1_t7_ok _ k1_off7 k1_off7_inb (fun _ => rfl) off7)) $$ HI HD HT
  iintro %_ ⟨HI, HD, HT⟩
  iapply (wret d i)
  isplitl [HRD]; · iexact HRD
  isplitl [HF]; · iexact HF
  isplitl [HI HD HV]
  · isplitl [HI]; · iexists _; iexact HI
    isplitl [HD]; · iexists _; iexact HD
    iexact HV
  isplitl [HT]; · iexact HT
  iexact HO

/-- The four slots filling with chunks `4k … 4k+3` of row `c` (no further than the last). -/
def ring (c : Fin 4) (k : ℕ) : sProp 𝕄 :=
  iprop(fly d i fI fD 0 in0 ir0 c (min (4 * k + 0) 255) ∗ fly d i fI fD 1 in1 ir1 c (min (4 * k + 1) 255)
    ∗ fly d i fI fD 2 in2 ir2 c (min (4 * k + 2) 255) ∗ fly d i fI fD 3 in3 ir3 c (min (4 * k + 3) 255))

/-- Before trip `k` of a row. -/
def rowAt (c : Fin 4) (k : ℕ) : sProp 𝕄 :=
  iprop((rd (locI d i) fI ∗ rd (locD d i) fD) ∗ ring d i fI fD c k ∗ tmp d i (sweep (baseW i) fI fD c (4096 * (4 * k))) ∗ ow d i O W ∗ MayWaits (th d i) none O)

theorem trip (c : Fin 4) (t1 : Fin k1_t1_loop.trips) (hc : t1.val = c.val) (t3 : Fin k1_t3_loop.trips) :
    rowAt d i O W fI fD c t3.val
      ⊢ WP d i (k1_t3_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) 0#32 1#32 t1 t3 ⟨⟩) (fun _ => rowAt d i O W fI fD c (t3.val + 1)) := by
  have hk : t3.val < 64 := t3.isLt
  have e0 : min (4 * t3.val + 0) 255 = 4 * t3.val := by omega
  have e1 : min (4 * t3.val + 1) 255 = 4 * t3.val + 1 := by omega
  have e2 : min (4 * t3.val + 2) 255 = 4 * t3.val + 1 + 1 := by omega
  have e3 : min (4 * t3.val + 3) 255 = 4 * t3.val + 1 + 1 + 1 := by omega
  have e4 : 4 * (t3.val + 1) = 4 * t3.val + 1 + 1 + 1 + 1 := by omega
  have h4 := off4 t1 t3 3
  unfold rowAt ring
  rw [e0, e1, e2, e3]
  unfold k1_t3_body
  dsimp only
  iintro ⟨⟨HRI, HRD⟩, ⟨HS0, HS1, HS2, HS3⟩, HT, HO, #HM⟩
  iapply (wseq d i (part1 d i O W fI fD c t1 t3 _)) $$ [HS0 HT HO]
  · isplitl [HS0]; · iexact HS0
    isplitl [HT]; · iexact HT
    isplitl [HO]; · iexact HO
    iexact HM
  iintro %_ ⟨HS0, HT, HO⟩
  iapply (wseq d i (part2 d i O W fI fD c t1 hc t3 _ _)) $$ [HRI HRD HS0 HS1 HO]
  · isplitl [HRI]; · iexact HRI
    isplitl [HRD]; · iexact HRD
    isplitl [HS0]; · iexact HS0
    isplitl [HS1]; · iexact HS1
    isplitl [HO]; · iexact HO
    iexact HM
  iintro %_ ⟨HRI, HRD, HS0, HI, HD, HV, HO⟩
  iapply (wseq d i (part3 d i fI fD c t1 hc t3 _ _ _)) $$ [HRI HRD HI HD HV HT]
  · isplitl [HRI]; · iexact HRI
    isplitl [HRD]; · iexact HRD
    isplitl [HI HD HV]
    · isplitl [HI]; · iexact HI
      isplitl [HD]; · iexact HD
      iexact HV
    iexact HT
  iintro %_ ⟨HRI, HRD, HS1, HT⟩
  iapply (wseq d i (part4 d i O W fI fD c t1 hc t3 _ _)) $$ [HRI HS2 HT HO]
  · isplitl [HRI]; · iexact HRI
    isplitl [HS2]; · iexact HS2
    isplitl [HT]; · iexact HT
    isplitl [HO]; · iexact HO
    iexact HM
  iintro %_ ⟨HRI, HS2, HD, HT, HO⟩
  iapply (wseq d i (part5 d i O W fI fD c t1 hc t3 _ _ _)) $$ [HRD HS2 HD HS3 HT HO]
  · isplitl [HRD]; · iexact HRD
    isplitl [HS2 HD]
    · isplitl [HS2]; · iexact HS2
      iexact HD
    isplitl [HS3]; · iexact HS3
    isplitl [HT]; · iexact HT
    isplitl [HO]; · iexact HO
    iexact HM
  unfold free
  iintro %_ ⟨HRD, HS2, ⟨HI, HD, HV⟩, HT, HO⟩
  iapply (cps3 d i (startI d i fI fD (b := 3) (hs := in3) (hb := ir3) (h4.1.trans hc) h4.2)) $$ HRI HI HV
  iintro %_ ⟨HRI, HF⟩
  iapply (cps3 d i (startD d i fI fD (b := 3) (hs := in3) (hb := ir3) (h4.1.trans hc) h4.2)) $$ HRD HD HF
  iintro %_ ⟨HRD, HF⟩
  iapply (wret d i)
  rw [e4]
  isplitl [HRI HRD]
  · isplitl [HRI]; · iexact HRI
    iexact HRD
  isplitl [HS0 HS1 HS2 HF]
  · isplitl [HS0]; · iexact HS0
    isplitl [HS1]; · iexact HS1
    isplitl [HS2]; · iexact HS2
    iexact HF
  isplitl [HT]; · iexact HT
  isplitl [HO]; · iexact HO
  iexact HM

end Cert.Proof.Dens

end
-- ==== Proof.Row.lean ====
/-
  A whole row of samples, and the slots primed for the next row.
-/
module

public import proofs.«01_k».proof.Proof.Tile

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32)

/-- A slot just waited for is empty again. -/
theorem drained (b : ℕ) (hs : InS b) (hb : InR b) (c : Fin 4) (k : ℕ) :
    hasI d i fI b hb c k ⊢ iprop(hasD d i fD b hb c k -∗ semVal (th d i, SemLoc.dma (semOf b hs)) 0 -∗ free d i b hs hb) := by
  iintro HI HD HV
  unfold free
  isplitl [HI]; · iexists _; iexact HI
  isplitl [HD]; · iexists _; iexact HD
  iexact HV

/-- The four slots filling with the first four chunks of row `c`. -/
def primed (c : Fin 4) : sProp 𝕄 :=
  iprop(fly d i fI fD 0 in0 ir0 c 0 ∗ fly d i fI fD 1 in1 ir1 c 1 ∗ fly d i fI fD 2 in2 ir2 c 2 ∗ fly d i fI fD 3 in3 ir3 c 3)

/-- The four slots empty. -/
def idle : sProp 𝕄 :=
  iprop(free d i 0 in0 ir0 ∗ free d i 1 in1 ir1 ∗ free d i 2 in2 ir2 ∗ free d i 3 in3 ir3)

theorem ring_zero (c : Fin 4) : ring d i fI fD c 0 = primed d i fI fD c := rfl

theorem ring_last (c : Fin 4) : ring d i fI fD c 64
    = iprop(fly d i fI fD 0 in0 ir0 c 255 ∗ fly d i fI fD 1 in1 ir1 c 255 ∗ fly d i fI fD 2 in2 ir2 c 255 ∗ fly d i fI fD 3 in3 ir3 c 255) := rfl

theorem zeroed_all (f : S65536.Idx → F .f32) (v2 : BitVec 32) (c : Fin 4) : zeroed (16 * 4096) f = sweep v2 fI fD c (4096 * (4 * 0)) := by
  funext x
  exact if_pos (lt_of_lt_of_eq (x 0).isLt (show S65536.size 0 = 16 * 4096 from rfl))

theorem zeroed_none (f : S65536.Idx → F .f32) : zeroed (16 * 0) f = f := by
  funext x
  exact if_neg (Nat.not_lt_zero _)

theorem clearAll (body : Fin k1_t2_loop.trips → Unit → Prog (TpuEff nD τ sig (Elt F) Λ₀ (th d i).2) Unit) {inb : ∀ j a, k1_off1 j a + S16.size a ≤ S65536.size a}
    (hbody : ∀ j, body j ⟨⟩ = clear (F := F) d i (k1_off1 j) (inb j)) (c : Fin 4) (f : S65536.Idx → F .f32) :
    tmp d i f ⊢ WP d i (Scf.Loop.for k1_t2_loop k1_t2_ok ⟨⟩ body) (fun _ => tmp d i (sweep (baseW i) fI fD c (4096 * (4 * 0)))) := by
  have h := wfor d i k1_t2_loop k1_t2_ok body (fun j => tmp d i (zeroed (16 * j) f))
    (fun j => by rw [hbody j]; exact clearWP d i (off1 j) f)
  rw [← zeroed_all fI fD f (baseW i) c]
  rw [show tmp d i f = tmp d i (zeroed (16 * 0) f) from by rw [zeroed_none]]
  exact h

theorem part9 (c : Fin 4) (t1 : Fin k1_t1_loop.trips) (hc : t1.val = c.val) :
    iprop((rd (locI d i) fI ∗ rd (locD d i) fD) ∗ primed d i fI fD c ∗ (∃ f, tmp d i f) ∗ ow d i O W ∗ MayWaits (th d i) none O)
      ⊢ WP d i (k1_part9 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) 0#32 1#32 t1)
        (fun _ => iprop((rd (locI d i) fI ∗ rd (locD d i) fD) ∗ (free d i 0 in0 ir0 ∗ fly d i fI fD 1 in1 ir1 c 255
          ∗ fly d i fI fD 2 in2 ir2 c 255 ∗ fly d i fI fD 3 in3 ir3 c 255) ∗ tmp d i (swept i fI fD c) ∗ ow d i O W)) := by
  rw [k1_part9_eq_skeleton]
  unfold k1_part9_skel
  dsimp only
  rw [← ring_zero]
  iintro ⟨HR, HS, ⟨%f, HT⟩, HO, #HM⟩
  iapply (wseq d i (clearAll d i fI fD _ (inb := k1_off1_inb) (fun _ => rfl) c f)) $$ HT
  iintro %_ HT
  iapply (wseq d i (wfor d i k1_t3_loop k1_t3_ok _ (rowAt d i O W fI fD c) (trip d i O W fI fD c t1 hc))) $$ [HR HS HT HO]
  · unfold rowAt
    isplitl [HR]; · iexact HR
    isplitl [HS]; · iexact HS
    isplitl [HT]; · iexact HT
    isplitl [HO]; · iexact HO
    iexact HM
  iintro %_ H
  rw [show k1_t3_loop.trips = 64 from rfl]
  unfold rowAt
  rw [ring_last]
  icases H with ⟨HR, ⟨HS0, HS1, HS2, HS3⟩, HT, HO, -⟩
  iapply (cps3 d i (waitI d i O W fI fD)) $$ HS0 HO HM
  iintro %_ ⟨HS0, HO⟩
  iapply (cps3 d i (waitD d i O W fI fD)) $$ HS0 HO HM
  iintro %_ ⟨HI, HD, HV, HO⟩
  ihave HF := (drained d i fI fD 0 in0 ir0 c 255) $$ HI HD HV
  iapply (wret d i)
  isplitl [HR]; · iexact HR
  isplitl [HF HS1 HS2 HS3]
  · isplitl [HF]; · iexact HF
    isplitl [HS1]; · iexact HS1
    isplitl [HS2]; · iexact HS2
    iexact HS3
  isplitl [HT]; · iexact HT
  iexact HO

theorem part10 (c : Fin 4) (t1 : Fin k1_t1_loop.trips) :
    iprop((fly d i fI fD 1 in1 ir1 c 255 ∗ fly d i fI fD 2 in2 ir2 c 255) ∗ ow d i O W ∗ MayWaits (th d i) none O)
      ⊢ WP d i (k1_part10 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 t1)
        (fun _ => iprop((free d i 1 in1 ir1 ∗ free d i 2 in2 ir2) ∗ ow d i O W)) := by
  rw [k1_part10_eq_skeleton]
  unfold k1_part10_skel
  dsimp only
  iintro ⟨⟨HS1, HS2⟩, HO, #HM⟩
  iapply (cps3 d i (waitI d i O W fI fD)) $$ HS1 HO HM
  iintro %_ ⟨HS1, HO⟩
  iapply (cps3 d i (waitD d i O W fI fD)) $$ HS1 HO HM
  iintro %_ ⟨HI, HD, HV, HO⟩
  ihave HF1 := (drained d i fI fD 1 in1 ir1 c 255) $$ HI HD HV
  iapply (cps3 d i (waitI d i O W fI fD)) $$ HS2 HO HM
  iintro %_ ⟨HS2, HO⟩
  iapply (cps3 d i (waitD d i O W fI fD)) $$ HS2 HO HM
  iintro %_ ⟨HI, HD, HV, HO⟩
  ihave HF2 := (drained d i fI fD 2 in2 ir2 c 255) $$ HI HD HV
  iapply (wret d i)
  isplitl [HF1 HF2]
  · isplitl [HF1]; · iexact HF1
    iexact HF2
  iexact HO

/-- Filling slot `b` at a row's chunk `b`, indices then densities, as two steps of a program. -/
theorem fillI {b : ℕ} {hs : InS b} {hb : InR b} {c : Fin 4} {off : Fin 2 → ℕ} {h h1 h2 h3} (h0 : off 0 = c.val) (hk : off 1 = 4096 * b) {β : Type}
    {k : Unit → Prog (TpuEff nD τ sig (Elt F) Λ₀ (th d i).2) β} {Q : β → sProp 𝕄} :
    rd (locI d i) fI ⊢ iprop(free d i b hs hb -∗ (rd (locI d i) fI -∗ (slot d i fI fD b hs hb c b 1 0 ∗ (∃ f, (rowD d i b hb).view.loc (th d i) ↦[(rowD d i b hb).view.set]{fullShare} f)) -∗ WP d i (k ⟨⟩) Q)
      -∗ WP d i (Prog.lift (.enqueueDma (winI d i off h) (.here (rowI d i b hb)) (.dma (semOf b hs)) h1 h2 h3) >>= k) Q) := by
  unfold free
  iintro HR ⟨HI, HD, HV⟩ Hk
  iapply (cps3 d i (startI d i fI fD (b := b) (hs := hs) (hb := hb) (c := c) (k := b) h0 hk)) $$ HR HI HV
  iintro %_ ⟨HR, HF⟩
  iapply Hk $$ HR
  isplitl [HF]; · iexact HF
  iexact HD

theorem fillD {b : ℕ} {hs : InS b} {hb : InR b} {c : Fin 4} {off : Fin 2 → ℕ} {h h1 h2 h3} (h0 : off 0 = c.val) (hk : off 1 = 4096 * b) {β : Type}
    {k : Unit → Prog (TpuEff nD τ sig (Elt F) Λ₀ (th d i).2) β} {Q : β → sProp 𝕄} :
    rd (locD d i) fD ⊢ iprop((slot d i fI fD b hs hb c b 1 0 ∗ (∃ f, (rowD d i b hb).view.loc (th d i) ↦[(rowD d i b hb).view.set]{fullShare} f)) -∗ (rd (locD d i) fD -∗ fly d i fI fD b hs hb c b -∗ WP d i (k ⟨⟩) Q)
      -∗ WP d i (Prog.lift (.enqueueDma (winD d i off h) (.here (rowD d i b hb)) (.dma (semOf b hs)) h1 h2 h3) >>= k) Q) := by
  iintro HR ⟨HF, HD⟩ Hk
  iapply (cps3 d i (startD d i fI fD (b := b) (hs := hs) (hb := hb) (c := c) (k := b) h0 hk)) $$ HR HD HF
  iintro %_ ⟨HR, HF⟩
  iapply Hk $$ HR HF

/-- A slot whose indices are on their way, its densities not yet asked for. -/
abbrev half (b : ℕ) (hs : InS b) (hb : InR b) (c : Fin 4) : sProp 𝕄 :=
  iprop(slot d i fI fD b hs hb c b 1 0 ∗ (∃ f, (rowD d i b hb).view.loc (th d i) ↦[(rowD d i b hb).view.set]{fullShare} f))

theorem part6 (c : Fin 4) (t1 : Fin k1_t1_loop.trips) (hc : t1.val + 1 = c.val) (w : BitVec 32) (hh : k1_cond1 t1 = 1#1) :
    iprop((rd (locI d i) fI ∗ rd (locD d i) fD) ∗ free d i 0 in0 ir0 ∗ free d i 1 in1 ir1)
      ⊢ WP d i (k1_part6 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 t1 w hh)
        (fun _ => iprop((rd (locI d i) fI ∗ rd (locD d i) fD) ∗ fly d i fI fD 0 in0 ir0 c 0 ∗ half d i fI fD 1 in1 ir1 c)) := by
  rw [k1_part6_eq_skeleton]
  unfold k1_part6_skel
  dsimp only
  have h9 := off9 t1 hh
  have h10 := off10 t1 hh
  iintro ⟨⟨HRI, HRD⟩, H0, H1⟩
  iapply (fillI d i fI fD (b := 0) (hs := in0) (hb := ir0) (h9.1.trans hc) h9.2) $$ HRI H0
  iintro HRI H0
  iapply (fillD d i fI fD (b := 0) (hs := in0) (hb := ir0) (h9.1.trans hc) h9.2) $$ HRD H0
  iintro HRD H0
  iapply (fillI d i fI fD (b := 1) (hs := in1) (hb := ir1) (h10.1.trans hc) h10.2) $$ HRI H1
  iintro HRI H1
  iapply (wret d i)
  isplitl [HRI HRD]
  · isplitl [HRI]; · iexact HRI
    iexact HRD
  isplitl [H0]; · iexact H0
  iexact H1

theorem part7 (c : Fin 4) (t1 : Fin k1_t1_loop.trips) (hc : t1.val + 1 = c.val) (hh : k1_cond1 t1 = 1#1) :
    iprop((rd (locI d i) fI ∗ rd (locD d i) fD) ∗ half d i fI fD 1 in1 ir1 c ∗ free d i 2 in2 ir2)
      ⊢ WP d i (k1_part7 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 t1 hh)
        (fun _ => iprop((rd (locI d i) fI ∗ rd (locD d i) fD) ∗ fly d i fI fD 1 in1 ir1 c 1 ∗ fly d i fI fD 2 in2 ir2 c 2)) := by
  rw [k1_part7_eq_skeleton]
  unfold k1_part7_skel
  dsimp only
  have h10 := off10 t1 hh
  have h11 := off11 t1 hh
  iintro ⟨⟨HRI, HRD⟩, H1, H2⟩
  iapply (fillD d i fI fD (b := 1) (hs := in1) (hb := ir1) (h10.1.trans hc) h10.2) $$ HRD H1
  iintro HRD H1
  iapply (fillI d i fI fD (b := 2) (hs := in2) (hb := ir2) (h11.1.trans hc) h11.2) $$ HRI H2
  iintro HRI H2
  iapply (fillD d i fI fD (b := 2) (hs := in2) (hb := ir2) (h11.1.trans hc) h11.2) $$ HRD H2
  iintro HRD H2
  iapply (wret d i)
  isplitl [HRI HRD]
  · isplitl [HRI]; · iexact HRI
    iexact HRD
  isplitl [H1]; · iexact H1
  iexact H2

theorem part12 :
    iprop((rd (locI d i) fI ∗ rd (locD d i) fD) ∗ free d i 0 in0 ir0)
      ⊢ WP d i (k1_part12 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6)
        (fun r => iprop(⌜r = baseW i⌝ ∗ (rd (locI d i) fI ∗ rd (locD d i) fD) ∗ fly d i fI fD 0 in0 ir0 0 0)) := by
  rw [k1_part12_eq_skeleton]
  unfold k1_part12_skel
  dsimp only
  iintro ⟨⟨HRI, HRD⟩, H0⟩
  iapply (fillI d i fI fD (b := 0) (hs := in0) (hb := ir0) (c := 0) rfl rfl) $$ HRI H0
  iintro HRI H0
  iapply (fillD d i fI fD (b := 0) (hs := in0) (hb := ir0) (c := 0) rfl rfl) $$ HRD H0
  iintro HRD H0
  iapply (wret d i)
  isplitr; · ipureintro; rfl
  isplitl [HRI HRD]
  · isplitl [HRI]; · iexact HRI
    iexact HRD
  iexact H0

theorem part13 :
    iprop((rd (locI d i) fI ∗ rd (locD d i) fD) ∗ free d i 1 in1 ir1 ∗ free d i 2 in2 ir2)
      ⊢ WP d i (k1_part13 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6)
        (fun _ => iprop((rd (locI d i) fI ∗ rd (locD d i) fD) ∗ fly d i fI fD 1 in1 ir1 0 1 ∗ fly d i fI fD 2 in2 ir2 0 2)) := by
  rw [k1_part13_eq_skeleton]
  unfold k1_part13_skel
  dsimp only
  iintro ⟨⟨HRI, HRD⟩, H1, H2⟩
  iapply (fillI d i fI fD (b := 1) (hs := in1) (hb := ir1) (c := 0) rfl rfl) $$ HRI H1
  iintro HRI H1
  iapply (fillD d i fI fD (b := 1) (hs := in1) (hb := ir1) (c := 0) rfl rfl) $$ HRD H1
  iintro HRD H1
  iapply (fillI d i fI fD (b := 2) (hs := in2) (hb := ir2) (c := 0) rfl rfl) $$ HRI H2
  iintro HRI H2
  iapply (fillD d i fI fD (b := 2) (hs := in2) (hb := ir2) (c := 0) rfl rfl) $$ HRD H2
  iintro HRD H2
  iapply (wret d i)
  isplitl [HRI HRD]
  · isplitl [HRI]; · iexact HRI
    iexact HRD
  isplitl [H1]; · iexact H1
  iexact H2

end Cert.Proof.Dens

end
-- ==== Proof.Blend.lean ====
/-
  The merge of a row: the grid's pieces fetched in turn, merged into the block and sent out.
-/
module

public import proofs.«01_k».proof.Proof.Row

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32) (fG : S4x2097152.Idx → F .f32)

theorem ig0 : InG 0 := by decide
theorem ig1 : InG 1 := by decide

/-- A row of the staging buffer, holding anything. -/
def bare (h : ℕ) (hh : InG h) : sProp 𝕄 := iprop(∃ f, (rowG d i h hh).view.loc (th d i) ↦[(rowG d i h hh).view.set]{fullShare} f)

theorem bareG (h : ℕ) (hh : InG h) (c : Fin 4) (n : ℕ) : hasG d i fG h hh c n ⊢ bare d i h hh := by
  iintro H
  unfold bare
  iexists _
  iexact H

/-- The merge of the tile's block so far: `q` of its eight pieces on their way. -/
def sent (c : Fin 4) (q : ℕ) : sProp 𝕄 :=
  iprop(tmpM d i fG c (base i) q (8192 * q) (swept i fI fD c) ∗ outTodo d i (8 * c.val + q) ∗ Bt d i cc1_scratch6.sem outN (outD d i fI fD fG c) q 0)

theorem part8 (c : Fin 4) (t1 : Fin k1_t1_loop.trips) (hc : t1.val = c.val) (t8 : Fin k1_t8_loop.trips) :
    iprop(rd (locG d i) fG ∗ flyG d i fG 0 ig0 c (base i + 8192 * (2 * t8.val + 0)) 1 ∗ bare d i 1 ig1 ∗ sent d i fI fD fG c (2 * t8.val + 0)
        ∗ ow d i O W ∗ MayWaits (th d i) none O)
      ⊢ WP d i (k1_part8 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 0#32 1#32 t8)
        (fun _ => iprop(rd (locG d i) fG ∗ flyG d i fG 1 ig1 c (base i + 8192 * (2 * t8.val + 1)) 1 ∗ bare d i 0 ig0 ∗ sent d i fI fD fG c (2 * t8.val + 1) ∗ ow d i O W)) := by
  rw [k1_part8_eq_skeleton]
  unfold k1_part8_skel sent
  dsimp only
  have ht : t8.val < 4 := t8.isLt
  have h15 := off15 i t1 t8
  have h18 := off18 t8 0
  have h19 := off19 i t1 t8 0
  rw [dif_pos (cond2 t8)]
  iintro ⟨HR, HF, HB, ⟨HT, HU, HO⟩, Ho, #HM⟩
  iapply (cps3 d i (waitG d i O W fG)) $$ HF Ho HM
  iintro %_ ⟨HG, HV, Ho⟩
  unfold bare
  iapply (cps3 d i (startG d i fG (h := 1) (hh := ig1) (h15.1.trans hc) h15.2)) $$ HR HB HV
  iintro %_ ⟨HR, HF⟩
  iapply (cps2 d i (mergeRow d i fG (c := c) k1_t9_loop rfl k1_t9_ok _ k1_off16 k1_off16_inb (k1_off17 t8) (k1_off17_inb t8) (fun _ => rfl) off16 (off17 t8) _)) $$ HG HT
  iintro %_ ⟨HG, HT⟩
  iapply (cps3 d i (startO d i fI fD fG (c := c) (by omega) h18 (h19.1.trans hc) h19.2)) $$ HT HU HO
  iintro %_ ⟨HT, HU, HO⟩
  iapply (wret d i)
  isplitl [HR]; · iexact HR
  isplitl [HF]; · iexact HF
  isplitl [HG]; · iexists _; iexact HG
  isplitl [HT HU HO]
  · isplitl [HT]; · iexact HT
    isplitl [HU]; · iexact HU
    iexact HO
  iexact Ho

/-- The staging rows before trip `p`: the first filling with its piece of the grid, or (after the last) both at rest. -/
def stage (c : Fin 4) (p : ℕ) : sProp 𝕄 :=
  if p < 4 then iprop(flyG d i fG 0 ig0 c (base i + 8192 * (2 * p + 0)) 1 ∗ bare d i 1 ig1)
  else iprop((bare d i 0 ig0 ∗ semVal (th d i, SemLoc.dma cc1_scratch5.sem) 0) ∗ bare d i 1 ig1)

def mergeAt (c : Fin 4) (p : ℕ) : sProp 𝕄 :=
  iprop(rd (locG d i) fG ∗ stage d i fG c p ∗ sent d i fI fD fG c (2 * p) ∗ ow d i O W ∗ MayWaits (th d i) none O)

/-- What the first row does after it is read: it is asked for the next piece, if there is one. -/
def again (c : Fin 4) (p : ℕ) : sProp 𝕄 :=
  if p < 4 then flyG d i fG 0 ig0 c (base i + 8192 * (2 * p + 0)) 1 else iprop(bare d i 0 ig0 ∗ semVal (th d i, SemLoc.dma cc1_scratch5.sem) 0)

theorem stage_again (c : Fin 4) (p : ℕ) : again d i fG c p ⊢ iprop(bare d i 1 ig1 -∗ stage d i fG c p) := by
  unfold again stage
  split
  · iintro H HB
    isplitl [H]; · iexact H
    iexact HB
  · iintro H HB
    isplitl [H]; · iexact H
    iexact HB

/-- A trip's second half, once the first row is spoken for. -/
theorem mergeRest (c : Fin 4) (t1 : Fin k1_t1_loop.trips) (hc : t1.val = c.val) (w : BitVec 32) (t8 : Fin k1_t8_loop.trips) {h1 h2 h3} :
    iprop(again d i fG c (t8.val + 1) ∗ hasG d i fG 1 ig1 c (base i + 8192 * (2 * t8.val + 1)) ∗ sent d i fI fD fG c (2 * t8.val + 1))
      ⊢ WP d i (Scf.Loop.for k1_t10_loop k1_t10_ok ⟨⟩ (k1_t10_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 w t8) >>= fun _ =>
          Prog.lift (.enqueueDma ((mT d i).slice (Rect.unit (s := S65536) (k1_off18 t8 1#32) S8192.size (k1_off18_inb t8 1)) (fun _ => rfl))
            (.here (winO d i (k1_off19 i t1 t8 1#32) (k1_off19_inb i t1 t8 1))) (.dma cc1_scratch6.sem) h1 h2 h3) >>= fun _ => pure ⟨⟩)
        (fun _ : Unit => iprop(stage d i fG c (t8.val + 1) ∗ sent d i fI fD fG c (2 * (t8.val + 1)))) := by
  have ht : t8.val < 4 := t8.isLt
  have h18 := off18 t8 1
  have h19 := off19 i t1 t8 1
  unfold sent
  iintro ⟨HA, HG, HT, HU, HO⟩
  iapply (cps2 d i (mergeRow d i fG (c := c) k1_t10_loop rfl k1_t10_ok _ k1_off21 k1_off21_inb (k1_off22 t8) (k1_off22_inb t8) (fun _ => rfl) off21 (off22 t8) _)) $$ HG HT
  iintro %_ ⟨HG, HT⟩
  iapply (cps3 d i (startO d i fI fD fG (c := c) (p := 2 * t8.val + 1) (by omega) h18 (h19.1.trans hc) h19.2)) $$ HT HU HO
  iintro %_ ⟨HT, HU, HO⟩
  ihave HB := (bareG d i fG 1 ig1 _ _) $$ HG
  ihave HS := (stage_again d i fG c (t8.val + 1)) $$ HA HB
  iapply (wret d i)
  isplitl [HS]; · iexact HS
  isplitl [HT]; · iexact HT
  isplitl [HU]; · iexact HU
  iexact HO

theorem mergeTrip (c : Fin 4) (t1 : Fin k1_t1_loop.trips) (hc : t1.val = c.val) (w : BitVec 32) (t8 : Fin k1_t8_loop.trips) :
    mergeAt d i O W fI fD fG c t8.val
      ⊢ WP d i (k1_t8_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 w t8 ⟨⟩) (fun _ => mergeAt d i O W fI fD fG c (t8.val + 1)) := by
  have ht : t8.val < 4 := t8.isLt
  unfold k1_t8_body mergeAt
  dsimp only
  rw [show stage d i fG c t8.val = iprop(flyG d i fG 0 ig0 c (base i + 8192 * (2 * t8.val + 0)) 1 ∗ bare d i 1 ig1) from if_pos ht]
  iintro ⟨HR, ⟨HF, HB⟩, HS, Ho, #HM⟩
  iapply (wseq d i (part8 d i O W fI fD fG c t1 hc t8)) $$ [HR HF HB HS Ho]
  · isplitl [HR]; · iexact HR
    isplitl [HF]; · iexact HF
    isplitl [HB]; · iexact HB
    isplitl [HS]; · iexact HS
    isplitl [Ho]; · iexact Ho
    iexact HM
  iintro %_ ⟨HR, HF, HB, HS, Ho⟩
  iapply (cps3 d i (waitG d i O W fG)) $$ HF Ho HM
  iintro %_ ⟨HG, HV, Ho⟩
  by_cases hq : k1_cond3 t8 = 1#1
  · have h20 := off20 i t1 t8 hq
    rw [dif_pos hq]
    unfold bare
    iapply (cps3 d i (startG d i fG (h := 0) (hh := ig0) (h20.1.trans hc) h20.2)) $$ HR HB HV
    iintro %_ ⟨HR, HF⟩
    iapply (wend d i (mergeRest d i fI fD fG c t1 hc w t8)) $$ [HF HG HS]
    · isplitl [HF]
      · unfold again; rw [if_pos ((cond3 t8).mp hq)]; iexact HF
      isplitl [HG]; · iexact HG
      iexact HS
    iintro %_ ⟨HS, HT⟩
    isplitl [HR]; · iexact HR
    isplitl [HS]; · iexact HS
    isplitl [HT]; · iexact HT
    isplitl [Ho]; · iexact Ho
    iexact HM
  · rw [dif_neg hq]
    iapply (wend d i (mergeRest d i fI fD fG c t1 hc w t8)) $$ [HB HV HG HS]
    · isplitl [HB HV]
      · unfold again; rw [if_neg (fun h => hq ((cond3 t8).mpr h))]
        isplitl [HB]; · iexact HB
        iexact HV
      isplitl [HG]; · iexact HG
      iexact HS
    iintro %_ ⟨HS, HT⟩
    isplitl [HR]; · iexact HR
    isplitl [HS]; · iexact HS
    isplitl [HT]; · iexact HT
    isplitl [Ho]; · iexact Ho
    iexact HM

end Cert.Proof.Dens

end
-- ==== Proof.Body.lean ====
/-
  The tile's whole program.
-/
module

public import proofs.«01_k».proof.Proof.Blend

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32) (fG : S4x2097152.Idx → F .f32)

/-- The slots before row `n`: primed for it, or (after the last) empty. -/
def slotsAt (n : ℕ) : sProp 𝕄 := if h : n < 4 then primed d i fI fD ⟨n, h⟩ else idle d i

/-- Nothing merged yet, nothing sent yet. -/
theorem sent_zero (c : Fin 4) :
    iprop(tmp d i (swept i fI fD c) ∗ outTodo d i (8 * c.val) ∗ Bt d i cc1_scratch6.sem outN (outD d i fI fD fG c) 0 0) ⊢ sent d i fI fD fG c (2 * 0) := by
  have ht : tail (2 * 0) = (Finset.univ : Finset S65536.Idx) := Finset.filter_true_of_mem fun x _ => Nat.zero_le _
  have hm : mix fG c (base i) (8192 * (2 * 0)) (swept i fI fD c) = swept i fI fD c := funext fun x => if_neg (Nat.not_lt_zero _)
  unfold sent tmpM tmp
  rw [ht, hm]
  iintro ⟨HT, HU, HO⟩
  isplitl [HT]; · iexact HT
  isplitl [HU]; · iexact HU
  iexact HO

/-- From the first row of the grid asked for to the last piece on its way. -/
theorem mergeAll (c : Fin 4) (t1 : Fin k1_t1_loop.trips) (hc : t1.val = c.val) (w : BitVec 32) {h1 h2 h3} :
    iprop(rd (locG d i) fG ∗ (bare d i 0 ig0 ∗ semVal (th d i, SemLoc.dma cc1_scratch5.sem) 0 ∗ bare d i 1 ig1) ∗ sent d i fI fD fG c (2 * 0) ∗ ow d i O W ∗ MayWaits (th d i) none O)
      ⊢ WP d i (Prog.lift (.enqueueDma (winG d i (k1_off13 i t1) (k1_off13_inb i t1)) (.here (rowG d i 0 ig0)) (.dma cc1_scratch5.sem) h1 h2 h3) >>= fun _ =>
          Scf.Loop.for k1_t8_loop k1_t8_ok ⟨⟩ (k1_t8_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 w) >>= fun _ => pure 0#32)
        (fun _ => iprop(rd (locG d i) fG ∗ (bare d i 0 ig0 ∗ semVal (th d i, SemLoc.dma cc1_scratch5.sem) 0 ∗ bare d i 1 ig1) ∗ sent d i fI fD fG c (2 * 4) ∗ ow d i O W)) := by
  have h13 := off13 i t1
  unfold bare
  iintro ⟨HR, ⟨HB0, HV, HB1⟩, HS, Ho, #HM⟩
  iapply (cps3 d i (startG d i fG (h := 0) (hh := ig0) (h13.1.trans hc) h13.2)) $$ HR HB0 HV
  iintro %_ ⟨HR, HF⟩
  iapply (wseq d i (wfor d i k1_t8_loop k1_t8_ok _ (mergeAt d i O W fI fD fG c) (mergeTrip d i O W fI fD fG c t1 hc w))) $$ [HR HF HB1 HS Ho]
  · unfold mergeAt
    isplitl [HR]; · iexact HR
    isplitl [HF HB1]
    · rw [show stage d i fG c 0 = iprop(flyG d i fG 0 ig0 c (base i + 8192 * (2 * 0 + 0)) 1 ∗ bare d i 1 ig1) from if_pos (by decide)]
      isplitl [HF]; · iexact HF
      unfold bare; iexact HB1
    isplitl [HS]; · iexact HS
    isplitl [Ho]; · iexact Ho
    iexact HM
  iintro %_ H
  rw [show k1_t8_loop.trips = 4 from rfl]
  unfold mergeAt
  rw [show stage d i fG c 4 = iprop((bare d i 0 ig0 ∗ semVal (th d i, SemLoc.dma cc1_scratch5.sem) 0) ∗ bare d i 1 ig1) from if_neg (by decide)]
  unfold bare
  icases H with ⟨HR, ⟨⟨HB0, HV⟩, HB1⟩, HS, Ho, -⟩
  iapply (wret d i)
  isplitl [HR]; · iexact HR
  isplitl [HB0 HV HB1]
  · isplitl [HB0]; · iexact HB0
    isplitl [HV]; · iexact HV
    iexact HB1
  isplitl [HS]; · iexact HS
  iexact Ho

theorem part11 (c : Fin 4) (t1 : Fin k1_t1_loop.trips) (hc : t1.val = c.val) (w : BitVec 32) :
    iprop((rd (locI d i) fI ∗ rd (locD d i) fD) ∗ (free d i 0 in0 ir0 ∗ free d i 1 in1 ir1 ∗ free d i 2 in2 ir2) ∗ fly d i fI fD 3 in3 ir3 c 255
        ∗ rd (locG d i) fG ∗ (bare d i 0 ig0 ∗ semVal (th d i, SemLoc.dma cc1_scratch5.sem) 0 ∗ bare d i 1 ig1) ∗ sent d i fI fD fG c (2 * 0) ∗ ow d i O W ∗ MayWaits (th d i) none O)
      ⊢ WP d i (k1_part11 (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 w)
        (fun _ => iprop((rd (locI d i) fI ∗ rd (locD d i) fD) ∗ slotsAt d i fI fD (t1.val + 1)
          ∗ rd (locG d i) fG ∗ (bare d i 0 ig0 ∗ semVal (th d i, SemLoc.dma cc1_scratch5.sem) 0 ∗ bare d i 1 ig1) ∗ sent d i fI fD fG c (2 * 4) ∗ ow d i O W)) := by
  rw [k1_part11_eq_skeleton]
  unfold k1_part11_skel
  dsimp only
  iintro ⟨HR, ⟨H0, H1, H2⟩, HS3, HRG, HB, HS, HO, #HM⟩
  iapply (cps3 d i (waitI d i O W fI fD)) $$ HS3 HO HM
  iintro %_ ⟨HS3, HO⟩
  iapply (cps3 d i (waitD d i O W fI fD)) $$ HS3 HO HM
  iintro %_ ⟨HI, HD, HV, HO⟩
  ihave H3 := (drained d i fI fD 3 in3 ir3 c 255) $$ HI HD HV
  by_cases hq : k1_cond1 t1 = 1#1
  · have hn := (cond1 t1).mp hq
    have h12 := off12 t1 hq
    rw [dif_pos hq]
    iapply (wseq d i (part6 d i fI fD ⟨t1.val + 1, hn⟩ t1 rfl w hq)) $$ [HR H0 H1]
    · isplitl [HR]; · iexact HR
      isplitl [H0]; · iexact H0
      iexact H1
    iintro %_ ⟨HR, H0, H1⟩
    iapply (wseq d i (part7 d i fI fD ⟨t1.val + 1, hn⟩ t1 rfl hq)) $$ [HR H1 H2]
    · isplitl [HR]; · iexact HR
      isplitl [H1]; · iexact H1
      iexact H2
    iintro %_ ⟨⟨HRI, HRD⟩, H1, H2⟩
    iapply (fillI d i fI fD (b := 3) (hs := in3) (hb := ir3) (c := ⟨t1.val + 1, hn⟩) h12.1 h12.2) $$ HRI H3
    iintro HRI H3
    iapply (fillD d i fI fD (b := 3) (hs := in3) (hb := ir3) (c := ⟨t1.val + 1, hn⟩) h12.1 h12.2) $$ HRD H3
    iintro HRD H3
    iapply (wend d i (mergeAll d i O W fI fD fG c t1 hc w)) $$ [HRG HB HS HO]
    · isplitl [HRG]; · iexact HRG
      isplitl [HB]; · iexact HB
      isplitl [HS]; · iexact HS
      isplitl [HO]; · iexact HO
      iexact HM
    iintro %_ ⟨HRG, HB, HS, HO⟩
    isplitl [HRI HRD]
    · isplitl [HRI]; · iexact HRI
      iexact HRD
    isplitl [H0 H1 H2 H3]
    · rw [show slotsAt d i fI fD (t1.val + 1) = primed d i fI fD ⟨t1.val + 1, hn⟩ from dif_pos hn]
      unfold primed
      isplitl [H0]; · iexact H0
      isplitl [H1]; · iexact H1
      isplitl [H2]; · iexact H2
      iexact H3
    isplitl [HRG]; · iexact HRG
    isplitl [HB]; · iexact HB
    isplitl [HS]; · iexact HS
    iexact HO
  · rw [dif_neg hq]
    iapply (wend d i (mergeAll d i O W fI fD fG c t1 hc w)) $$ [HRG HB HS HO]
    · isplitl [HRG]; · iexact HRG
      isplitl [HB]; · iexact HB
      isplitl [HS]; · iexact HS
      isplitl [HO]; · iexact HO
      iexact HM
    iintro %_ ⟨HRG, HB, HS, HO⟩
    isplitl [HR]; · iexact HR
    isplitl [H0 H1 H2 H3]
    · rw [show slotsAt d i fI fD (t1.val + 1) = idle d i from dif_neg (fun h => hq ((cond1 t1).mpr h))]
      unfold idle
      isplitl [H0]; · iexact H0
      isplitl [H1]; · iexact H1
      isplitl [H2]; · iexact H2
      iexact H3
    isplitl [HRG]; · iexact HRG
    isplitl [HB]; · iexact HB
    isplitl [HS]; · iexact HS
    iexact HO

/-- The pieces of row `c` after `u` of the eight waits. -/
def waits (c : Fin 4) (u : ℕ) : sProp 𝕄 :=
  iprop((if u < 8 then Bt d i cc1_scratch6.sem outN (outD d i fI fD fG c) 8 (outN * u)
    else iprop(bigSep Finset.univ (outD d i fI fD fG c) ∗ semVal (th d i, SemLoc.dma cc1_scratch6.sem) 0)) ∗ ow d i O W ∗ MayWaits (th d i) none O)

theorem waitTrip (c : Fin 4) (t1 : Fin k1_t1_loop.trips) (t : Fin k1_t11_loop.trips) :
    waits d i O W fI fD fG c t.val ⊢ WP d i (k1_t11_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 t1 t ⟨⟩) (fun _ => waits d i O W fI fD fG c (t.val + 1)) := by
  have ht : t.val < 8 := t.isLt
  unfold k1_t11_body waits
  dsimp only
  rw [if_pos ht]
  iintro ⟨HB, Ho, #HM⟩
  by_cases hl : t.val + 1 < 8
  · have hu : outN * t.val + outN < outN * 8 := by
      rw [← Nat.mul_succ]; exact Nat.mul_lt_mul_of_pos_left hl outN_pos
    rw [if_pos hl]
    iapply (cps3 d i (waitB d i O W (outN_win d i _ _) hu)) $$ HB Ho HM
    iintro %_ ⟨HB, Ho⟩
    iapply (wret d i)
    isplitl [HB]; · iexact HB
    isplitl [Ho]; · iexact Ho
    iexact HM
  · have hu : outN * t.val + outN = outN * 8 := by
      rw [← Nat.mul_succ]; exact congrArg (outN * ·) (by omega : t.val + 1 = 8)
    rw [if_neg hl]
    iapply (cps3 d i (waitBL d i O W (outN_win d i _ _) outN_pos hu)) $$ HB Ho HM
    iintro %_ ⟨HB, HV, Ho⟩
    iapply (wret d i)
    isplitl [HB HV]
    · isplitl [HB]; · iexact HB
      iexact HV
    isplitl [Ho]; · iexact Ho
    iexact HM

/-- What the tile holds before row `n`, its semaphores at rest but for the slots. -/
def rowsAt (n : ℕ) : sProp 𝕄 :=
  iprop((rd (locI d i) fI ∗ rd (locD d i) fD) ∗ slotsAt d i fI fD n ∗ rd (locG d i) fG
    ∗ (bare d i 0 ig0 ∗ semVal (th d i, SemLoc.dma cc1_scratch5.sem) 0 ∗ bare d i 1 ig1)
    ∗ (∃ f, tmp d i f) ∗ semVal (th d i, SemLoc.dma cc1_scratch6.sem) 0
    ∗ outTodo d i (8 * n) ∗ outDone d i fI fD fG n ∗ ow d i O W ∗ MayWaits (th d i) none O)

theorem rowTrip (t1 : Fin k1_t1_loop.trips) :
    rowsAt d i O W fI fD fG t1.val
      ⊢ WP d i (k1_t1_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6 (baseW i) t1 ⟨⟩) (fun _ => rowsAt d i O W fI fD fG (t1.val + 1)) := by
  have ht : t1.val < 4 := t1.isLt
  unfold k1_t1_body rowsAt
  dsimp only
  rw [show slotsAt d i fI fD t1.val = primed d i fI fD ⟨t1.val, ht⟩ from dif_pos ht]
  iintro ⟨HR, HS, HRG, HB, HT, HV, HU, HD, HO, #HM⟩
  iapply (wseq d i (part9 d i O W fI fD ⟨t1.val, ht⟩ t1 rfl)) $$ [HR HS HT HO]
  · isplitl [HR]; · iexact HR
    isplitl [HS]; · iexact HS
    isplitl [HT]; · iexact HT
    isplitl [HO]; · iexact HO
    iexact HM
  iintro %_ ⟨HR, ⟨H0, H1, H2, H3⟩, HT, HO⟩
  iapply (wseq d i (part10 d i O W fI fD ⟨t1.val, ht⟩ t1)) $$ [H1 H2 HO]
  · isplitl [H1 H2]
    · isplitl [H1]; · iexact H1
      iexact H2
    isplitl [HO]; · iexact HO
    iexact HM
  iintro %_ ⟨⟨H1, H2⟩, HO⟩
  iapply (fupd_wp _ _ _)
  imod (batch_alloc' EC (c := th d i) (none : HIx 1) outN (outD d i fI fD fG ⟨t1.val, ht⟩)) $$ HV with HV
  imodintro
  ihave HS := (sent_zero d i fI fD fG ⟨t1.val, ht⟩) $$ [HT HU HV]
  · isplitl [HT]; · iexact HT
    isplitl [HU]; · iexact HU
    iexact HV
  iapply (wseq d i (part11 d i O W fI fD fG ⟨t1.val, ht⟩ t1 rfl _)) $$ [HR H0 H1 H2 H3 HRG HB HS HO]
  · isplitl [HR]; · iexact HR
    isplitl [H0 H1 H2]
    · isplitl [H0]; · iexact H0
      isplitl [H1]; · iexact H1
      iexact H2
    isplitl [H3]; · iexact H3
    isplitl [HRG]; · iexact HRG
    isplitl [HB]; · iexact HB
    isplitl [HS]; · iexact HS
    isplitl [HO]; · iexact HO
    iexact HM
  unfold sent
  iintro %_ ⟨HR, HS, HRG, HB, ⟨-, HU, HV⟩, HO⟩
  iapply (wseq d i (wfor d i k1_t11_loop k1_t11_ok _ (waits d i O W fI fD fG ⟨t1.val, ht⟩) (waitTrip d i O W fI fD fG ⟨t1.val, ht⟩ t1))) $$ [HV HO]
  · unfold waits
    rw [if_pos (by decide : (0 : ℕ) < 8)]
    isplitl [HV]; · iexact HV
    isplitl [HO]; · iexact HO
    iexact HM
  rw [show k1_t11_loop.trips = 8 from rfl]
  unfold waits
  rw [if_neg (by decide : ¬ (8 : ℕ) < 8)]
  iintro %_ ⟨⟨HC, HV⟩, HO, -⟩
  ihave HC := (collect d i fI fD fG ⟨t1.val, ht⟩) $$ [HC HD]
  · isplitl [HC]; · iexact HC
    iexact HD
  icases HC with ⟨HT, HD⟩
  iapply (wret d i)
  isplitl [HR]; · iexact HR
  isplitl [HS]; · iexact HS
  isplitl [HRG]; · iexact HRG
  isplitl [HB]; · iexact HB
  isplitl [HT]; · iexact HT
  isplitl [HV]; · iexact HV
  isplitl [HU]; · iexact HU
  isplitl [HD]; · iexact HD
  isplitl [HO]; · iexact HO
  iexact HM

theorem done_zero : done i 0 = ∅ :=
  Finset.filter_false_of_mem fun y _ h => Nat.not_lt_zero _ h.2.2

/-- What the tile's program starts from, besides what it reads, -/
def tileIn : sProp 𝕄 :=
  iprop(idle d i ∗ (bare d i 0 ig0 ∗ semVal (th d i, SemLoc.dma cc1_scratch5.sem) 0 ∗ bare d i 1 ig1) ∗ (∃ f, tmp d i f) ∗ semVal (th d i, SemLoc.dma cc1_scratch6.sem) 0)

theorem tileRun :
    iprop((rd (locI d i) fI ∗ rd (locD d i) fD ∗ rd (locG d i) fG) ∗ tileIn d i ∗ outTodo d i 0 ∗ ow d i O W ∗ MayWaits (th d i) none O)
      ⊢ WP d i (cc1__sc_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6)
        (fun _ => iprop((rd (locI d i) fI ∗ rd (locD d i) fD ∗ rd (locG d i) fG) ∗ tileIn d i ∗ outDone d i fI fD fG 4 ∗ ow d i O W)) := by
  rw [cc1__sc_body_eq_skeleton]
  unfold cc1__sc_body_skel tileIn
  dsimp only
  iintro ⟨⟨HRI, HRD, HRG⟩, ⟨HS, HB, HT, HV⟩, HU, HO, #HM⟩
  unfold idle
  icases HS with ⟨H0, H1, H2, H3⟩
  iapply (wseq d i (part12 d i fI fD)) $$ [HRI HRD H0]
  · isplitl [HRI HRD]
    · isplitl [HRI]; · iexact HRI
      iexact HRD
    iexact H0
  iintro %v2 ⟨%hv, HR, H0⟩
  subst hv
  iapply (wseq d i (part13 d i fI fD)) $$ [HR H1 H2]
  · isplitl [HR]; · iexact HR
    isplitl [H1]; · iexact H1
    iexact H2
  iintro %_ ⟨⟨HRI, HRD⟩, H1, H2⟩
  iapply (fillI d i fI fD (b := 3) (hs := in3) (hb := ir3) (c := 0) rfl rfl) $$ HRI H3
  iintro HRI H3
  iapply (fillD d i fI fD (b := 3) (hs := in3) (hb := ir3) (c := 0) rfl rfl) $$ HRD H3
  iintro HRD H3
  iapply (wseq d i (wfor d i k1_t1_loop k1_t1_ok _ (rowsAt d i O W fI fD fG) (rowTrip d i O W fI fD fG))) $$ [HRI HRD H0 H1 H2 H3 HRG HB HT HV HU HO]
  · unfold rowsAt
    isplitl [HRI HRD]
    · isplitl [HRI]; · iexact HRI
      iexact HRD
    isplitl [H0 H1 H2 H3]
    · rw [show slotsAt d i fI fD 0 = primed d i fI fD 0 from dif_pos (by decide)]
      unfold primed
      isplitl [H0]; · iexact H0
      isplitl [H1]; · iexact H1
      isplitl [H2]; · iexact H2
      iexact H3
    isplitl [HRG]; · iexact HRG
    isplitl [HB]; · iexact HB
    isplitl [HT]; · iexact HT
    isplitl [HV]; · iexact HV
    isplitl [HU]; · iexact HU
    isplitr [HO]
    · unfold outDone
      rw [done_zero]
      iapply (Entails.of_eq pointsTo_empty.symm)
      iempintro
    isplitl [HO]; · iexact HO
    iexact HM
  rw [show k1_t1_loop.trips = 4 from rfl]
  unfold rowsAt
  rw [show slotsAt d i fI fD 4 = idle d i from dif_neg (by decide)]
  iintro %_ ⟨⟨HRI, HRD⟩, HS, HRG, HB, HT, HV, -, HD, HO, -⟩
  iapply (wret d i)
  isplitl [HRI HRD HRG]
  · isplitl [HRI]; · iexact HRI
    isplitl [HRD]; · iexact HRD
    iexact HRG
  isplitl [HS HB HT HV]
  · isplitl [HS]; · unfold idle; iexact HS
    isplitl [HB]; · iexact HB
    isplitl [HT]; · iexact HT
    iexact HV
  isplitl [HD]; · iexact HD
  iexact HO

end Cert.Proof.Dens

end
-- ==== Proof.Own.lean ====
/-
  The tile's task from what the launch deals its subcore.
-/
module

public import proofs.«01_k».proof.Proof.Body

@[expose] public section

noncomputable section

namespace Cert.Proof.Dens

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (d : Dev nD) (i : grid1.Coords) (O : CellTallies nD τ sig (HIx 1)) (W : Waits sig (HIx 1))

variable (fI : S4x1048576.Idx → BitVec 32) (fD : S4x1048576.Idx → F .f32) (fG : S4x2097152.Idx → F .f32)

/-! ## The tile's semaphores and buffers among its own -/

def semAt : Fin 6 → SemLoc sig
  | 0 => .dma (semOf 0 in0)
  | 1 => .dma (semOf 1 in1)
  | 2 => .dma (semOf 2 in2)
  | 3 => .dma (semOf 3 in3)
  | 4 => .dma cc1_scratch5.sem
  | 5 => .dma cc1_scratch6.sem

theorem semAt_inj : Function.Injective semAt := by
  have h : ∀ a b, semAt a = semAt b → a = b := by decide
  exact fun a b => h a b

theorem semAt_scoped : ∀ j, (semAt j).isScoped .scVector = true := by decide

def refAt : Fin 4 → Ref sig .scVector
  | 0 => cc1_scratch0
  | 1 => cc1_scratch1
  | 2 => cc1_scratch2
  | 3 => cc1_scratch3

theorem refAt_inj : Function.Injective refAt := by
  have h : ∀ a b, refAt a = refAt b → a = b := by decide
  exact fun a b => h a b

def cellAt : Fin 6 ↪ GSem nD τ sig := ⟨fun j => (th d i, semAt j), fun _ _ e => semAt_inj (Prod.mk.inj e).2⟩

def bufAt : Fin 4 ↪ DevRef τ sig := ⟨fun j => (th d i).2.devRef (refAt j), fun _ _ e => refAt_inj (Proc.devRef_injective _ e)⟩

theorem cells_own : Finset.univ.map (cellAt d i) ⊆ SparseCore.Cfg.ownCells (th d i) := by
  intro g hg
  obtain ⟨j, -, rfl⟩ := Finset.mem_map.mp hg
  exact SparseCore.Cfg.mem_ownCells.mpr ⟨rfl, semAt_scoped j⟩

theorem bufs_own : Finset.univ.map (bufAt d i) ⊆ SparseCore.Cfg.ownRefs (τ := τ) (sig := sig) (th d i).2 := by
  intro b hb
  obtain ⟨j, -, rfl⟩ := Finset.mem_map.mp hb
  refine SparseCore.Cfg.mem_ownRefs_of_owner ?_
  match j with
  | 0 => rfl
  | 1 => rfl
  | 2 => rfl
  | 3 => rfl

theorem six {Φ : Fin 6 → sProp 𝕄} : bigSep Finset.univ Φ = iprop(Φ 0 ∗ Φ 1 ∗ Φ 2 ∗ Φ 3 ∗ Φ 4 ∗ Φ 5) := by
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

theorem four {Φ : Fin 4 → sProp 𝕄} : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The rest of what is the subcore's own. -/
def restSems : sProp 𝕄 := bigSep (SparseCore.Cfg.ownCells (th d i) \ Finset.univ.map (cellAt d i)) fun g => semVal g 0
def restBufs : sProp 𝕄 :=
  bigSep (SparseCore.Cfg.ownRefs (τ := τ) (sig := sig) (th d i).2 \ Finset.univ.map (bufAt d i)) fun b => iprop(∃ f, ((d, b) : Loc nD τ sig) ↦{fullShare} f)

def sems6 : sProp 𝕄 :=
  iprop(semVal (th d i, SemLoc.dma (semOf 0 in0)) 0 ∗ semVal (th d i, SemLoc.dma (semOf 1 in1)) 0 ∗ semVal (th d i, SemLoc.dma (semOf 2 in2)) 0
    ∗ semVal (th d i, SemLoc.dma (semOf 3 in3)) 0 ∗ semVal (th d i, SemLoc.dma cc1_scratch5.sem) 0 ∗ semVal (th d i, SemLoc.dma cc1_scratch6.sem) 0)

def bufs4 : sProp 𝕄 :=
  iprop((∃ f, (th d i).loc cc1_scratch0 ↦{fullShare} f) ∗ (∃ f, (th d i).loc cc1_scratch1 ↦{fullShare} f) ∗ (∃ f, (th d i).loc cc1_scratch2 ↦{fullShare} f)
    ∗ (∃ f, (th d i).loc cc1_scratch3 ↦{fullShare} f))

theorem ownSems_eq : (SparseCore.Cfg.ownSems0 (th d i) : sProp 𝕄) = iprop(sems6 d i ∗ restSems d i) := by
  unfold SparseCore.Cfg.ownSems0 restSems
  rw [SparseCore.bigSep_sdiff_split' (cells_own d i), bigSep_map, six]
  rfl

theorem ownBufs_eq : (SparseCore.Cfg.ownBufs (th d i) : sProp 𝕄) = iprop(bufs4 d i ∗ restBufs d i) := by
  unfold SparseCore.Cfg.ownBufs restBufs
  rw [SparseCore.bigSep_sdiff_split' (bufs_own d i), bigSep_map, four]
  rfl

/-! ## The rings row by row -/

theorem inR : ∀ b : Fin 4, InR b.val := by decide

theorem inG : ∀ b : Fin 2, InG b.val := by decide

/-- A buffer is its rows. -/
theorem rows_out {T : Type} [Fintype T] {ℓ : Loc nD τ sig} (R : T → Finset (Idx ℓ)) (hd : ∀ t ∈ Finset.univ, ∀ t' ∈ Finset.univ, t ≠ t' → Disjoint (R t) (R t'))
    (hc : Finset.univ.biUnion R = Finset.univ) :
    (iprop(∃ f, ℓ ↦{fullShare} f) : sProp 𝕄) ⊢ bigSep Finset.univ fun t => iprop(∃ f, ℓ ↦[R t]{fullShare} f) := by
  iintro ⟨%f, H⟩
  ihave H := (Entails.of_eq ((congrArg (fun S => (ℓ ↦[S]{fullShare} f : sProp 𝕄)) hc.symm).trans (pointsTo_biUnion Finset.univ R hd))) $$ H
  iapply (SparseCore.ent (bigSep_mono (s := Finset.univ) fun t _ => (show (ℓ ↦[R t]{fullShare} f : sProp 𝕄) ⊢ iprop(∃ f, ℓ ↦[R t]{fullShare} f) from by
    iintro H; iexists f; iexact H)))
  iexact H

theorem rows_in {T : Type} [Fintype T] [DecidableEq T] {ℓ : Loc nD τ sig} [Nonempty (Buf (Elt F) ℓ)] (R : T → Finset (Idx ℓ)) (hd : ∀ t ∈ Finset.univ, ∀ t' ∈ Finset.univ, t ≠ t' → Disjoint (R t) (R t'))
    (hc : Finset.univ.biUnion R = Finset.univ) :
    (bigSep Finset.univ fun t => iprop(∃ f, ℓ ↦[R t]{fullShare} f)) ⊢ (iprop(∃ f, ℓ ↦{fullShare} f) : sProp 𝕄) := by
  refine (bigSep_exists_pi Finset.univ (fun t (f : Buf (Elt F) ℓ) => (ℓ ↦[R t]{fullShare} f : sProp 𝕄))).trans ?_
  iintro ⟨%fs, H⟩
  ihave H := (pointsTo_biUnion_join Finset.univ R fs (Classical.choice inferInstance) hd) $$ H
  icases H with ⟨%g, -, H⟩
  rw [hc]
  iexists g; iexact H

theorem apartI : ∀ b ∈ (Finset.univ : Finset (Fin 4)), ∀ b' ∈ (Finset.univ : Finset (Fin 4)), b ≠ b' →
    Disjoint (rowI d i b.val (inR b)).view.set (rowI d i b'.val (inR b')).view.set :=
  fun b _ b' _ h => Finset.disjoint_left.mpr fun x hx hx' => h (Fin.ext (((memI d i _ _ x).mp hx).symm.trans ((memI d i _ _ x).mp hx')))
theorem apartD : ∀ b ∈ (Finset.univ : Finset (Fin 4)), ∀ b' ∈ (Finset.univ : Finset (Fin 4)), b ≠ b' →
    Disjoint (rowD d i b.val (inR b)).view.set (rowD d i b'.val (inR b')).view.set :=
  fun b _ b' _ h => Finset.disjoint_left.mpr fun x hx hx' => h (Fin.ext (((memD d i _ _ x).mp hx).symm.trans ((memD d i _ _ x).mp hx')))
theorem apartG : ∀ b ∈ (Finset.univ : Finset (Fin 2)), ∀ b' ∈ (Finset.univ : Finset (Fin 2)), b ≠ b' →
    Disjoint (rowG d i b.val (inG b)).view.set (rowG d i b'.val (inG b')).view.set :=
  fun b _ b' _ h => Finset.disjoint_left.mpr fun x hx hx' => h (Fin.ext (((memG d i _ _ x).mp hx).symm.trans ((memG d i _ _ x).mp hx')))

theorem coverI : Finset.univ.biUnion (fun b : Fin 4 => (rowI d i b.val (inR b)).view.set) = (Finset.univ : Finset S4x4096.Idx) :=
  Finset.eq_univ_iff_forall.mpr fun x => Finset.mem_biUnion.mpr ⟨(x 0 : Fin 4), Finset.mem_univ _, (memI d i _ _ x).mpr rfl⟩
theorem coverD : Finset.univ.biUnion (fun b : Fin 4 => (rowD d i b.val (inR b)).view.set) = (Finset.univ : Finset S4x4096.Idx) :=
  Finset.eq_univ_iff_forall.mpr fun x => Finset.mem_biUnion.mpr ⟨(x 0 : Fin 4), Finset.mem_univ _, (memD d i _ _ x).mpr rfl⟩
theorem coverG : Finset.univ.biUnion (fun b : Fin 2 => (rowG d i b.val (inG b)).view.set) = (Finset.univ : Finset S2x8192.Idx) :=
  Finset.eq_univ_iff_forall.mpr fun x => Finset.mem_biUnion.mpr ⟨(x 0 : Fin 2), Finset.mem_univ _, (memG d i _ _ x).mpr rfl⟩

abbrev anyI (b : ℕ) (hb : InR b) : sProp 𝕄 := iprop(∃ f, (rowI d i b hb).view.loc (th d i) ↦[(rowI d i b hb).view.set]{fullShare} f)
abbrev anyD (b : ℕ) (hb : InR b) : sProp 𝕄 := iprop(∃ f, (rowD d i b hb).view.loc (th d i) ↦[(rowD d i b hb).view.set]{fullShare} f)

theorem ringI_out : (iprop(∃ f, (th d i).loc cc1_scratch1 ↦{fullShare} f) : sProp 𝕄) ⊢ iprop(anyI d i 0 ir0 ∗ anyI d i 1 ir1 ∗ anyI d i 2 ir2 ∗ anyI d i 3 ir3) :=
  (rows_out (ℓ := (th d i).loc cc1_scratch1) (fun b : Fin 4 => (rowI d i b.val (inR b)).view.set) (apartI d i) (coverI d i)).trans (Entails.of_eq four)
theorem ringI_in : iprop(anyI d i 0 ir0 ∗ anyI d i 1 ir1 ∗ anyI d i 2 ir2 ∗ anyI d i 3 ir3) ⊢ (iprop(∃ f, (th d i).loc cc1_scratch1 ↦{fullShare} f) : sProp 𝕄) :=
  (Entails.of_eq (four (Φ := fun b : Fin 4 => anyI d i b.val (inR b))).symm).trans
    (haveI : Nonempty (Buf (Elt F) ((th d i).loc cc1_scratch1)) := ⟨fun _ : S4x4096.Idx => (0#32 : BitVec 32)⟩
    rows_in (ℓ := (th d i).loc cc1_scratch1) (fun b : Fin 4 => (rowI d i b.val (inR b)).view.set) (apartI d i) (coverI d i))
theorem ringD_out : (iprop(∃ f, (th d i).loc cc1_scratch2 ↦{fullShare} f) : sProp 𝕄) ⊢ iprop(anyD d i 0 ir0 ∗ anyD d i 1 ir1 ∗ anyD d i 2 ir2 ∗ anyD d i 3 ir3) :=
  (rows_out (ℓ := (th d i).loc cc1_scratch2) (fun b : Fin 4 => (rowD d i b.val (inR b)).view.set) (apartD d i) (coverD d i)).trans (Entails.of_eq four)
theorem ringD_in : iprop(anyD d i 0 ir0 ∗ anyD d i 1 ir1 ∗ anyD d i 2 ir2 ∗ anyD d i 3 ir3) ⊢ (iprop(∃ f, (th d i).loc cc1_scratch2 ↦{fullShare} f) : sProp 𝕄) :=
  (Entails.of_eq (four (Φ := fun b : Fin 4 => anyD d i b.val (inR b))).symm).trans
    (haveI : Nonempty (Buf (Elt F) ((th d i).loc cc1_scratch2)) := ⟨fun _ : S4x4096.Idx => (Scalar.ofBits .f32 0x00000000#32 : F .f32)⟩
    rows_in (ℓ := (th d i).loc cc1_scratch2) (fun b : Fin 4 => (rowD d i b.val (inR b)).view.set) (apartD d i) (coverD d i))
theorem stageG_out : (iprop(∃ f, (th d i).loc cc1_scratch3 ↦{fullShare} f) : sProp 𝕄) ⊢ iprop(bare d i 0 ig0 ∗ bare d i 1 ig1) :=
  (rows_out (ℓ := (th d i).loc cc1_scratch3) (fun b : Fin 2 => (rowG d i b.val (inG b)).view.set) (apartG d i) (coverG d i)).trans (Entails.of_eq (bigSep_univ_two _))
theorem stageG_in : iprop(bare d i 0 ig0 ∗ bare d i 1 ig1) ⊢ (iprop(∃ f, (th d i).loc cc1_scratch3 ↦{fullShare} f) : sProp 𝕄) :=
  (Entails.of_eq (bigSep_univ_two (fun b : Fin 2 => bare d i b.val (inG b))).symm).trans
    (haveI : Nonempty (Buf (Elt F) ((th d i).loc cc1_scratch3)) := ⟨fun _ : S2x8192.Idx => (Scalar.ofBits .f32 0x00000000#32 : F .f32)⟩
    rows_in (ℓ := (th d i).loc cc1_scratch3) (fun b : Fin 2 => (rowG d i b.val (inG b)).view.set) (apartG d i) (coverG d i))

/-- What the tile's program starts from is its buffers whole and its semaphores at rest. -/
theorem tile_open : (iprop(bufs4 d i ∗ sems6 d i) : sProp 𝕄) ⊢ tileIn d i := by
  unfold bufs4 sems6 tileIn idle free
  iintro ⟨⟨HT, HI, HD, HG⟩, ⟨V0, V1, V2, V3, V4, V5⟩⟩
  ihave HI := (ringI_out d i) $$ HI
  icases HI with ⟨I0, I1, I2, I3⟩
  ihave HD := (ringD_out d i) $$ HD
  icases HD with ⟨D0, D1, D2, D3⟩
  ihave HG := (stageG_out d i) $$ HG
  icases HG with ⟨G0, G1⟩
  isplitl [I0 I1 I2 I3 D0 D1 D2 D3 V0 V1 V2 V3]
  · isplitl [I0 D0 V0]
    · isplitl [I0]; · iexact I0
      isplitl [D0]; · iexact D0
      iexact V0
    isplitl [I1 D1 V1]
    · isplitl [I1]; · iexact I1
      isplitl [D1]; · iexact D1
      iexact V1
    isplitl [I2 D2 V2]
    · isplitl [I2]; · iexact I2
      isplitl [D2]; · iexact D2
      iexact V2
    isplitl [I3]; · iexact I3
    isplitl [D3]; · iexact D3
    iexact V3
  isplitl [G0 G1 V4]
  · isplitl [G0]; · iexact G0
    isplitl [V4]; · iexact V4
    iexact G1
  isplitl [HT]; · iexact HT
  iexact V5

theorem tile_close : (tileIn d i : sProp 𝕄) ⊢ iprop(bufs4 d i ∗ sems6 d i) := by
  unfold bufs4 sems6 tileIn idle free
  iintro ⟨⟨⟨I0, D0, V0⟩, ⟨I1, D1, V1⟩, ⟨I2, D2, V2⟩, ⟨I3, D3, V3⟩⟩, ⟨G0, V4, G1⟩, HT, V5⟩
  isplitl [HT I0 I1 I2 I3 D0 D1 D2 D3 G0 G1]
  · isplitl [HT]; · iexact HT
    isplitl [I0 I1 I2 I3]
    · iapply (ringI_in d i)
      isplitl [I0]; · iexact I0
      isplitl [I1]; · iexact I1
      isplitl [I2]; · iexact I2
      iexact I3
    isplitl [D0 D1 D2 D3]
    · iapply (ringD_in d i)
      isplitl [D0]; · iexact D0
      isplitl [D1]; · iexact D1
      isplitl [D2]; · iexact D2
      iexact D3
    iapply (stageG_in d i)
    isplitl [G0]; · iexact G0
    iexact G1
  isplitl [V0]; · iexact V0
  isplitl [V1]; · iexact V1
  isplitl [V2]; · iexact V2
  isplitl [V3]; · iexact V3
  isplitl [V4]; · iexact V4
  iexact V5

/-- The tile's task, from what the launch deals it. -/
theorem task (hF : (K (F := F)).Facts) (hO : ∀ g, O g none = 0) :
    iprop(levAts (K (F := F)).L (K (F := F)).lev ∗ ((rd (locI d i) fI ∗ rd (locD d i) fD ∗ rd (locG d i) fG) ∗ outTodo d i 0)
        ∗ scopedBufs (th d i) ∗ scopedSems0 (th d i) ∗ owes (th d i) O W)
      ⊢ WP d i (cc1__sc_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6)
        (fun _ => iprop(outDone d i fI fD fG 4 ∗ scopedBufs (th d i) ∗ scopedSems0 (th d i) ∗ ∃ W', ⌜∀ p ∈ W', p ∈ W ∨ p.2 = none⌝ ∗ owes (th d i) O W')) := by
  rw [(K (F := F)).scopedBufs_V hF d ((i 0).castLE hcore1) ((i 1).castLE hsub1),
    SparseCore.Cfg.scopedSems0_V (Val := Elt F) d ((i 0).castLE hcore1) ((i 1).castLE hsub1), ownSems_eq, ownBufs_eq]
  iintro ⟨#Hlv, ⟨HR, HU⟩, ⟨HB, HBr⟩, ⟨HS, HSr⟩, HO⟩
  ihave Hmw := ((K (F := F)).mayWaits_none (thr := th d i) hO) $$ Hlv
  ihave HT := (tile_open d i) $$ [HB HS]
  · isplitl [HB]; · iexact HB
    iexact HS
  iapply (wend d i (tileRun d i O W fI fD fG)) $$ [HR HT HU HO Hmw]
  · isplitl [HR]; · iexact HR
    isplitl [HT]; · iexact HT
    isplitl [HU]; · iexact HU
    isplitl [HO]
    · unfold ow
      iexists W
      isplitr; · ipureintro; exact fun p hp => .inl hp
      iexact HO
    iexact Hmw
  iintro %_ ⟨-, HT, HD, HO⟩
  ihave HT := (tile_close d i) $$ HT
  icases HT with ⟨HB, HS⟩
  isplitl [HD]; · iexact HD
  isplitl [HB HBr]
  · isplitl [HB]; · iexact HB
    iexact HBr
  isplitl [HS HSr]
  · isplitl [HS]; · iexact HS
    iexact HSr
  unfold ow
  iexact HO

end Cert.Proof.Dens

end
-- ==== Proof.TcBody.lean ====
/-
  The TensorCore kernel's body on whole staging memrefs: it ends with the inputs as they were and the output's block
  written by the pieces the run finds.
-/
module

public import proofs.«01_k».proof.Proof.Base

@[expose] public section

set_option maxRecDepth 16384

noncomputable section

namespace Cert.Proof.Dens

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The body's run: the pieces its one store leaves in the output's staging memref, and the run itself. -/
noncomputable def densRun (c : Dev nD) (i : grid0.Coords)
    (a1 : Memref sig .tc .vmem S1x4x8192 .i32) (h1 : a1.IsWhole) (a2 : Memref sig .tc .vmem S1x4x8192 .i32) (h2 : a2.IsWhole)
    (a3 : Memref sig .tc .vmem S1x4x8192 .i32) (h3 : a3.IsWhole) (a4 : Memref sig .tc .vmem S1x4x8192 .f32) (h4 : a4.IsWhole)
    (a5 : Memref sig .tc .vmem S1x4x8192 .f32) (h5 : a5.IsWhole) (a6 : Memref sig .tc .vmem S1x4x8192 .f32) (h6 : a6.IsWhole)
    (a7 : Memref sig .tc .smem S3x32 .f32) (h7 : a7.IsWhole) (a8 : Memref sig .tc .smem S32 .f32) (h8 : a8.IsWhole)
    (a9 : Memref sig .tc .smem S32 .f32) (h9 : a9.IsWhole) (a10 : Memref sig .tc .vmem S4x8192 .f32) (h10 : a10.IsWhole)
    (x0 x1 x2 : Vec F S1x4x8192 .i32) (x3 x4 x5 : Vec F S1x4x8192 .f32) (x6 : Vec F S3x32 .f32) (x7 x8 : Vec F S32 .f32) :
    { L : List (View.Piece (Elt F) S4x8192 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ (∃ d, owns (c : Thread nD τ) a10 fullShare d)
            ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ (∃ f, a10.view.loc (c : Thread nD τ) ↦[a10.view.set]{fullShare} a10.view.writes (Elt F) f L)) -∗ K ⟨⟩))
          ⊢ wp frame (wpE (defs₀ (F := F)) Variants.none c none) E
              (cc0__dens_body i a1 h1 a2 h2 a3 h3 a4 h4 a5 h5 a6 h6 a7 h7 a8 h8 a9 h9 a10 h10) K } := by
  refine ⟨?_, fun E K => ?run⟩
  case run =>
    simp only [cc0__dens_body_eq_skeleton]; unfold cc0__dens_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
    obtain rfl := h1.eq_unread e0; obtain rfl := h2.eq_unread e1; obtain rfl := h3.eq_unread e2
    obtain rfl := h4.eq_unread e3; obtain rfl := h5.eq_unread e4; obtain rfl := h6.eq_unread e5
    obtain rfl := h7.eq_unread e6; obtain rfl := h8.eq_unread e7; obtain rfl := h9.eq_unread e8
    sl_exec
    sl_step
    iapply Hk
    isplitl [H0]; · iexists _; isplitr; · ipureintro; exact h1.read_unread _
                    iexact H0
    isplitl [H1]; · iexists _; isplitr; · ipureintro; exact h2.read_unread _
                    iexact H1
    isplitl [H2]; · iexists _; isplitr; · ipureintro; exact h3.read_unread _
                    iexact H2
    isplitl [H3]; · iexists _; isplitr; · ipureintro; exact h4.read_unread _
                    iexact H3
    isplitl [H4]; · iexists _; isplitr; · ipureintro; exact h5.read_unread _
                    iexact H4
    isplitl [H5]; · iexists _; isplitr; · ipureintro; exact h6.read_unread _
                    iexact H5
    isplitl [H6]; · iexists _; isplitr; · ipureintro; exact h7.read_unread _
                    iexact H6
    isplitl [H7]; · iexists _; isplitr; · ipureintro; exact h8.read_unread _
                    iexact H7
    isplitl [H8]; · iexists _; isplitr; · ipureintro; exact h9.read_unread _
                    iexact H8
    iexists _; iexact H9

end Cert.Proof.Dens

end
-- ==== Proof.DensVal.lean ====
/-
  The value the TensorCore kernel's body stores: the two-layer network, unit by unit, on a block of samples.
-/
module

public import proofs.«01_k».proof.Proof.TcBody
public import Idealize.ShloMosaic.Lib.ValueIdxCore
public import Idealize.ShloMosaic.Lib.Pipeline.Value

@[expose] public section

set_option maxRecDepth 16384

noncomputable section

namespace Cert.Proof.Dens

open Cert.KernelIdeal Cert.KernelIdeal.Gen
open Idealize.ShloMosaic Idealize.ShloMosaic.TcCoe Idealize.ShloMosaic.Tactic Idealize.ShloMosaic.ValueIdx

variable {F : FTy → Type} [FloatOps F]

/-- A constant of the body, spread over a block. -/
abbrev kst (w : BitVec 32) : FVec F S4x8192 .f32 := broadcast S4x8192 (Scalar.ofBits .f32 w)

/-- One jittered coordinate of a block of samples. -/
def jit (x : Vec F S1x4x8192 .i32) (n : Vec F S1x4x8192 .f32) : FVec F S4x8192 .f32 :=
  addf
    (mulf (subf (mulf (divf (sitofp .f32 (shapeCast S4x8192 x shapeCasts_S1x4x8192_S4x8192)) (kst 0x42FE0000#32)) (kst 0x40000000#32)) (kst 0x3F800000#32))
      (broadcastTo S4x8192 (k0_pay4 (F := F)) broadcasts_S4x1_S4x8192))
    (mulf (subf (mulf (shapeCast S4x8192 n shapeCasts_S1x4x8192_S4x8192) (kst 0x40000000#32)) (kst 0x3F800000#32))
      (broadcastTo S4x8192 (k0_pay3 (F := F)) broadcasts_S4x1_S4x8192))

/-- What one hidden unit adds. -/
def unitTerm (X Y Z : FVec F S4x8192 .f32) (w0 w1 w2 b v : F .f32) : FVec F S4x8192 .f32 :=
  mulf (maximumf (addf (addf (addf (mulf X (broadcast S4x8192 w0)) (mulf Y (broadcast S4x8192 w1))) (mulf Z (broadcast S4x8192 w2)))
    (broadcast S4x8192 b)) (kst 0x00000000#32)) (broadcast S4x8192 v)

theorem inb_w (r : Fin 3) (j : Fin 32) : ∀ a, (![r.val, j.val] : Fin 2 → ℕ) a + S1x1.size a ≤ S3x32.size a :=
  fun a => match a with | ⟨0, _⟩ => r.isLt | ⟨1, _⟩ => j.isLt
theorem inb_b (j : Fin 32) : ∀ a, (![j.val] : Fin 1 → ℕ) a + S1.size a ≤ S32.size a :=
  fun a => match a with | ⟨0, _⟩ => j.isLt

/-- One word of the first layer's weights, and of a table of one row, as the body loads it. -/
def word2 (x : Vec F S3x32 .f32) (r : Fin 3) (j : Fin 32) : F .f32 :=
  View.ld (Val := Elt F) (e' := .f32) x (Rect.unit (s := S3x32) ![r.val, j.val] S1x1.size (inb_w r j)) (Shape.Idx.first (s := S1x1) (by decide))
def word1 (x : Vec F S32 .f32) (j : Fin 32) : F .f32 :=
  View.ld (Val := Elt F) (e' := .f32) x (Rect.unit (s := S32) ![j.val] S1.size (inb_b j)) (Shape.Idx.first (s := S1) (by decide))

theorem word2_eq (x : Vec F S3x32 .f32) (r : Fin 3) (j : Fin 32) : word2 x r j = x (ix2 r j) := by
  unfold word2
  show x _ = x _
  congr 1
  funext a; match a with | ⟨0, _⟩ => rfl | ⟨1, _⟩ => rfl
theorem word1_eq (x : Vec F S32 .f32) (j : Fin 32) : word1 x j = x (ix1 j) := by
  unfold word1
  show x _ = x _
  congr 1
  funext a; match a with | ⟨0, _⟩ => rfl

/-- Hidden unit `j`'s term, its weights read from the tables. -/
def unitAt (X Y Z : FVec F S4x8192 .f32) (x6 : Vec F S3x32 .f32) (x7 x8 : Vec F S32 .f32) (j : Fin 32) : FVec F S4x8192 .f32 :=
  unitTerm X Y Z (word2 x6 0 j) (word2 x6 1 j) (word2 x6 2 j) (word1 x7 j) (word1 x8 j)

/-- The sum of the hidden units' terms up to unit `n`, from the left. -/
def accTo (X Y Z : FVec F S4x8192 .f32) (x6 : Vec F S3x32 .f32) (x7 x8 : Vec F S32 .f32) : ℕ → FVec F S4x8192 .f32
  | 0 => unitAt X Y Z x6 x7 x8 0
  | n + 1 => addf (accTo X Y Z x6 x7 x8 n) (unitAt X Y Z x6 x7 x8 (Fin.ofNat 32 (n + 1)))

/-- The soft positive part. -/
def softp (z : FVec F S4x8192 .f32) : FVec F S4x8192 .f32 :=
  addf (maximumf z (kst 0x00000000#32)) (log1p (exp (subf (kst 0x00000000#32) (absf z))))

/-- The densities of a block of samples. -/
def densVal (x0 x1 x2 : Vec F S1x4x8192 .i32) (x3 x4 x5 : Vec F S1x4x8192 .f32) (x6 : Vec F S3x32 .f32) (x7 x8 : Vec F S32 .f32) : FVec F S4x8192 .f32 :=
  softp (accTo (jit x0 x3) (jit x1 x4) (jit x2 x5) x6 x7 x8 31)

theorem ld_blk {e : EltTy} (x : S1x4x8192.Idx → Elt F e) (inb) :
    View.ld x (Rect.unit (s := S1x4x8192) ![0, 0, 0] ![1, 4, 8192] inb) = x :=
  View.ld_unit_zero (S := S1x4x8192) (by funext a; match a with | ⟨0, _⟩ => rfl | ⟨1, _⟩ => rfl | ⟨2, _⟩ => rfl) inb x

theorem pay5_eq (x : Vec F S1x4x8192 .i32) (n : Vec F S1x4x8192 .f32) : k0_pay5 x n = jit x n := rfl
theorem pay6_eq (x : Vec F S1x4x8192 .i32) (n : Vec F S1x4x8192 .f32) : k0_pay6 k0_pay3 k0_pay4 x n = jit x n := rfl
theorem pay7_eq (x : Vec F S1x4x8192 .i32) (n : Vec F S1x4x8192 .f32) : k0_pay7 k0_pay3 k0_pay4 x n = jit x n := rfl

set_option maxHeartbeats 4000000 in
/-- The run's one piece: the whole block, at the densities. -/
theorem densRun_eq (c : Dev nD) (i : grid0.Coords)
    (a1 : Memref sig .tc .vmem S1x4x8192 .i32) (h1 : a1.IsWhole) (a2 : Memref sig .tc .vmem S1x4x8192 .i32) (h2 : a2.IsWhole)
    (a3 : Memref sig .tc .vmem S1x4x8192 .i32) (h3 : a3.IsWhole) (a4 : Memref sig .tc .vmem S1x4x8192 .f32) (h4 : a4.IsWhole)
    (a5 : Memref sig .tc .vmem S1x4x8192 .f32) (h5 : a5.IsWhole) (a6 : Memref sig .tc .vmem S1x4x8192 .f32) (h6 : a6.IsWhole)
    (a7 : Memref sig .tc .smem S3x32 .f32) (h7 : a7.IsWhole) (a8 : Memref sig .tc .smem S32 .f32) (h8 : a8.IsWhole)
    (a9 : Memref sig .tc .smem S32 .f32) (h9 : a9.IsWhole) (a10 : Memref sig .tc .vmem S4x8192 .f32) (h10 : a10.IsWhole)
    (x0 x1 x2 : Vec F S1x4x8192 .i32) (x3 x4 x5 : Vec F S1x4x8192 .f32) (x6 : Vec F S3x32 .f32) (x7 x8 : Vec F S32 .f32) :
    (densRun (F := F) c i a1 h1 a2 h2 a3 h3 a4 h4 a5 h5 a6 h6 a7 h7 a8 h8 a9 h9 a10 h10 x0 x1 x2 x3 x4 x5 x6 x7 x8).1
      = [⟨Rect.unit (s := S4x8192) ![0, 0] S4x8192.size inb_S4x8192_S4x8192_0_0, densVal x0 x1 x2 x3 x4 x5 x6 x7 x8⟩] := by
  unfold densRun
  dsimp only
  sl_unfold_words
  simp only [View.readAt_eq_ld, h1.read_unread, h2.read_unread, h3.read_unread, h4.read_unread, h5.read_unread, h6.read_unread,
    h7.read_unread, h8.read_unread, h9.read_unread, ld_blk, pay5_eq, pay6_eq, pay7_eq]
  unfold densVal
  generalize jit x0 x3 = X
  generalize jit x1 x4 = Y
  generalize jit x2 x5 = Z
  simp only [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  refine congrArg (fun v => [(⟨_, v⟩ : View.Piece (Elt F) S4x8192 .f32)]) ?_
  refine congrArg softp ?_
  simp only [accTo]
  iterate 31 refine congrArg₂ addf ?_ rfl
  rfl

end Cert.Proof.Dens

end
-- ==== Proof.TcRegion.lean ====
/-
  The TensorCore call as a region of @main: its proof data from any contents of the core's unscoped buffers, the body at
  a grid point, and the region's step inside a SparseCore program, at a thread that still owes its SparseCore calls.
-/
module

public import proofs.«01_k».proof.Proof.DensVal
public import Idealize.ShloMosaic.Lib.Ring
public import Idealize.ShloMosaic.Lib.Pipeline.RegionArrays

@[expose] public section

set_option maxRecDepth 16384

noncomputable section

namespace Cert.Proof.Dens

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- Contents of a core's buffers. -/
abbrev Bufs (F : FTy → Type) (c : Dev nD) : Type := (b : Ref sig .tc) → Buf (Elt F) ((c : Thread nD τ).loc b)

/-- Window `w`'s block at point `t`, read from its array. -/
def blkOf (c : Dev nD) (Vc : Bufs F c) (w : Fin 10) (t : Fin cfg0.N) : ((cfg0.win w).xblock (cfg0.grid.coords t)).Idx → Elt F (cfg0.win w).elt :=
  ((cfg0.win w).blk t).view.read (Elt F) (Vc (Pipeline.arrRef spec0 w))

/-- The output's block after point `t`. -/
def outBlk (c : Dev nD) (Vc : Bufs F c) (t : Fin cfg0.N) : Vec F S4x8192 .f32 :=
  densVal (blkOf c Vc 0 t) (blkOf c Vc 1 t) (blkOf c Vc 2 t) (blkOf c Vc 3 t) (blkOf c Vc 4 t) (blkOf c Vc 5 t)
    (blkOf c Vc 6 t) (blkOf c Vc 7 t) (blkOf c Vc 8 t)

/-- The region's proof data, on each core from its buffers' contents `Vs c`; the core owes its SparseCore calls throughout. -/
def dats (Vs : (c : Dev nD) → Bufs F c) (_ : Fin 1) (c : Dev nD) : Dat τ (Elt F) (HIx 1) ℕ UU ℕ cfg0 c where
  A w := Vs c (Pipeline.arrRef spec0 w)
  after w t := match w with
    | ⟨0, _⟩ => blkOf c (Vs c) 0 t
    | ⟨1, _⟩ => blkOf c (Vs c) 1 t
    | ⟨2, _⟩ => blkOf c (Vs c) 2 t
    | ⟨3, _⟩ => blkOf c (Vs c) 3 t
    | ⟨4, _⟩ => blkOf c (Vs c) 4 t
    | ⟨5, _⟩ => blkOf c (Vs c) 5 t
    | ⟨6, _⟩ => blkOf c (Vs c) 6 t
    | ⟨7, _⟩ => blkOf c (Vs c) 7 t
    | ⟨8, _⟩ => blkOf c (Vs c) 8 t
    | ⟨9, _⟩ => outBlk c (Vs c) t
  Φ _ := Pipeline.scopedRest spec0 c
  q w := Pipeline.shareOf spec0 w
  owed _ := (K (F := F)).Otc (N := 1) c 0
  recorded _ := {p | (K (F := F)).lev (T c, p.1) p.2 ≤ 0}

variable (Vs : (c : Dev nD) → Bufs F c)

theorem A_eq (c : Dev nD) (w : Fin 10) : (dats Vs 0 c).A w = Vs c (Pipeline.arrRef spec0 w) := by dsimp only [dats]

/-- An input's staging buffer holds its block at every point: the data's array is `Vs`'s and the body keeps the block. -/
theorem before_of (c : Dev nD) (t : Fin cfg0.N) (w : Fin cfg0.W) (hw : (cfg0.win w).isOut = false)
    (X : Fin cfg0.N → (cfg0.win w).block.Idx → Elt F (cfg0.win w).elt)
    (hafter : ∀ t, (dats Vs 0 c).after w t = X t) (hcut : ∀ t, (cfg0.win w).cut (cfg0.grid.coords t) (X t) = (dats Vs 0 c).blockOf w t)
    (hclip : ∀ t t' : Fin cfg0.N, (cfg0.win w).index t = (cfg0.win w).index t' →
      (cfg0.win w).clip (cfg0.grid.coords t) = (cfg0.win w).clip (cfg0.grid.coords t'))
    (hf : ∀ d, (dats Vs 0 c).fetched w t d = X t) (d) :
    (dats Vs 0 c).before w t d = X t :=
  ((dats Vs 0 c).before_in_eq_fetched w hw (fun _ => rfl) hclip (fun t => by rw [hafter, hcut]) t d).trans (hf d)

theorem before0 (c : Dev nD) (t : Fin cfg0.N) (d) : (dats Vs 0 c).before 0 t d = blkOf c (Vs c) 0 t :=
  before_of Vs c t 0 rfl (blkOf c (Vs c) 0) (fun _ => rfl) (fun _ => by unfold Dat.blockOf blkOf; rfl) (fun _ _ _ => rfl) (fun _ => by unfold Dat.fetched Dat.blockOf blkOf; rfl) d
theorem before1 (c : Dev nD) (t : Fin cfg0.N) (d) : (dats Vs 0 c).before 1 t d = blkOf c (Vs c) 1 t :=
  before_of Vs c t 1 rfl (blkOf c (Vs c) 1) (fun _ => rfl) (fun _ => by unfold Dat.blockOf blkOf; rfl) (fun _ _ _ => rfl) (fun _ => by unfold Dat.fetched Dat.blockOf blkOf; rfl) d
theorem before2 (c : Dev nD) (t : Fin cfg0.N) (d) : (dats Vs 0 c).before 2 t d = blkOf c (Vs c) 2 t :=
  before_of Vs c t 2 rfl (blkOf c (Vs c) 2) (fun _ => rfl) (fun _ => by unfold Dat.blockOf blkOf; rfl) (fun _ _ _ => rfl) (fun _ => by unfold Dat.fetched Dat.blockOf blkOf; rfl) d
theorem before3 (c : Dev nD) (t : Fin cfg0.N) (d) : (dats Vs 0 c).before 3 t d = blkOf c (Vs c) 3 t :=
  before_of Vs c t 3 rfl (blkOf c (Vs c) 3) (fun _ => rfl) (fun _ => by unfold Dat.blockOf blkOf; rfl) (fun _ _ _ => rfl) (fun _ => by unfold Dat.fetched Dat.blockOf blkOf; rfl) d
theorem before4 (c : Dev nD) (t : Fin cfg0.N) (d) : (dats Vs 0 c).before 4 t d = blkOf c (Vs c) 4 t :=
  before_of Vs c t 4 rfl (blkOf c (Vs c) 4) (fun _ => rfl) (fun _ => by unfold Dat.blockOf blkOf; rfl) (fun _ _ _ => rfl) (fun _ => by unfold Dat.fetched Dat.blockOf blkOf; rfl) d
theorem before5 (c : Dev nD) (t : Fin cfg0.N) (d) : (dats Vs 0 c).before 5 t d = blkOf c (Vs c) 5 t :=
  before_of Vs c t 5 rfl (blkOf c (Vs c) 5) (fun _ => rfl) (fun _ => by unfold Dat.blockOf blkOf; rfl) (fun _ _ _ => rfl) (fun _ => by unfold Dat.fetched Dat.blockOf blkOf; rfl) d
theorem before6 (c : Dev nD) (t : Fin cfg0.N) (d) : (dats Vs 0 c).before 6 t d = blkOf c (Vs c) 6 t :=
  before_of Vs c t 6 rfl (blkOf c (Vs c) 6) (fun _ => rfl) (fun _ => by unfold Dat.blockOf blkOf; rfl) (fun _ _ _ => rfl) (fun _ => by unfold Dat.fetched Dat.blockOf blkOf; rfl) d
theorem before7 (c : Dev nD) (t : Fin cfg0.N) (d) : (dats Vs 0 c).before 7 t d = blkOf c (Vs c) 7 t :=
  before_of Vs c t 7 rfl (blkOf c (Vs c) 7) (fun _ => rfl) (fun _ => by unfold Dat.blockOf blkOf; rfl) (fun _ _ _ => rfl) (fun _ => by unfold Dat.fetched Dat.blockOf blkOf; rfl) d
theorem before8 (c : Dev nD) (t : Fin cfg0.N) (d) : (dats Vs 0 c).before 8 t d = blkOf c (Vs c) 8 t :=
  before_of Vs c t 8 rfl (blkOf c (Vs c) 8) (fun _ => rfl) (fun _ => by unfold Dat.blockOf blkOf; rfl) (fun _ _ _ => rfl) (fun _ => by unfold Dat.fetched Dat.blockOf blkOf; rfl) d

/-- What the body is called with at point `t`, and what it returns. -/
def bodyPre (c : Dev nD) (t : Fin cfg0.N) : sProp 𝕄 :=
  iprop((dats Vs 0 c).Φ t.castSucc ∗ (dats Vs 0 c).owesAt none t.castSucc
    ∗ (∃ d, owns (c : Thread nD τ) (win0_0.stage (cfg0.slots t 0)) fullShare ((dats Vs 0 c).before 0 t d))
    ∗ (∃ d, owns (c : Thread nD τ) (win0_1.stage (cfg0.slots t 1)) fullShare ((dats Vs 0 c).before 1 t d))
    ∗ (∃ d, owns (c : Thread nD τ) (win0_2.stage (cfg0.slots t 2)) fullShare ((dats Vs 0 c).before 2 t d))
    ∗ (∃ d, owns (c : Thread nD τ) (win0_3.stage (cfg0.slots t 3)) fullShare ((dats Vs 0 c).before 3 t d))
    ∗ (∃ d, owns (c : Thread nD τ) (win0_4.stage (cfg0.slots t 4)) fullShare ((dats Vs 0 c).before 4 t d))
    ∗ (∃ d, owns (c : Thread nD τ) (win0_5.stage (cfg0.slots t 5)) fullShare ((dats Vs 0 c).before 5 t d))
    ∗ (∃ d, owns (c : Thread nD τ) (win0_6.stage (cfg0.slots t 6)) fullShare ((dats Vs 0 c).before 6 t d))
    ∗ (∃ d, owns (c : Thread nD τ) (win0_7.stage (cfg0.slots t 7)) fullShare ((dats Vs 0 c).before 7 t d))
    ∗ (∃ d, owns (c : Thread nD τ) (win0_8.stage (cfg0.slots t 8)) fullShare ((dats Vs 0 c).before 8 t d))
    ∗ (∃ d, owns (c : Thread nD τ) (win0_9.stage (cfg0.slots t 9)) fullShare ((dats Vs 0 c).before 9 t d)))
def bodyPost (c : Dev nD) (t : Fin cfg0.N) : sProp 𝕄 :=
  iprop((dats Vs 0 c).Φ t.succ ∗ (dats Vs 0 c).owesAt none t.succ
    ∗ owns (c : Thread nD τ) (win0_0.stage (cfg0.slots t 0)) fullShare ((dats Vs 0 c).after 0 t)
    ∗ owns (c : Thread nD τ) (win0_1.stage (cfg0.slots t 1)) fullShare ((dats Vs 0 c).after 1 t)
    ∗ owns (c : Thread nD τ) (win0_2.stage (cfg0.slots t 2)) fullShare ((dats Vs 0 c).after 2 t)
    ∗ owns (c : Thread nD τ) (win0_3.stage (cfg0.slots t 3)) fullShare ((dats Vs 0 c).after 3 t)
    ∗ owns (c : Thread nD τ) (win0_4.stage (cfg0.slots t 4)) fullShare ((dats Vs 0 c).after 4 t)
    ∗ owns (c : Thread nD τ) (win0_5.stage (cfg0.slots t 5)) fullShare ((dats Vs 0 c).after 5 t)
    ∗ owns (c : Thread nD τ) (win0_6.stage (cfg0.slots t 6)) fullShare ((dats Vs 0 c).after 6 t)
    ∗ owns (c : Thread nD τ) (win0_7.stage (cfg0.slots t 7)) fullShare ((dats Vs 0 c).after 7 t)
    ∗ owns (c : Thread nD τ) (win0_8.stage (cfg0.slots t 8)) fullShare ((dats Vs 0 c).after 8 t)
    ∗ owns (c : Thread nD τ) (win0_9.stage (cfg0.slots t 9)) fullShare ((dats Vs 0 c).after 9 t))

/-- One store of the whole block leaves the block at its value. -/
theorem read_covering {sp : Space} (v : View sig .tc sp S4x8192 .f32) (w : FVec F S4x8192 .f32) (f) :
    v.read (Elt F) (v.writes (Elt F) f [⟨Rect.unit (s := S4x8192) ![0, 0] S4x8192.size inb_S4x8192_S4x8192_0_0, w⟩]) = w := by
  rw [View.read_writes_eq_canon _ _ _ (View.cover_of_tiledL _ S4x8192.size (by sl_kernel_rfl))]
  exact View.canon_unit_zero (by funext a; match a with | ⟨0, _⟩ => rfl | ⟨1, _⟩ => rfl) _ _

set_option maxHeartbeats 800000 in
theorem sound_body (c : Dev nD) (t : Fin cfg0.N) :
    bodyPre Vs c t ⊢ wp frame (wpE (defs₀ (F := F)) Variants.none c none) Set.univ (bodyAt0 t) (fun _ => bodyPost Vs c t) := by
  unfold bodyPre bodyPost bodyAt0
  simp only [before0, before1, before2, before3, before4, before5, before6, before7, before8]
  rw [show (dats Vs 0 c).Φ t.succ = (dats Vs 0 c).Φ t.castSucc from rfl,
    show (dats Vs 0 c).owesAt none t.succ = (dats Vs 0 c).owesAt none t.castSucc from rfl,
    show (dats Vs 0 c).after 9 t = outBlk c (Vs c) t from rfl]
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((densRun c (grid0.coords t) _ _ _ _ _ _ _ _ _ _ _ _ _ _ _ _ _ _ _ _ (blkOf c (Vs c) 0 t) (blkOf c (Vs c) 1 t) (blkOf c (Vs c) 2 t) (blkOf c (Vs c) 3 t) (blkOf c (Vs c) 4 t) (blkOf c (Vs c) 5 t) (blkOf c (Vs c) 6 t) (blkOf c (Vs c) 7 t) (blkOf c (Vs c) 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  rw [densRun_eq]
  exact read_covering _ _ _

theorem defs₀_row (t : Fin cfg0.N) :
    defs₀ (F := F) .tc cfg0.body (cfg0.bodyArgs t (cfg0.slots t)) = bodyAt0 t := by
  unfold defs₀; rfl

theorem body_obligation (c : Dev nD) : BodyObligation (dats Vs 0 c) (defs₀ (F := F)) Variants.none none Set.univ := fun t => by
  rw [bigSep_W0, bigSep_W0, defs₀_row]
  exact triple_restated (sound_body Vs c t) rfl .rfl fun _ => .rfl

/-! ## The region -/

/-- The buffers after the region: the densities' array at what the pipeline writes back, all else as it was. -/
def Vafter (c : Dev nD) : Bufs F c := Function.update (Vs c) main_v3 ((dats Vs 0 c).arrAt 9 cfg0.N)

abbrev adm : (p : Fin 1) → (pcfgs (F := F) p).Adm := fun p => (cfgs p).toPCfg_adm

theorem arr_after (c : Dev nD) (w : Fin 10) : (dats Vs 0 c).arrAt w cfg0.N = Vafter Vs c (Pipeline.arrRef spec0 w) := by
  unfold Vafter
  by_cases h : w = 9
  · subst h; exact (Function.update_self (β := fun b => Buf (Elt F) ((c : Thread nD τ).loc b)) _ _ _).symm
  · have hne : Pipeline.arrRef spec0 w ≠ main_v3 := by revert w; decide
    have hin : (cfg0.win w).isOut = false := by revert w; decide
    rw [Function.update_of_ne hne, (dats Vs 0 c).arrAt_in w hin]
    exact A_eq Vs c w

/-- What the core holds of its dues at the region's ends: nothing waited for above level zero. -/
def dues (c : Dev nD) : sProp 𝕄 :=
  iprop(∃ W, ⌜(K (F := F)).WBelow (T c) W 0⌝ ∗ owes (T c) ((K (F := F)).Otc (N := 1) c 0) W)

/-- The region. -/
def regionSeg : Pipeline.RegionSeg (pcfgs (F := F)) adm (dats Vs) (none : HIx 1) defs₀ 𝒱₀ (K (F := F)).L (K (F := F)).lev 0 where
  win := winFacts₀0
  block_pos := block_pos0
  stage_whole := stage_whole0
  K := PEmpty
  osem k := k.elim
  ho := Pipeline.OwnSemFacts.none _
  hbody c := (body_obligation Vs c).loose
  hwaits c := Pipeline.cellsWaits_of_cut (Pipeline.pin pcfgs adm) (dats Vs) none 0 c 0 ((K (F := F)).Otc (N := 1) c 0) (fun _ => rfl)
    (fun _ _ => Finset.mem_univ _) (fun _ _ => le_rfl) (fun g i h => ⟨Finset.mem_univ _, lt_of_lt_of_le (Nat.succ_pos _) (SparseCore.Cfg.lev_of_Otc_pos h)⟩)
  pre c := iprop(unscopedBufs c (Vs c) ∗ dues c)
  post c := iprop(unscopedBufs c (Vafter Vs c) ∗ dues c)
  X _ := iprop(emp)
  Y _ := iprop(emp)
  Z c := Pipeline.unscopedRest spec0 c (Vs c)
  hentry c := by
    rw [Pipeline.ownSems0_none, Pipeline.prefHeld_of_none _ rfl]
    iintro ⟨⟨Hb, HO⟩, -, -⟩
    imodintro
    ihave Ha := (Pipeline.arrays_of_unscopedBufs_shared pcfgs adm (dats Vs) (p := 0) winFacts₀0 sharedIn0 arr_whole0 c (fun _ _ => rfl) (Vs c) (fun _ => rfl)) $$ [Hb]
    · iexact Hb
    icases Ha with ⟨Ha, Hr⟩
    isplitl [Ha]; · iexact Ha
    isplitr; · iempintro
    isplitl [HO]
    · unfold Dat.owesAt Pipeline.owesWithin Dat.bound dues
      icases HO with ⟨%W, %hW, HO⟩
      iexists W; isplitr; · ipureintro; exact fun p hp => Or.inl (hW p hp)
      iexact HO
    isplitr; · iempintro
    iexact Hr
  hin c := by
    rw [show (dats Vs 0 c).Φ 0 = Pipeline.scopedRest spec0 c from rfl]
    iintro ⟨-, -, Hr⟩; iexact Hr
  hout c := by
    rw [Pipeline.ownSems0_none, show (dats Vs 0 c).Φ (Fin.last (Pipeline.pin pcfgs adm 0).N) = Pipeline.scopedRest spec0 c from rfl]
    iintro Hr
    isplitr; · iempintro
    isplitr; · iempintro
    iexact Hr
  hexit c := by
    iintro ⟨Ha, HO, -, Hr⟩
    imodintro
    isplitl [Ha Hr]
    · iapply (Pipeline.unscopedBufs_of_arrays_shared pcfgs adm (p := 0) winFacts₀0 sharedIn0 arr_whole0 c (dats Vs) (fun _ _ => rfl) (Vs c) (Vafter Vs c)
        (fun w => (dats Vs 0 c).arrAt w cfg0.N) (arr_after Vs c)
        (fun b hb => Function.update_of_ne (fun e => hb (by rw [e]; exact Finset.mem_image.mpr ⟨(9 : Fin 10), Finset.mem_univ _, rfl⟩)) _ _))
      isplitl [Ha]; · iexact Ha
      iexact Hr
    unfold Dat.owesAt Pipeline.owesWithin dues
    icases HO with ⟨%W, %hW, HO⟩
    iexists W; isplitr
    · ipureintro
      intro p hp
      rcases hW hp with h | h
      · exact h
      · obtain ⟨q, s, rfl⟩ := h
        exact le_rfl
    iexact HO

end Cert.Proof.Dens

end
-- ==== Proof.Pay.lean ====
/-
  The program's launch: what the SparseCore call's handshakes carry, the tile's obligation, the TensorCore region's step.
-/
module

public import proofs.«01_k».proof.Proof.Own
public import proofs.«01_k».proof.Proof.TcRegion

@[expose] public section

noncomputable section

namespace Cert.Proof.Dens

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (m : (ℓ : Loc nD τ sig) → Buf (Elt F) ℓ)

/-! ## The buffers before the TensorCore call -/

abbrev opX : HloOp τ sig (Elt F) := StableHlo.unary main_arg2 main_v0
  ((transpose S3x4x1048576 [2, 0, 1] · transposes_S4x1048576x3_S3x4x1048576_2_0_1) : (⟨S4x1048576x3, .i32⟩ : BufTy).Contents (Elt F) → (⟨S3x4x1048576, .i32⟩ : BufTy).Contents (Elt F))
abbrev opN : HloOp τ sig (Elt F) := StableHlo.unary main_arg3 main_v1
  ((transpose S3x4x1048576 [2, 0, 1] · transposes_S4x1048576x3_S3x4x1048576_2_0_1) : (⟨S4x1048576x3, .f32⟩ : BufTy).Contents (Elt F) → (⟨S3x4x1048576, .f32⟩ : BufTy).Contents (Elt F))
abbrev opW : HloOp τ sig (Elt F) := StableHlo.reshape main_arg6 main_v2 (rfl : (.f32 : EltTy) = .f32) shapeCasts_S32x1_S32

/-- The launch valuation, and the one @main's host operations leave. -/
def val0 (d : Dev nD) : Valuation τ sig (Elt F) := fun b => m (d, b)
def val3 (d : Dev nD) : Valuation τ sig (Elt F) := opW.result (opN.result (opX.result (val0 m d)))

/-- The buffers the region starts from. -/
def Vs (d : Dev nD) : Bufs F d := fun b => val3 m d b

def gridOf (d : Dev nD) : S4x2097152.Idx → F .f32 := m ((SparseCore.T d).loc main_arg0)
def indsOf (d : Dev nD) : S4x1048576.Idx → BitVec 32 := m ((SparseCore.T d).loc main_arg1)
def densOf (d : Dev nD) : S4x1048576.Idx → F .f32 := (dats (Vs m) 0 d).arrAt 9 cfg0.N

/-! ## What the call's handshakes carry -/

def coordsV (c : Fin (grid1.bound 0)) (s : Fin (grid1.bound 1)) : grid1.Coords :=
  fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => cc1__sc_body (coordsV c s) (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6) ⟨⟩ c s := rfl

theorem nCore_eq (q : Fin 1) : (K (F := F)).nCore q = grid1.bound 0 := match q with | 0 => rfl
theorem nSub_eq (q : Fin 1) : (K (F := F)).nSub q = grid1.bound 1 := match q with | 0 => rfl

/-- A tile's coordinates from its numbers in the call. -/
def co {q : Fin 1} (c : Fin ((K (F := F)).nCore q)) (s : Fin ((K (F := F)).nSub q)) : grid1.Coords := coordsV (c.cast (nCore_eq q)) (s.cast (nSub_eq q))

section Deals

variable (d : Dev nD) (i : grid1.Coords) (fI : S4x1048576.Idx → BitVec 32) (fD : S4x1048576.Idx → F .f32) (fG : S4x2097152.Idx → F .f32)

/-- The shares of the operands a tile reads. -/
def reads : sProp 𝕄 := iprop(rd (locI d i) fI ∗ rd (locD d i) fD ∗ rd (locG d i) fG)

instance rd_storable (ℓ : Loc nD τ sig) (f : Buf (Elt F) ℓ) : Storable (upEmb : UEmb _ 𝕄) (rd ℓ f : sProp 𝕄) := by unfold rd; infer_instance
instance reads_storable : Storable (upEmb : UEmb _ 𝕄) (reads d i fI fD fG) := by unfold reads; infer_instance
instance outTodo_storable (n : ℕ) : Storable (upEmb : UEmb _ 𝕄) (outTodo (F := F) d i n) :=
  have : ∀ f, Storable (upEmb : UEmb _ 𝕄) (locO d i ↦[todo i n]{fullShare} f : sProp 𝕄) := fun _ => inferInstance
  Storable.exists (upEmb : UEmb _ 𝕄) fun f : Buf (Elt F) (locO d i) => (locO d i ↦[todo i n]{fullShare} f : sProp 𝕄)
instance outDone_storable (n : ℕ) : Storable (upEmb : UEmb _ 𝕄) (outDone d i fI fD fG n) := by unfold outDone; infer_instance

end Deals

/-- What a tile takes, -/
def toTile (d : Dev nD) (i : grid1.Coords) : sProp 𝕄 := iprop(reads d i (indsOf m d) (densOf m d) (gridOf m d) ∗ outTodo d i 0)

/-- and what it hands back. -/
def ofTile (d : Dev nD) (i : grid1.Coords) : sProp 𝕄 := outDone d i (indsOf m d) (densOf m d) (gridOf m d) 4

instance toTile_storable (d : Dev nD) (i : grid1.Coords) : Storable (upEmb : UEmb _ 𝕄) (toTile m d i) := by unfold toTile; infer_instance
instance ofTile_storable (d : Dev nD) (i : grid1.Coords) : Storable (upEmb : UEmb _ 𝕄) (ofTile m d i) := by unfold ofTile; infer_instance

/-- All a SparseCore's tiles take, and hand back. -/
def toCore (d : Dev nD) (q : Fin 1) (c : Fin ((K (F := F)).nCore q)) : sProp 𝕄 := bigSep Finset.univ fun s => toTile m d (co c s)
def ofCore (d : Dev nD) (q : Fin 1) (c : Fin ((K (F := F)).nCore q)) : sProp 𝕄 := bigSep Finset.univ fun s => ofTile m d (co c s)

instance toCore_storable (d : Dev nD) (q : Fin 1) (c : Fin ((K (F := F)).nCore q)) : Storable (upEmb : UEmb _ 𝕄) (toCore m d q c) := by unfold toCore; infer_instance
instance ofCore_storable (d : Dev nD) (q : Fin 1) (c : Fin ((K (F := F)).nCore q)) : Storable (upEmb : UEmb _ 𝕄) (ofCore m d q c) := by unfold ofCore; infer_instance

def P : (K (F := F)).Pay (nD := nD) (Val := Elt F) (Name := ℕ) (U := UU) where
  st q d c := toCore m d q c
  dn q d c := ofCore m d q c
  go q d c s := toTile m d (co c s)
  td q d c s := ofTile m d (co c s)
  x _ _ := iprop(emp)

instance P_storable : (P (F := F) m).IsStorable where
  st q d c := toCore_storable m d q c
  dn q d c := ofCore_storable m d q c
  go q d c s := toTile_storable m d (co c s)
  td q d c s := ofTile_storable m d (co c s)

/-! ## The tile's obligation -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr; · ipureintro; exact fun p hp => (h p hp).imp id Or.inl
  iexact HO

theorem tileTask (d : Dev nD) (i : grid1.Coords) (O : CellTallies nD τ sig (HIx 1)) (W : Waits sig (HIx 1)) (hO : ∀ g, O g none = 0) :
    iprop(levAts (K (F := F)).L (K (F := F)).lev ∗ emp ∗ toTile m d i ∗ scopedBufs (th d i) ∗ scopedSems0 (th d i) ∗ owes (th d i) O W)
      ⊢ WP d i (cc1__sc_body (F := F) i (Memref.whole main_arg0_scv) (Memref.isWhole_whole _) (Memref.whole main_arg1_scv) (Memref.isWhole_whole _) (Memref.whole main_v3_scv) (Memref.isWhole_whole _) (Memref.whole main_v4_scv) (Memref.isWhole_whole _)
        (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4 cc1_scratch5 cc1_scratch6) (fun _ => iprop(ofTile m d i ∗ scopedBufs (th d i) ∗ scopedSems0 (th d i) ∗
          ∃ W', ⌜∀ p ∈ W', p ∈ W ∨ p.2 = none⌝ ∗ owes (th d i) O W')) := by
  refine (show iprop(levAts (K (F := F)).L (K (F := F)).lev ∗ emp ∗ toTile m d i ∗ scopedBufs (th d i) ∗ scopedSems0 (th d i) ∗ owes (th d i) O W) ⊢ _ from ?_).trans
    (task d i O W (indsOf m d) (densOf m d) (gridOf m d) facts hO)
  unfold toTile reads
  iintro ⟨Hl, -, Hr⟩
  isplitl [Hl]; · iexact Hl
  iexact Hr

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tileTask m d (coordsV ⟨_, hc.1⟩ ⟨_, hc.2⟩) O W hO).trans (wp_mono frame _ _ fun _ => obl_post)

theorem vecSplit : (K (F := F)).VecSplit' (P m) 0 := by
  intro d c
  show (toCore m d 0 c) ⊢ |={Set.univ}=> iprop((bigSep Finset.univ fun s => toTile m d (co c s))
    ∗ ((bigSep Finset.univ fun s => ofTile m d (co c s)) -∗ ofCore m d 0 c))
  unfold toCore ofCore
  iintro H; imodintro
  isplitl [H]; · iexact H
  iintro H; iexact H

/-! ## The TensorCore region -/

/-- The pipeline's ghost state on a core. -/
def G (d : Dev nD) : sProp 𝕄 :=
  iprop((bigSep Finset.univ fun p => Pipeline.cellsGhost (Pipeline.pin (pcfgs (F := F)) adm) EP p d) ∗ bigSep Finset.univ fun p => Pipeline.toksInit (Pipeline.pin (pcfgs (F := F)) adm) EP p d)

end Cert.Proof.Dens

end
-- ==== Proof.Region.lean ====
/-
  The TensorCore call as a step of @main.
-/
module

public import proofs.«01_k».proof.Proof.Pay

@[expose] public section

noncomputable section

namespace Cert.Proof.Dens

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (m : (ℓ : Loc nD τ sig) → Buf (Elt F) ℓ)

variable (m : (ℓ : Loc nD τ sig) → Buf (Elt F) ℓ)

/-- The call under the SparseCore layer, -/
theorem regionIn [∀ e, Nonempty (Elt F e)] (d : Dev nD) (Φ : PUnit.{1} → sProp 𝕄) :
    iprop(levAts (K (F := F)).L (K (F := F)).lev ∗ boundary (SparseCore.T d) ∗ (unscopedBufs d (Vs m d) ∗ dues d) ∗ G d
        ∗ ((boundary (SparseCore.T d) ∗ (unscopedBufs d (Vafter (Vs m) d) ∗ dues d)) -∗ Φ ⟨⟩))
      ⊢ wp frame (wpE (D (F := F)) 𝒱 (SparseCore.T d) none) Set.univ (.op (.customCall (Pipeline.entry 0) ()) fun r => .ret r) Φ := by
  have h := Pipeline.RegionSeg.wp (pcfgs (F := F)) adm (dats (Vs m)) (none : HIx 1) cellOf_inj EP defs₀ 𝒱₀ (K (F := F)).L (K (F := F)).lev (regionSeg (Vs m)) d none (fun u hu => nomatch hu) (fun r => .ret r) Φ
  refine (show _ ⊢ iprop((iprop(boundary (SparseCore.T d) ∗ (unscopedBufs d (Vafter (Vs m) d) ∗ dues d)) -∗ wp frame (wpE (D (F := F)) 𝒱 (SparseCore.T d) none) Set.univ (.ret ⟨⟩) Φ)
        ∗ boundary (SparseCore.T d) ∗ (unscopedBufs d (Vs m d) ∗ dues d) ∗ levAts (K (F := F)).L (K (F := F)).lev
        ∗ Pipeline.cellsGhost (Pipeline.pin (pcfgs (F := F)) adm) EP 0 d ∗ Pipeline.toksInit (Pipeline.pin (pcfgs (F := F)) adm) EP 0 d) from ?_).trans h
  unfold G
  rw [bigSep_univ_of_subsingleton (0 : Fin 1), bigSep_univ_of_subsingleton (0 : Fin 1)]
  iintro ⟨Hl, Hb, Hp, ⟨Hg, Ht⟩, Hk⟩
  isplitl [Hk]
  · iintro H
    rw [wp_ret]; imodintro
    iapply Hk; iexact H
  isplitl [Hb]; · iexact Hb
  isplitl [Hp]; · iexact Hp
  isplitl [Hl]; · iexact Hl
  isplitl [Hg] <;> iassumption

/-- and as @main makes it. -/
theorem region [∀ e, Nonempty (Elt F e)] (d : Dev nD) (Φ : PUnit.{1} → sProp 𝕄) :
    iprop(levAts (K (F := F)).L (K (F := F)).lev ∗ boundary (SparseCore.T d) ∗ (unscopedBufs d (Vs m d) ∗ dues d) ∗ G d
        ∗ ((boundary (SparseCore.T d) ∗ (unscopedBufs d (Vafter (Vs m) d) ∗ dues d)) -∗ Φ ⟨⟩))
      ⊢ wp frame (wpE ((K (F := F)).defs (D (F := F))) 𝒱 (SparseCore.T d) none) Set.univ
          (Prog.lift (.customCall (SparseCore.inner (Pipeline.entry 0)) ())) Φ :=
  (regionIn m d Φ).trans ((K (F := F)).wp_liftProg (D (F := F)) 𝒱 (SparseCore.T d) Set.univ none (.op (.customCall (Pipeline.entry 0) ()) fun r => .ret r) Φ)

end Cert.Proof.Dens

end
-- ==== Proof.Deal.lean ====
/-
  The operands and the result dealt to the tiles, and the launch's ghost state.
-/
module

public import proofs.«01_k».proof.Proof.Region

@[expose] public section

noncomputable section

namespace Cert.Proof.Dens

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents the buffers pass through -/

theorem Vs_same (d : Dev nD) {b : Ref sig .tc} (h0 : b ≠ main_v0) (h1 : b ≠ main_v1) (h2 : b ≠ main_v2) : Vs m d b = m ((SparseCore.T d).loc b) := by
  show opW.result (opN.result (opX.result (val0 m d))) (Proc.devRef .tc b) = _
  rw [StableHlo.reshape_result_ne (h := h2), StableHlo.unary_result_ne (h := h1), StableHlo.unary_result_ne (h := h0)]
  rfl

theorem Vafter_same (d : Dev nD) {b : Ref sig .tc} (h : b ≠ main_v3) : Vafter (Vs m) d b = Vs m d b := Function.update_of_ne h _ _

theorem Vafter_arg (d : Dev nD) {b : Ref sig .tc} (h0 : b ≠ main_v0) (h1 : b ≠ main_v1) (h2 : b ≠ main_v2) (h3 : b ≠ main_v3) :
    Vafter (Vs m) d b = m ((SparseCore.T d).loc b) := (Vafter_same m d h3).trans (Vs_same m d h0 h1 h2)

theorem Vafter_dens (d : Dev nD) : Vafter (Vs m) d main_v3 = densOf m d := Function.update_self _ _ _

/-- The buffers @main holds, one by one. -/
theorem bufs_eq (d : Dev nD) (V : Bufs F d) :
    (unscopedBufs d V : sProp 𝕄) = iprop(((SparseCore.T d).loc main_arg0 ↦{fullShare} V main_arg0) ∗ ((SparseCore.T d).loc main_arg1 ↦{fullShare} V main_arg1)
      ∗ ((SparseCore.T d).loc main_arg2 ↦{fullShare} V main_arg2) ∗ ((SparseCore.T d).loc main_arg3 ↦{fullShare} V main_arg3)
      ∗ ((SparseCore.T d).loc main_arg4 ↦{fullShare} V main_arg4) ∗ ((SparseCore.T d).loc main_arg5 ↦{fullShare} V main_arg5)
      ∗ ((SparseCore.T d).loc main_arg6 ↦{fullShare} V main_arg6) ∗ ((SparseCore.T d).loc main_v0 ↦{fullShare} V main_v0)
      ∗ ((SparseCore.T d).loc main_v1 ↦{fullShare} V main_v1) ∗ ((SparseCore.T d).loc main_v2 ↦{fullShare} V main_v2)
      ∗ ((SparseCore.T d).loc main_v3 ↦{fullShare} V main_v3) ∗ ((SparseCore.T d).loc main_v4 ↦{fullShare} V main_v4)) := by
  unfold unscopedBufs
  rw [show (Finset.univ.filter fun b : Ref sig .tc => ¬ b.isScoped)
      = {main_arg0, main_arg1, main_arg2, main_arg3, main_arg4, main_arg5, main_arg6, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## Dealing the operands and the result to the tiles -/

/-- A share of an array gives as many as wanted. -/
theorem rd_deal (n : ℕ) (ℓ : Loc nD τ sig) (f : Buf (Elt F) ℓ) : (rd ℓ f : sProp 𝕄) ⊢ bigSep Finset.univ fun _ : Fin n => (rd ℓ f : sProp 𝕄) := by
  unfold rd
  iintro ⟨%q, H⟩
  ihave H' := (pointsTo_toks_split q n) $$ H
  icases H' with ⟨-, H⟩
  iapply (SparseCore.ent (bigSep_mono (s := Finset.univ) fun (j : Fin n) _ =>
    (show (ℓ ↦[Finset.univ]{shareTok q n j} f : sProp 𝕄) ⊢ iprop(∃ q, ℓ ↦{q} f) from by iintro H; iexists _; iexact H))) $$ H

theorem rd_deal2 (n k : ℕ) (ℓ : Loc nD τ sig) (f : Buf (Elt F) ℓ) :
    (rd ℓ f : sProp 𝕄) ⊢ bigSep Finset.univ fun _ : Fin n => bigSep Finset.univ fun _ : Fin k => (rd ℓ f : sProp 𝕄) :=
  (rd_deal n ℓ f).trans (SparseCore.ent (bigSep_mono fun _ _ => rd_deal k ℓ f))

abbrev Cores : Type := Fin ((K (F := F)).nCore 0)
abbrev Tiles : Type := Fin ((K (F := F)).nSub 0)

theorem base_co (c : Cores (F := F)) (s : Tiles (F := F)) : base (co c s) = (s.val * 2 + c.val) * 65536 := rfl

theorem mem_todo (i : grid1.Coords) (y : S4x2097152.Idx) : y ∈ todo i 0 ↔ base i ≤ (y 1).val ∧ (y 1).val < base i + 65536 := by
  unfold todo
  rw [Finset.mem_filter]
  exact ⟨fun h => ⟨h.2.1, h.2.2.1⟩, fun h => ⟨Finset.mem_univ _, h.1, h.2, Nat.zero_le _⟩⟩

theorem done_todo (i : grid1.Coords) : done i 4 = todo i 0 := by
  ext y
  rw [mem_todo]
  unfold done
  rw [Finset.mem_filter]
  exact ⟨fun h => ⟨h.2.1, h.2.2.1⟩, fun h => ⟨Finset.mem_univ _, h.1, h.2, (y 0).isLt⟩⟩

theorem tiles_disjoint : ∀ p ∈ (Finset.univ : Finset (Cores (F := F) × Tiles (F := F))), ∀ p' ∈ (Finset.univ : Finset (Cores (F := F) × Tiles (F := F))), p ≠ p' →
    Disjoint (todo (co p.1 p.2) 0) (todo (co p'.1 p'.2) 0) := by
  rintro ⟨c, s⟩ - ⟨c', s'⟩ - hne
  refine Finset.disjoint_left.mpr fun y h h' => hne ?_
  rw [mem_todo, base_co] at h h'
  have hc : c.val < 2 := c.isLt
  have hc' : c'.val < 2 := c'.isLt
  have h1 : (s.val * 2 + c.val) * 65536 ≤ (y 1).val ∧ (y 1).val < (s.val * 2 + c.val) * 65536 + 65536 := h
  have h2 : (s'.val * 2 + c'.val) * 65536 ≤ (y 1).val ∧ (y 1).val < (s'.val * 2 + c'.val) * 65536 + 65536 := h'
  clear h h'
  have e1 : c.val = c'.val := by omega
  have e2 : s.val = s'.val := by omega
  exact Prod.ext (Fin.ext e1) (Fin.ext e2)

theorem tiles_cover : (Finset.univ : Finset (Cores (F := F) × Tiles (F := F))).biUnion (fun p => todo (co p.1 p.2) 0) = Finset.univ := by
  ext y
  refine ⟨fun _ => Finset.mem_univ _, fun _ => Finset.mem_biUnion.mpr ?_⟩
  have hy : (y 1).val < 2097152 := (y 1).isLt
  have h1 : (y 1).val / 65536 % 2 < (K (F := F)).nCore 0 := show _ < 2 by omega
  have h2 : (y 1).val / 65536 / 2 < (K (F := F)).nSub 0 := show _ < 16 by omega
  refine ⟨(⟨_, h1⟩, ⟨_, h2⟩), Finset.mem_univ _, ?_⟩
  rw [mem_todo, base_co]
  show ((y 1).val / 65536 / 2 * 2 + (y 1).val / 65536 % 2) * 65536 ≤ (y 1).val ∧ (y 1).val < ((y 1).val / 65536 / 2 * 2 + (y 1).val / 65536 % 2) * 65536 + 65536
  omega

/-- The result array, tile by tile. -/
theorem out_tiles (d : Dev nD) (f : S4x2097152.Idx → F .f32) :
    (((SparseCore.T d).loc main_v4 ↦{fullShare} f) : sProp 𝕄)
      = bigSep Finset.univ fun c : Cores (F := F) => bigSep Finset.univ fun s : Tiles (F := F) => (SparseCore.T d).loc main_v4 ↦[todo (co c s) 0]{fullShare} f := by
  rw [← bigSep_univ_prod (fun p : Cores (F := F) × Tiles (F := F) => ((SparseCore.T d).loc main_v4 ↦[todo (co p.1 p.2) 0]{fullShare} f : sProp 𝕄)),
    ← pointsTo_biUnion (ℓ := (SparseCore.T d).loc main_v4) Finset.univ (fun p : Cores (F := F) × Tiles (F := F) => todo (co p.1 p.2) 0) tiles_disjoint, tiles_cover]

/-- Four families handed out together. -/
theorem bigSep_four {I J : Type} [Fintype I] [Fintype J] (A B C E : I → J → sProp 𝕄) :
    iprop((bigSep Finset.univ fun i => bigSep Finset.univ fun j => A i j) ∗ (bigSep Finset.univ fun i => bigSep Finset.univ fun j => B i j)
        ∗ (bigSep Finset.univ fun i => bigSep Finset.univ fun j => C i j) ∗ (bigSep Finset.univ fun i => bigSep Finset.univ fun j => E i j))
      ⊢ (bigSep Finset.univ fun i => bigSep Finset.univ fun j => iprop((A i j ∗ B i j ∗ C i j) ∗ E i j) : sProp 𝕄) := by
  simp only [bigSep_sep']
  iintro ⟨H1, H2, H3, H4⟩
  isplitl [H1 H2 H3]
  · isplitl [H1]; · iexact H1
    isplitl [H2] <;> iassumption
  · iexact H4

theorem toTile_intro (d : Dev nD) (i : grid1.Coords) (f : S4x2097152.Idx → F .f32) :
    iprop((rd ((SparseCore.T d).loc main_arg1) (indsOf m d) ∗ rd ((SparseCore.T d).loc main_v3) (densOf m d) ∗ rd ((SparseCore.T d).loc main_arg0) (gridOf m d))
      ∗ (SparseCore.T d).loc main_v4 ↦[todo i 0]{fullShare} f) ⊢ toTile m d i := by
  unfold toTile reads outTodo
  iintro ⟨H1, H2⟩
  isplitl [H1]; · iexact H1
  iexists f; iexact H2

theorem dealt' (d : Dev nD) (f : S4x2097152.Idx → F .f32) :
    iprop(rd ((SparseCore.T d).loc main_arg1) (indsOf m d) ∗ rd ((SparseCore.T d).loc main_v3) (densOf m d) ∗ rd ((SparseCore.T d).loc main_arg0) (gridOf m d)
        ∗ (SparseCore.T d).loc main_v4 ↦{fullShare} f)
      ⊢ (bigSep Finset.univ fun c : Cores (F := F) => bigSep Finset.univ fun s : Tiles (F := F) => toTile m d (co c s) : sProp 𝕄) := by
  have h1 := bigSep_four (F := F) (I := Cores (F := F)) (J := Tiles (F := F)) (fun _ _ => rd ((SparseCore.T d).loc main_arg1) (indsOf m d)) (fun _ _ => rd ((SparseCore.T d).loc main_v3) (densOf m d))
    (fun _ _ => rd ((SparseCore.T d).loc main_arg0) (gridOf m d)) (fun c s => (SparseCore.T d).loc main_v4 ↦[todo (co c s) 0]{fullShare} f)
  have h2 := SparseCore.ent (bigSep_mono (s := (Finset.univ : Finset (Cores (F := F)))) fun c _ => SparseCore.ent (bigSep_mono (s := (Finset.univ : Finset (Tiles (F := F)))) fun s _ => toTile_intro m d (co c s) f))
  refine BIBase.Entails.trans ?_ (h1.trans h2)
  rw [out_tiles]
  iintro ⟨H1, H2, H3, H4⟩
  isplitl [H1]; · iapply (rd_deal2 _ _ _ _); iexact H1
  isplitl [H2]; · iapply (rd_deal2 _ _ _ _); iexact H2
  isplitl [H3]; · iapply (rd_deal2 _ _ _ _); iexact H3
  iexact H4

/-- What the call takes. -/
theorem dealt (d : Dev nD) (f : S4x2097152.Idx → F .f32) :
    iprop(rd ((SparseCore.T d).loc main_arg1) (indsOf m d) ∗ rd ((SparseCore.T d).loc main_v3) (densOf m d) ∗ rd ((SparseCore.T d).loc main_arg0) (gridOf m d)
        ∗ (SparseCore.T d).loc main_v4 ↦{fullShare} f)
      ⊢ (bigSep Finset.univ fun c : Cores (F := F) => (P m).st 0 d c : sProp 𝕄) := dealt' m d f

theorem ofTile_elim (d : Dev nD) (i : grid1.Coords) :
    ofTile m d i ⊢ ((SparseCore.T d).loc main_v4 ↦[todo i 0]{fullShare} outFn (indsOf m d) (densOf m d) (gridOf m d) : sProp 𝕄) := by
  unfold ofTile outDone
  rw [done_todo]

/-- What it hands back. -/
theorem gathered (d : Dev nD) : (bigSep Finset.univ fun c : Cores (F := F) => (P m).dn 0 d c : sProp 𝕄)
    ⊢ (SparseCore.T d).loc main_v4 ↦{fullShare} outFn (indsOf m d) (densOf m d) (gridOf m d) := by
  rw [out_tiles]
  show (bigSep Finset.univ fun c : Cores (F := F) => bigSep Finset.univ fun s : Tiles (F := F) => ofTile m d (co c s)) ⊢ _
  exact SparseCore.ent (bigSep_mono fun c _ => SparseCore.ent (bigSep_mono fun s _ => ofTile_elim m d (co c s)))

omit [FloatOps F] in
theorem bigSep_emp' {I : Type} (s : Finset I) : (bigSep s fun _ => iprop(emp)) = (iprop(emp) : sProp 𝕄) := bigSep_emp_const s

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (Entails.of_eq (show (BI.own (embR (initOf (Pipeline.cells (Pipeline.pin (pcfgs (F := F)) adm) cellOf_inj) (Pipeline.launchToks (Pipeline.pin (pcfgs (F := F)) adm) cellOf_inj), (1 : Counters))) : sProp 𝕄)
    = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP' with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Dens

end
-- ==== Proof.Den.lean ====
/-
  The density of one sample, and the value a table's element is left with by a run of updates, as plain functions: what
  both programs are read as.
-/
module

public import Idealize.ShloMosaic.PureOps.Ideal.Laws
public import Idealize.ShloMosaic.Lib.IdealHost

@[expose] public section

noncomputable section

namespace Cert.Proof.Dens

open Idealize.ShloMosaic

/-- A jittered coordinate: the cell `x` scaled by `a`, and the noise `n` scaled by `h`. -/
def jtr (a h : EReal) (x : BitVec 32) (n : EReal) : EReal :=
  (Ideal.div (FloatOps.sitofp (F := Ideal) .f32 x) (Ideal.ofBits .f32 0x42FE0000#32) * Ideal.ofBits .f32 0x40000000#32
      - Ideal.ofBits .f32 0x3F800000#32) * a
    + (n * Ideal.ofBits .f32 0x40000000#32 - Ideal.ofBits .f32 0x3F800000#32) * h

/-- A hidden unit's value at a point. -/
def hidv (w : Fin 3 → Fin 32 → EReal) (b : Fin 32 → EReal) (p : Fin 3 → EReal) (j : Fin 32) : EReal :=
  max ((∑ k : Fin 3, p k * w k j) + b j) 0

/-- The soft positive part of one value. -/
def sfp (z : EReal) : EReal := max z 0 + Ideal.log1p (Ideal.exp (-(max z (-z))))

/-- The density at a point. -/
def denp (w : Fin 3 → Fin 32 → EReal) (b v : Fin 32 → EReal) (p : Fin 3 → EReal) : EReal :=
  sfp (∑ j : Fin 32, hidv w b p j * v j)

/-- The element after the first `n` updates: the last of them that lands is kept. -/
def lastOf {α : Type} (P : ℕ → Prop) [DecidablePred P] (v : ℕ → α) (a : α) : ℕ → α
  | 0 => a
  | n + 1 => if P n then v n else lastOf P v a n

theorem lastOf_none {α : Type} (P : ℕ → Prop) [DecidablePred P] (v : ℕ → α) (a : α) (N : ℕ) (h : ∀ n, n < N → ¬P n) : lastOf P v a N = a := by
  induction N with
  | zero => rfl
  | succ N ih => exact (if_neg (h N (Nat.lt_succ_self N))).trans (ih fun n hn => h n (Nat.lt_succ_of_lt hn))

theorem lastOf_congr {α : Type} (P Q : ℕ → Prop) [DecidablePred P] [DecidablePred Q] (v w : ℕ → α) (a b : α) (N : ℕ)
    (h : ∀ n, n < N → (P n ↔ Q n)) (hv : ∀ n, n < N → v n = w n) (hab : a = b) : lastOf P v a N = lastOf Q w b N := by
  induction N with
  | zero => exact hab
  | succ N ih =>
    show (if P N then v N else lastOf P v a N) = if Q N then w N else lastOf Q w b N
    rw [ih (fun n hn => h n (Nat.lt_succ_of_lt hn)) (fun n hn => hv n (Nat.lt_succ_of_lt hn)), hv N (Nat.lt_succ_self N)]
    exact if_congr (h N (Nat.lt_succ_self N)) rfl rfl

/-- A fold over the updates in order is that value. -/
theorem foldl_last {α : Type} (N : ℕ) (P : ℕ → Prop) [DecidablePred P] (v : ℕ → α) (a : α) (Q : Fin N → Prop) [DecidablePred Q] (w : Fin N → α)
    (hQ : ∀ n, Q n ↔ P n.val) (hw : ∀ n, w n = v n.val) :
    (List.finRange N).foldl (fun r n => if Q n then w n else r) a = lastOf P v a N := by
  induction N with
  | zero => rfl
  | succ N ih =>
    rw [List.finRange_succ_last, List.foldl_append, List.foldl_map, ih (fun n => Q n.castSucc) (fun n => w n.castSucc) (fun n => hQ _) (fun n => hw _)]
    show (if Q (Fin.last N) then w (Fin.last N) else lastOf P v a N) = if P N then v N else lastOf P v a N
    rw [hw]
    exact if_congr (hQ _) rfl rfl

end Cert.Proof.Dens

end
-- ==== Proof.RefScat.lean ====
/-
  The reference's scatter of one cascade's densities, read at an element of the table.
-/
module

public import proofs.«01_k».proof.Proof.Gen.ReferenceIdeal.Read
public import proofs.«01_k».proof.Proof.Den
public import Idealize.ShloMosaic.Lib.Routing.OpsPair

@[expose] public section

noncomputable section

namespace Cert.Proof.Dens.Ref

open Cert.ReferenceIdeal Cert.ReferenceIdeal.Gen Idealize.ShloMosaic Idealize.ShloMosaic.TcCoe Idealize.ShloMosaic.StableHlo
open Idealize.ShloMosaic.ValueIdx

/-- The scatter's dimensions. -/
local notation "sct" => scatter_S4x2097152_S1048576x2_S1048576_n_01_01_1

theorem siIdx_eq (n : Fin 1048576) (q : Fin 2) (h) : (sct).siIdx (ix1 n) ⟨q.val, h⟩ = ix2 n q := by
  funext b
  apply Fin.ext
  match b with
  | ⟨0, _⟩ =>
    unfold ScatterDims.siIdx
    rw [dif_neg (by show ¬((0 : ℕ) = 1); omega)]
    exact congrArg (fun t => ((ix1 n : S1048576.Idx) t).val) (Subsingleton.elim (α := Fin 1) _ 0)
  | ⟨1, _⟩ =>
    unfold ScatterDims.siIdx
    exact (congrArg Fin.val (dif_pos rfl)).trans rfl

theorem start_eq (idx : IVec S1048576x2 32) (n : Fin 1048576) (q : Fin 2) : (sct).start (ix1 n) idx q = (idx (ix2 n q)).toInt := by
  have hm : q ∈ (sct).scatterDimsToOperandDims := by
    show q ∈ ([0, 1] : List (Fin 2))
    fin_cases q <;> simp
  unfold ScatterDims.start
  rw [dif_pos hm]
  refine congrArg (fun i => (idx i).toInt) ?_
  have hq : (sct).scatterDimsToOperandDims.idxOf q = q.val := by
    show List.idxOf q ([0, 1] : List (Fin 2)) = q.val
    fin_cases q <;> rfl
  have := siIdx_eq n q (hq ▸ List.idxOf_lt_length_iff.2 hm)
  rw [← this]
  exact congrArg _ (Fin.ext hq)

theorem window_eq (j : S1048576.Idx) (q : Fin 2) : (sct).window j q = 0 := by
  unfold ScatterDims.window
  rw [dif_neg fun h => (of_decide_eq_true (List.mem_filter.1 h).2) (by show q ∈ ([0, 1] : List (Fin 2)); fin_cases q <;> simp)]

/-- Update `n` lands at row `r`, column `c` when its two index words are `r` and `c`. -/
theorem lands_iff (idx : IVec S1048576x2 32) (n : Fin 1048576) (r : Fin 4) (c : Fin 2097152) :
    (sct).resultIdx? (ix1 n) idx = some (ix2 r c) ↔ (idx (ix2 n 0)).toInt = (r.val : ℤ) ∧ (idx (ix2 n 1)).toInt = (c.val : ℤ) := by
  rw [Routing.resultIdx?_eq_some]
  constructor
  · intro h
    have h0 := h 0
    have h1 := h 1
    rw [start_eq, window_eq] at h0 h1
    exact ⟨by simpa using h0, by simpa using h1⟩
  · rintro ⟨h0, h1⟩ a
    match a with
    | ⟨0, _⟩ =>
      show (sct).start (ix1 n) idx (0 : Fin 2) + ((sct).window (ix1 n) (0 : Fin 2) : ℤ) = (r.val : ℤ)
      rw [start_eq, window_eq, h0]; simp
    | ⟨1, _⟩ =>
      show (sct).start (ix1 n) idx (1 : Fin 2) + ((sct).window (ix1 n) (1 : Fin 2) : ℤ) = (c.val : ℤ)
      rw [start_eq, window_eq, h1]; simp

theorem numel_eq : S1048576.numel = 1048576 := by decide

theorem symm_eq (n : Fin S1048576.numel) : S1048576.rowMajor.symm n = ix1 (Fin.ofNat 1048576 n.val) := by
  have hn : n.val < 1048576 := numel_eq ▸ n.isLt
  apply S1048576.rowMajor.injective
  rw [Equiv.apply_symm_apply]
  apply Fin.ext
  rw [Shape.rowMajor_val_one]
  exact (Nat.mod_eq_of_lt hn).symm

/-- The scatter, at an element. -/
theorem scatter_eq {α : Type} (x0 : S4x2097152.Idx → α) (idx : IVec S1048576x2 32) (upd : S1048576.Idx → α) (r : Fin 4) (c : Fin 2097152) :
    Host.scatter sct (fun _ b => b) x0 idx upd (ix2 r c)
      = lastOf (fun n => (idx (ix2 (Fin.ofNat 1048576 n) 0)).toInt = (r.val : ℤ) ∧ (idx (ix2 (Fin.ofNat 1048576 n) 1)).toInt = (c.val : ℤ))
          (fun n => upd (ix1 (Fin.ofNat 1048576 n))) (x0 (ix2 r c)) 1048576 := by
  rw [Routing.scatter_at]
  refine (foldl_last S1048576.numel _ _ _ _ _ (fun n => ?_) (fun n => ?_)).trans (congrArg _ numel_eq)
  · rw [symm_eq]
    exact lands_iff idx _ r c
  · rw [symm_eq]

/-- The index words of cascade `k`: the row, and the sample's cell, wrapped where it is negative. -/
def rIdx (k : BitVec 32) (I : IVec S1048576 32) : IVec S1048576x2 32 :=
  concatenate S1048576x2 1
    [⟨S1048576x1, broadcastInDim S1048576x1 ![0] bcast_S1048576_S1048576x1_0 (id (broadcastInDim S1048576 ![] bcast_S_S1048576 (constantI S_ 32 k)))⟩,
     ⟨S1048576x1, broadcastInDim S1048576x1 ![0] bcast_S1048576_S1048576x1_0
        (select (cmpi .slt I (broadcastInDim S1048576 ![] bcast_S_S1048576 (constantI S_ 32 0#32)))
          (addi I (broadcastInDim S1048576 ![] bcast_S_S1048576 (constantI S_ 32 2097152#32))) I)⟩]
    concatenates_S1048576x1_S1048576x1_S1048576x2_d1

theorem bcol {α : Type} (f : S1048576.Idx → α) (n : Fin 1048576) (q : Fin 1) :
    broadcastInDim S1048576x1 ![0] bcast_S1048576_S1048576x1_0 f (ix2 n q) = f (ix1 n) :=
  broadcastInDim_apply _ bcast_S1048576_S1048576x1_0 f (ix2 n q) (ix1 n) (fun a => match a with
    | ⟨0, _⟩ => by show n.val = if (1048576 : ℕ) = 1 then 0 else n.val; rw [if_neg (by decide)])

theorem rIdx_row (k : BitVec 32) (I : IVec S1048576 32) (n : Fin 1048576) : rIdx k I (ix2 n 0) = k := by
  refine (concatenate_pair_apply_left 1 _ _ concatenates_S1048576x1_S1048576x1_S1048576x2_d1 (ix2 n 0) rfl (ix2 n 0) (fun b => ?_)).trans ?_
  · match b with
    | ⟨0, _⟩ => rfl
    | ⟨1, _⟩ => rfl
  · rw [bcol]; rfl

theorem rIdx_col (k : BitVec 32) (I : IVec S1048576 32) (n : Fin 1048576) (h : 0 ≤ (I (ix1 n)).toInt) : rIdx k I (ix2 n 1) = I (ix1 n) := by
  refine (concatenate_pair_apply_right 1 _ _ concatenates_S1048576x1_S1048576x1_S1048576x2_d1 (ix2 n 1) rfl rfl (ix2 n 0) (fun b hb => ?_) rfl).trans ?_
  · match b with
    | ⟨0, _⟩ => rfl
    | ⟨1, _⟩ => exact absurd rfl hb
  · rw [bcol]
    show Scalar.select (BitVec.ofBool ((I (ix1 n)).slt 0#32)) _ (I (ix1 n)) = _
    have : (I (ix1 n)).slt 0#32 = false := by
      rw [BitVec.slt_eq_decide]
      exact decide_eq_false (by rw [BitVec.toInt_zero]; omega)
    rw [this]
    rfl

theorem small_toInt (k : ℕ) (hk : k < 4) : (BitVec.ofNat 32 k).toInt = (k : ℤ) := by
  interval_cases k <;> rfl

/-- A cascade's scatter leaves the other rows. -/
theorem scatter_other {α : Type} (k : ℕ) (hk : k < 4) (x0 : S4x2097152.Idx → α) (I : IVec S1048576 32) (upd : S1048576.Idx → α) (r : Fin 4) (c : Fin 2097152)
    (h : r.val ≠ k) : Host.scatter sct (fun _ b => b) x0 (rIdx (BitVec.ofNat 32 k) I) upd (ix2 r c) = x0 (ix2 r c) := by
  rw [scatter_eq]
  refine lastOf_none _ _ _ _ fun n _ hn => h ?_
  have h1 := hn.1
  rw [rIdx_row] at h1
  rw [small_toInt k hk] at h1
  omega

/-- Its own row it leaves with each cell's last density. -/
theorem scatter_own {α : Type} (k : Fin 4) (x0 : S4x2097152.Idx → α) (I : IVec S1048576 32) (upd : S1048576.Idx → α) (c : Fin 2097152)
    (h : ∀ n : Fin 1048576, 0 ≤ (I (ix1 n)).toInt) :
    Host.scatter sct (fun _ b => b) x0 (rIdx (BitVec.ofNat 32 k.val) I) upd (ix2 k c)
      = lastOf (fun n => (I (ix1 (Fin.ofNat 1048576 n))).toInt = (c.val : ℤ)) (fun n => upd (ix1 (Fin.ofNat 1048576 n))) (x0 (ix2 k c)) 1048576 := by
  rw [scatter_eq]
  refine lastOf_congr _ _ _ _ _ _ _ (fun n _ => ?_) (fun _ _ => rfl) rfl
  rw [rIdx_row, rIdx_col _ _ _ (h _)]
  exact ⟨fun q => q.2, fun q => ⟨small_toInt k.val k.isLt, q⟩⟩

/-- One row of a table of rows, and of one of rows of triples. -/
theorem row_apply {α : Type} (k : ℕ) (hk : k < 4) (h : S4x1048576.Slices ![k, 0] S1x1048576) (x : S4x1048576.Idx → α) (n : Fin 1048576) :
    shapeCast S1048576 (extractStridedSlice S1x1048576 ![k, 0] x h) shapeCasts_S1x1048576_S1048576 (ix1 n) = x (ix2 ⟨k, hk⟩ n) := by
  refine (shapeCast_apply _ shapeCasts_S1x1048576_S1048576 (ix1 n) (ix2 0 n) ?_).trans ?_
  · rw [Shape.rowMajor_val_two, Shape.rowMajor_val_one]
    show 0 * 1048576 + n.val = n.val
    omega
  · exact extractStridedSlice_apply ![k, 0] x h (ix2 0 n) (ix2 ⟨k, hk⟩ n) (fun a => match a with
      | ⟨0, _⟩ => by show k = k + 0; omega
      | ⟨1, _⟩ => by show n.val = 0 + n.val; omega)

theorem triple_apply {α : Type} (k : ℕ) (hk : k < 4) (h : S4x1048576x3.Slices ![k, 0, 0] S1x1048576x3) (x : S4x1048576x3.Idx → α) (n : Fin 1048576) (j : Fin 3) :
    shapeCast S1048576x3 (extractStridedSlice S1x1048576x3 ![k, 0, 0] x h) shapeCasts_S1x1048576x3_S1048576x3 (ix2 n j) = x (ix3 ⟨k, hk⟩ n j) := by
  refine (shapeCast_apply _ shapeCasts_S1x1048576x3_S1048576x3 (ix2 n j) (ix3 0 n j) ?_).trans ?_
  · rw [Shape.rowMajor_val_three, Shape.rowMajor_val_two]
    show (0 * 1048576 + n.val) * 3 + j.val = n.val * 3 + j.val
    omega
  · exact extractStridedSlice_apply ![k, 0, 0] x h (ix3 0 n j) (ix3 ⟨k, hk⟩ n j) (fun a => match a with
      | ⟨0, _⟩ => by show k = k + 0; omega
      | ⟨1, _⟩ => by show n.val = 0 + n.val; omega
      | ⟨2, _⟩ => by show j.val = 0 + j.val; omega)

end Cert.Proof.Dens.Ref

end
-- ==== Proof.RefDens.lean ====
/-
  The reference's densities of one cascade, read at a sample, and its table after the four cascades.
-/
module

public import proofs.«01_k».proof.Proof.RefScat
public import Idealize.ShloMosaic.Lib.StackMember

@[expose] public section

noncomputable section

namespace Cert.Proof.Dens.Ref

open Cert.ReferenceIdeal Cert.ReferenceIdeal.Gen Idealize.ShloMosaic Idealize.ShloMosaic.TcCoe Idealize.ShloMosaic.StableHlo
open Idealize.ShloMosaic.ValueIdx Cert.ReferenceIdeal.Read

/-- A constant spread over the triples, over the hidden units, and over the samples. -/
def k3 (w : BitVec 32) : FVec Ideal S1048576x3 .f32 := broadcastInDim S1048576x3 ![] bcast_S_S1048576x3 (constant S_ .f32 w)
def k32 (w : BitVec 32) : FVec Ideal S1048576x32 .f32 := broadcastInDim S1048576x32 ![] bcast_S_S1048576x32 (constant S_ .f32 w)
def k1 (w : BitVec 32) : FVec Ideal S1048576x1 .f32 := broadcastInDim S1048576x1 ![] bcast_S_S1048576x1 (constant S_ .f32 w)

theorem k3_apply (w : BitVec 32) (i : S1048576x3.Idx) : k3 w i = Ideal.ofBits .f32 w := rfl
theorem k32_apply (w : BitVec 32) (i : S1048576x32.Idx) : k32 w i = Ideal.ofBits .f32 w := rfl
theorem k1_apply (w : BitVec 32) (i : S1048576x1.Idx) : k1 w i = Ideal.ofBits .f32 w := rfl

/-- The jittered points of a cascade of scale words `a` and `h`. -/
def rJit (a h : BitVec 32) (x : IVec S1048576x3 32) (n : FVec Ideal S1048576x3 .f32) : FVec Ideal S1048576x3 .f32 :=
  addf (mulf (subf (mulf (Host.divf (sitofp .f32 x) (k3 0x42FE0000#32)) (k3 0x40000000#32)) (k3 0x3F800000#32)) (k3 a))
    (mulf (subf (mulf n (k3 0x40000000#32)) (k3 0x3F800000#32)) (k3 h))

/-- The network on the points. -/
def rNet (p : FVec Ideal S1048576x3 .f32) (x4 : FVec Ideal S3x32 .f32) (x5 : FVec Ideal S32 .f32) (x6 : FVec Ideal S32x1 .f32) : FVec Ideal S1048576x1 .f32 :=
  Host.dotGeneral dot_S1048576x32_S32x1_S1048576x1_1_0_0_1_n_n none
    (maximumf (addf (Host.dotGeneral dot_S1048576x3_S3x32_S1048576x32_1_0_0_1_n_n none p x4) (val_main_v23 (F := Ideal) x5)) (k32 0x00000000#32)) x6

/-- The soft positive part, by the reference's guarded sum. -/
def rSoft (z : FVec Ideal S1048576x1 .f32) : FVec Ideal S1048576x1 .f32 :=
  select (cmpf .une (subf z (k1 0x00000000#32)) (subf z (k1 0x00000000#32))) (addf z (k1 0x00000000#32))
    (addf (maximumf z (k1 0x00000000#32)) (Host.log1p (Host.exp (Host.negf (Host.absf (subf z (k1 0x00000000#32)))))))

/-- A cascade's densities. -/
def rDens (a h : BitVec 32) (x : IVec S1048576x3 32) (n : FVec Ideal S1048576x3 .f32) (x4 : FVec Ideal S3x32 .f32) (x5 : FVec Ideal S32 .f32)
    (x6 : FVec Ideal S32x1 .f32) : FVec Ideal S1048576 .f32 :=
  shapeCast S1048576 (rSoft (rNet (rJit a h x n) x4 x5 x6)) shapeCasts_S1048576x1_S1048576

theorem rJit_apply (a h : BitVec 32) (x : IVec S1048576x3 32) (n : FVec Ideal S1048576x3 .f32) (i : S1048576x3.Idx) :
    rJit a h x n i = jtr (Ideal.ofBits .f32 a) (Ideal.ofBits .f32 h) (x i) (n i) := rfl

theorem bias_apply (x5 : FVec Ideal S32 .f32) (n : Fin 1048576) (j : Fin 32) : val_main_v23 (F := Ideal) x5 (ix2 n j) = x5 (ix1 j) := by
  rw [val_main_v23_apply, val_main_v22_apply]
  refine congrArg x5 ?_
  funext a; match a with | ⟨0, _⟩ => rfl

theorem rNet_apply (p : FVec Ideal S1048576x3 .f32) (x4 : FVec Ideal S3x32 .f32) (x5 : FVec Ideal S32 .f32) (x6 : FVec Ideal S32x1 .f32)
    (n : Fin 1048576) :
    rNet p x4 x5 x6 (ix2 n 0)
      = ∑ j : Fin 32, hidv (fun k j => x4 (ix2 k j)) (fun j => x5 (ix1 j)) (fun k => p (ix2 n k)) j * x6 (ix2 j 0) := by
  unfold rNet
  refine (StackMember.dotGeneral_plain_apply none _ x6 n 0).trans (Finset.sum_congr rfl fun j _ => ?_)
  refine congrArg (· * x6 (ix2 j 0)) ?_
  show max (Host.dotGeneral dot_S1048576x3_S3x32_S1048576x32_1_0_0_1_n_n none p x4 (ix2 n j) + val_main_v23 (F := Ideal) x5 (ix2 n j)) (k32 0x00000000#32 (ix2 n j)) = _
  rw [bias_apply, k32_apply, Ideal.ofBits_zero_f32]
  unfold hidv
  refine congrArg (fun t => max (t + x5 (ix1 j)) 0) ?_
  exact StackMember.dotGeneral_plain_apply none p x4 n j

theorem rSoft_apply (z : FVec Ideal S1048576x1 .f32) (i : S1048576x1.Idx) : rSoft z i = sfp (z i) := by
  have hz : subf z (k1 0x00000000#32) i = z i := by
    show z i - Ideal.ofBits .f32 0x00000000#32 = z i
    rw [Ideal.ofBits_zero_f32]
    exact sub_zero _
  show Scalar.select (Ideal.cmp .une (subf z (k1 0x00000000#32) i) (subf z (k1 0x00000000#32) i)) (z i + Ideal.ofBits .f32 0x00000000#32)
    (max (z i) (Ideal.ofBits .f32 0x00000000#32)
      + Ideal.log1p (Ideal.exp (-(max (subf z (k1 0x00000000#32) i) (-(subf z (k1 0x00000000#32) i)))))) = _
  rw [hz, Ideal.ofBits_zero_f32]
  have hc : Ideal.cmp .une (z i) (z i) = 0#1 := by
    simp [Ideal.cmp]
  rw [hc]
  rfl

theorem rDens_apply (a h : BitVec 32) (x : IVec S1048576x3 32) (nz : FVec Ideal S1048576x3 .f32) (x4 : FVec Ideal S3x32 .f32) (x5 : FVec Ideal S32 .f32)
    (x6 : FVec Ideal S32x1 .f32) (n : Fin 1048576) :
    rDens a h x nz x4 x5 x6 (ix1 n)
      = denp (fun k j => x4 (ix2 k j)) (fun j => x5 (ix1 j)) (fun j => x6 (ix2 j 0))
          (fun k => jtr (Ideal.ofBits .f32 a) (Ideal.ofBits .f32 h) (x (ix2 n k)) (nz (ix2 n k))) := by
  refine (shapeCast_apply _ shapeCasts_S1048576x1_S1048576 (ix1 n) (ix2 n 0) ?_).trans ?_
  · rw [Shape.rowMajor_val_two, Shape.rowMajor_val_one]
    show n.val * 1 + 0 = n.val
    omega
  · rw [rSoft_apply, rNet_apply]
    rfl

/-- The scale words of a cascade. -/
def ampW : Fin 4 → BitVec 32
  | 0 => 0x3EFE0000#32
  | 1 => 0x3F7E0000#32
  | 2 => 0x3FFE0000#32
  | 3 => 0x407E0000#32
def halfW : Fin 4 → BitVec 32
  | 0 => 0x3B800000#32
  | 1 => 0x3C000000#32
  | 2 => 0x3C800000#32
  | 3 => 0x3D000000#32

/-- The density of sample `n` of cascade `r`. -/
def densAt (x2 : S4x1048576x3.Idx → BitVec 32) (x3 : S4x1048576x3.Idx → EReal) (x4 : S3x32.Idx → EReal) (x5 : S32.Idx → EReal) (x6 : S32x1.Idx → EReal)
    (r : Fin 4) (n : Fin 1048576) : EReal :=
  denp (fun k j => x4 (ix2 k j)) (fun j => x5 (ix1 j)) (fun j => x6 (ix2 j 0))
    (fun k => jtr (Ideal.ofBits .f32 (ampW r)) (Ideal.ofBits .f32 (halfW r)) (x2 (ix3 r n k)) (x3 (ix3 r n k)))

section
variable (x1 : (⟨S4x1048576, .i32⟩ : BufTy).Contents (Elt Ideal)) (x2 : (⟨S4x1048576x3, .i32⟩ : BufTy).Contents (Elt Ideal))
  (x3 : (⟨S4x1048576x3, .f32⟩ : BufTy).Contents (Elt Ideal)) (x4 : (⟨S3x32, .f32⟩ : BufTy).Contents (Elt Ideal))
  (x5 : (⟨S32, .f32⟩ : BufTy).Contents (Elt Ideal)) (x6 : (⟨S32x1, .f32⟩ : BufTy).Contents (Elt Ideal))

/-- Cascade `k`'s row of the cells, and its triples. -/
def rRow (k : ℕ) (h : S4x1048576.Slices ![k, 0] S1x1048576) : IVec S1048576 32 :=
  shapeCast S1048576 (extractStridedSlice S1x1048576 ![k, 0] x1 h) shapeCasts_S1x1048576_S1048576
def rTri {α : Type} (k : ℕ) (h : S4x1048576x3.Slices ![k, 0, 0] S1x1048576x3) (x : S4x1048576x3.Idx → α) : S1048576x3.Idx → α :=
  shapeCast S1048576x3 (extractStridedSlice S1x1048576x3 ![k, 0, 0] x h) shapeCasts_S1x1048576x3_S1048576x3

/-- The table after one cascade. -/
def rTab (k : ℕ) (a h : BitVec 32) (h1 : S4x1048576.Slices ![k, 0] S1x1048576) (h3 : S4x1048576x3.Slices ![k, 0, 0] S1x1048576x3)
    (T : S4x2097152.Idx → EReal) : S4x2097152.Idx → EReal :=
  Host.scatter scatter_S4x2097152_S1048576x2_S1048576_n_01_01_1 (fun _ b => b) T (rIdx (BitVec.ofNat 32 k) (rRow x1 k h1))
    (rDens a h (rTri k h3 x2) (rTri k h3 x3) x4 x5 x6)

theorem tab0 : val_main_v42 (F := Ideal) x1 x2 x3 x4 x5 x6
    = rTab x1 x2 x3 x4 x5 x6 0 0x3EFE0000#32 0x3B800000#32 slices_S4x1048576_S1x1048576_0_0 slices_S4x1048576x3_S1x1048576x3_0_0_0 (val_main_v0 (F := Ideal)) := rfl
theorem tab1 : val_main_v84 (F := Ideal) x1 x2 x3 x4 x5 x6
    = rTab x1 x2 x3 x4 x5 x6 1 0x3F7E0000#32 0x3C000000#32 slices_S4x1048576_S1x1048576_1_0 slices_S4x1048576x3_S1x1048576x3_1_0_0
        (val_main_v42 (F := Ideal) x1 x2 x3 x4 x5 x6) := rfl
theorem tab2 : val_main_v126 (F := Ideal) x1 x2 x3 x4 x5 x6
    = rTab x1 x2 x3 x4 x5 x6 2 0x3FFE0000#32 0x3C800000#32 slices_S4x1048576_S1x1048576_2_0 slices_S4x1048576x3_S1x1048576x3_2_0_0
        (val_main_v84 (F := Ideal) x1 x2 x3 x4 x5 x6) := rfl
theorem tab3 : val_main_v168 (F := Ideal) x1 x2 x3 x4 x5 x6
    = rTab x1 x2 x3 x4 x5 x6 3 0x407E0000#32 0x3D000000#32 slices_S4x1048576_S1x1048576_3_0 slices_S4x1048576x3_S1x1048576x3_3_0_0
        (val_main_v126 (F := Ideal) x1 x2 x3 x4 x5 x6) := rfl

theorem rTab_other (k : ℕ) (hk : k < 4) (a h : BitVec 32) (h1) (h3) (T : S4x2097152.Idx → EReal) (r : Fin 4) (c : Fin 2097152) (hr : r.val ≠ k) :
    rTab x1 x2 x3 x4 x5 x6 k a h h1 h3 T (ix2 r c) = T (ix2 r c) :=
  scatter_other k hk T _ _ r c hr

theorem rTab_own (k : Fin 4) (h1) (h3) (T : S4x2097152.Idx → EReal) (c : Fin 2097152)
    (hp : ∀ n : Fin 1048576, 0 ≤ (x1 (ix2 k n)).toInt) :
    rTab x1 x2 x3 x4 x5 x6 k.val (ampW k) (halfW k) h1 h3 T (ix2 k c)
      = lastOf (fun n => (x1 (ix2 k (Fin.ofNat 1048576 n))).toInt = (c.val : ℤ))
          (fun n => densAt x2 x3 x4 x5 x6 k (Fin.ofNat 1048576 n)) (T (ix2 k c)) 1048576 := by
  have hrow : ∀ n : Fin 1048576, rRow x1 k.val h1 (ix1 n) = x1 (ix2 k n) := fun n => row_apply k.val k.isLt h1 x1 n
  refine (scatter_own k T _ _ c (fun n => by rw [hrow]; exact hp n)).trans ?_
  refine lastOf_congr _ _ _ _ _ _ _ (fun n _ => by rw [hrow]) (fun n _ => ?_) rfl
  rw [rDens_apply]
  unfold densAt
  refine congrArg (denp _ _ _) (funext fun j => ?_)
  refine congrArg₂ (jtr _ _) ?_ ?_
  · exact triple_apply k.val k.isLt h3 x2 _ j
  · exact triple_apply k.val k.isLt h3 x3 _ j

/-- The reference's table, at an element. -/
theorem table_eq (hp : ∀ (r : Fin 4) (n : Fin 1048576), 0 ≤ (x1 (ix2 r n)).toInt) (r : Fin 4) (c : Fin 2097152) :
    val_main_v168 (F := Ideal) x1 x2 x3 x4 x5 x6 (ix2 r c)
      = lastOf (fun n => (x1 (ix2 r (Fin.ofNat 1048576 n))).toInt = (c.val : ℤ))
          (fun n => densAt x2 x3 x4 x5 x6 r (Fin.ofNat 1048576 n)) (Ideal.ofBits .f32 0x00000000#32) 1048576 := by
  match r with
  | 0 =>
    rw [tab3, rTab_other _ _ _ _ _ _ 3 (by omega) _ _ _ _ _ _ _ (by decide), tab2, rTab_other _ _ _ _ _ _ 2 (by omega) _ _ _ _ _ _ _ (by decide), tab1,
      rTab_other _ _ _ _ _ _ 1 (by omega) _ _ _ _ _ _ _ (by decide), tab0]
    exact rTab_own x1 x2 x3 x4 x5 x6 0 _ _ _ c (hp 0)
  | 1 =>
    rw [tab3, rTab_other _ _ _ _ _ _ 3 (by omega) _ _ _ _ _ _ _ (by decide), tab2, rTab_other _ _ _ _ _ _ 2 (by omega) _ _ _ _ _ _ _ (by decide), tab1]
    refine (rTab_own x1 x2 x3 x4 x5 x6 1 _ _ _ c (hp 1)).trans ?_
    rw [tab0, rTab_other _ _ _ _ _ _ 0 (by omega) _ _ _ _ _ _ _ (by decide)]
    rfl
  | 2 =>
    rw [tab3, rTab_other _ _ _ _ _ _ 3 (by omega) _ _ _ _ _ _ _ (by decide), tab2]
    refine (rTab_own x1 x2 x3 x4 x5 x6 2 _ _ _ c (hp 2)).trans ?_
    rw [tab1, rTab_other _ _ _ _ _ _ 1 (by omega) _ _ _ _ _ _ _ (by decide), tab0, rTab_other _ _ _ _ _ _ 0 (by omega) _ _ _ _ _ _ _ (by decide)]
    rfl
  | 3 =>
    rw [tab3]
    refine (rTab_own x1 x2 x3 x4 x5 x6 3 _ _ _ c (hp 3)).trans ?_
    rw [tab2, rTab_other _ _ _ _ _ _ 2 (by omega) _ _ _ _ _ _ _ (by decide), tab1, rTab_other _ _ _ _ _ _ 1 (by omega) _ _ _ _ _ _ _ (by decide), tab0,
      rTab_other _ _ _ _ _ _ 0 (by omega) _ _ _ _ _ _ _ (by decide)]
    rfl

end

end Cert.Proof.Dens.Ref

end
-- ==== Proof.KerDens.lean ====
/-
  The TensorCore kernel's densities over the extended reals, read at a sample.
-/
module

public import proofs.«01_k».proof.Proof.Pay
public import proofs.«01_k».proof.Proof.RefDens
public import Idealize.ShloMosaic.Lib.Pipeline.ValueKit.Geometry

@[expose] public section

noncomputable section

namespace Cert.Proof.Dens

open Cert.KernelIdeal Cert.KernelIdeal.Gen
open Idealize.ShloMosaic Idealize.ShloMosaic.TcCoe Idealize.ShloMosaic.ValueIdx
open Cert.Proof.Dens.Ref (ampW halfW densAt)

/-! ## The scales -/

/-- A cascade's scale, as a word. -/
def sclW : Fin 4 → BitVec 32
  | 0 => 0x3F000000#32
  | 1 => 0x3F800000#32
  | 2 => 0x40000000#32
  | 3 => 0x40800000#32

/-- The scales are reals: the scale, its share of a cell, and the rest. -/
def sclR : Fin 4 → ℝ
  | 0 => 1 / 2
  | 1 => 1
  | 2 => 2
  | 3 => 4

theorem scl_real (r : Fin 4) : Ideal.ofBits .f32 (sclW r) = ((sclR r : ℝ) : EReal) := by
  fin_cases r <;> (simp [sclW, sclR, Ideal.ofBits, Ideal.ieee, -EReal.coe_mul]; try norm_num)
theorem half_real (r : Fin 4) : Ideal.ofBits .f32 (halfW r) = ((sclR r * (1 / 128) : ℝ) : EReal) := by
  fin_cases r <;> (simp [halfW, sclR, Ideal.ofBits, Ideal.ieee, -EReal.coe_mul]; try norm_num)
theorem amp_real (r : Fin 4) : Ideal.ofBits .f32 (ampW r) = ((sclR r - sclR r * (1 / 128) : ℝ) : EReal) := by
  fin_cases r <;> (simp [ampW, sclR, Ideal.ofBits, Ideal.ieee, -EReal.coe_mul, -EReal.coe_sub]; try norm_num)
theorem cells_real : Ideal.ofBits .f32 0x43000000#32 = ((128 : ℝ) : EReal) := by
  simp [Ideal.ofBits, Ideal.ieee, -EReal.coe_mul]; norm_num

theorem scl_col (r : Fin 4) : k0_pay2 (F := Ideal) (ix2 r 0) = Ideal.ofBits .f32 (sclW r) := by
  fin_cases r <;> rfl

theorem half_col (r : Fin 4) : k0_pay3 (F := Ideal) (ix2 r 0) = Ideal.ofBits .f32 (halfW r) := by
  show Ideal.div (k0_pay2 (F := Ideal) (ix2 r 0)) (Ideal.ofBits .f32 0x43000000#32) = _
  rw [scl_col, scl_real, half_real, cells_real, Ideal.div_coe (by norm_num), ← EReal.coe_mul]

theorem amp_col (r : Fin 4) : k0_pay4 (F := Ideal) (ix2 r 0) = Ideal.ofBits .f32 (ampW r) := by
  show k0_pay2 (F := Ideal) (ix2 r 0) - k0_pay3 (F := Ideal) (ix2 r 0) = _
  rw [half_col, scl_col, scl_real, half_real, amp_real, ← EReal.coe_sub]

/-! ## A block's densities -/

theorem spread_apply (v : FVec Ideal S4x1 .f32) (r : Fin 4) (l : Fin 8192) : broadcastTo S4x8192 v broadcasts_S4x1_S4x8192 (ix2 r l) = v (ix2 r 0) := by
  show v _ = v _
  refine congrArg v ?_
  funext a
  match a with
  | ⟨0, _⟩ => rfl
  | ⟨1, _⟩ => rfl

theorem drop_apply {α : Type} (x : S1x4x8192.Idx → α) (r : Fin 4) (l : Fin 8192) :
    shapeCast S4x8192 x shapeCasts_S1x4x8192_S4x8192 (ix2 r l) = x (ix3 0 r l) := by
  refine shapeCast_apply x shapeCasts_S1x4x8192_S4x8192 (ix2 r l) (ix3 0 r l) ?_
  rw [Shape.rowMajor_val_three, Shape.rowMajor_val_two]
  show (0 * 4 + r.val) * 8192 + l.val = r.val * 8192 + l.val
  omega

theorem jit_apply (x : Vec Ideal S1x4x8192 .i32) (n : Vec Ideal S1x4x8192 .f32) (r : Fin 4) (l : Fin 8192) :
    jit (F := Ideal) x n (ix2 r l) = jtr (Ideal.ofBits .f32 (ampW r)) (Ideal.ofBits .f32 (halfW r)) (x (ix3 0 r l)) (n (ix3 0 r l)) := by
  show (Ideal.div (FloatOps.sitofp (F := Ideal) .f32 (shapeCast S4x8192 x shapeCasts_S1x4x8192_S4x8192 (ix2 r l))) (Ideal.ofBits .f32 0x42FE0000#32)
        * Ideal.ofBits .f32 0x40000000#32 - Ideal.ofBits .f32 0x3F800000#32)
      * broadcastTo S4x8192 (k0_pay4 (F := Ideal)) broadcasts_S4x1_S4x8192 (ix2 r l)
    + (shapeCast S4x8192 n shapeCasts_S1x4x8192_S4x8192 (ix2 r l) * Ideal.ofBits .f32 0x40000000#32 - Ideal.ofBits .f32 0x3F800000#32)
      * broadcastTo S4x8192 (k0_pay3 (F := Ideal)) broadcasts_S4x1_S4x8192 (ix2 r l) = _
  rw [spread_apply, spread_apply, drop_apply, drop_apply, amp_col, half_col]
  rfl

theorem unit_apply (X Y Z : FVec Ideal S4x8192 .f32) (x6 : Vec Ideal S3x32 .f32) (x7 x8 : Vec Ideal S32 .f32) (j : Fin 32) (i : S4x8192.Idx) :
    unitAt (F := Ideal) X Y Z x6 x7 x8 j i
      = hidv (fun k j => x6 (ix2 k j)) (fun j => x7 (ix1 j)) ![X i, Y i, Z i] j * x8 (ix1 j) := by
  unfold unitAt
  rw [word2_eq, word2_eq, word2_eq, word1_eq, word1_eq]
  show max (X i * x6 (ix2 0 j) + Y i * x6 (ix2 1 j) + Z i * x6 (ix2 2 j) + x7 (ix1 j)) (Ideal.ofBits .f32 0x00000000#32) * x8 (ix1 j) = _
  rw [Ideal.ofBits_zero_f32]
  unfold hidv
  rw [Fin.sum_univ_three]
  rfl

theorem acc_apply (X Y Z : FVec Ideal S4x8192 .f32) (x6 : Vec Ideal S3x32 .f32) (x7 x8 : Vec Ideal S32 .f32) (i : S4x8192.Idx) (n : ℕ) :
    accTo (F := Ideal) X Y Z x6 x7 x8 n i = ∑ j ∈ Finset.range (n + 1), unitAt (F := Ideal) X Y Z x6 x7 x8 (Fin.ofNat 32 j) i := by
  induction n with
  | zero => rw [Finset.sum_range_one]; rfl
  | succ n ih =>
    rw [Finset.sum_range_succ, ← ih]
    rfl

theorem softp_apply (z : FVec Ideal S4x8192 .f32) (i : S4x8192.Idx) : softp (F := Ideal) z i = sfp (z i) := by
  show max (z i) (Ideal.ofBits .f32 0x00000000#32) + Ideal.log1p (Ideal.exp (Ideal.ofBits .f32 0x00000000#32 - max (z i) (-(z i)))) = _
  rw [Ideal.ofBits_zero_f32, zero_sub]
  rfl

/-- A block's densities, at a sample. -/
theorem densVal_apply (x0 x1 x2 : Vec Ideal S1x4x8192 .i32) (x3 x4 x5 : Vec Ideal S1x4x8192 .f32) (x6 : Vec Ideal S3x32 .f32) (x7 x8 : Vec Ideal S32 .f32)
    (r : Fin 4) (l : Fin 8192) :
    densVal (F := Ideal) x0 x1 x2 x3 x4 x5 x6 x7 x8 (ix2 r l)
      = denp (fun k j => x6 (ix2 k j)) (fun j => x7 (ix1 j)) (fun j => x8 (ix1 j))
          (fun k => jtr (Ideal.ofBits .f32 (ampW r)) (Ideal.ofBits .f32 (halfW r)) ((![x0, x1, x2] k) (ix3 0 r l)) ((![x3, x4, x5] k) (ix3 0 r l))) := by
  unfold densVal
  rw [softp_apply, acc_apply]
  unfold denp
  refine congrArg sfp ?_
  rw [Finset.sum_range]
  refine Finset.sum_congr rfl fun j _ => ?_
  have hj : Fin.ofNat 32 j.val = j := Fin.ext (Nat.mod_eq_of_lt j.isLt)
  rw [hj, unit_apply, jit_apply, jit_apply, jit_apply]
  refine congrArg (fun p => hidv (fun k j => x6 (ix2 k j)) (fun j => x7 (ix1 j)) p j * x8 (ix1 j)) ?_
  funext k
  fin_cases k <;> rfl

end Cert.Proof.Dens

end
-- ==== Proof.DensArr.lean ====
/-
  The array of densities the TensorCore kernel leaves, read at a cascade and a sample.
-/
module

public import proofs.«01_k».proof.Proof.Deal
public import proofs.«01_k».proof.Proof.KerDens

@[expose] public section

noncomputable section

namespace Cert.Proof.Dens

open Cert.KernelIdeal Cert.KernelIdeal.Gen
open Idealize.ShloMosaic Idealize.ShloMosaic.TcCoe Idealize.ShloMosaic.ValueIdx
open Cert.Proof.Dens.Ref (ampW halfW densAt)

variable (m : (ℓ : Loc nD τ sig) → Buf (Elt Ideal) ℓ) (d : Dev nD)

/-! ## The arrays the host operations leave -/

theorem cells_arr (k : Fin 3) (r : Fin 4) (n : Fin 1048576) :
    (Vs m d main_v0 : S3x4x1048576.Idx → BitVec 32) (ix3 k r n) = (m ((SparseCore.T d).loc main_arg2) : S4x1048576x3.Idx → BitVec 32) (ix3 r n k) := by
  have e : Vs m d main_v0 = (transpose S3x4x1048576 [2, 0, 1] (val0 m d (Proc.devRef .tc main_arg2)) transposes_S4x1048576x3_S3x4x1048576_2_0_1 : S3x4x1048576.Idx → BitVec 32) := by
    show opW.result (opN.result (opX.result (val0 m d))) (Proc.devRef .tc main_v0) = _
    rw [StableHlo.reshape_result_ne (h := by decide), StableHlo.unary_result_ne (h := by decide)]
    exact StableHlo.unary_result _ _ _ _ _ _
  rw [e]
  refine transpose_apply _ _ _ _ (ix3 r n k) fun b => ?_
  match b with
  | ⟨0, _⟩ => rfl
  | ⟨1, _⟩ => rfl
  | ⟨2, _⟩ => rfl

theorem noise_arr (k : Fin 3) (r : Fin 4) (n : Fin 1048576) :
    (Vs m d main_v1 : S3x4x1048576.Idx → EReal) (ix3 k r n) = (m ((SparseCore.T d).loc main_arg3) : S4x1048576x3.Idx → EReal) (ix3 r n k) := by
  have e : Vs m d main_v1 = (transpose S3x4x1048576 [2, 0, 1] (val0 m d (Proc.devRef .tc main_arg3)) transposes_S4x1048576x3_S3x4x1048576_2_0_1 : S3x4x1048576.Idx → EReal) := by
    show opW.result (opN.result (opX.result (val0 m d))) (Proc.devRef .tc main_v1) = _
    rw [StableHlo.reshape_result_ne (h := by decide)]
    refine (StableHlo.unary_result _ _ _ _ _ _).trans ?_
    rw [StableHlo.unary_result_ne (h := by decide)]
  rw [e]
  refine transpose_apply _ _ _ _ (ix3 r n k) fun b => ?_
  match b with
  | ⟨0, _⟩ => rfl
  | ⟨1, _⟩ => rfl
  | ⟨2, _⟩ => rfl

theorem out_arr (j : Fin 32) :
    (Vs m d main_v2 : S32.Idx → EReal) (ix1 j) = (m ((SparseCore.T d).loc main_arg6) : S32x1.Idx → EReal) (ix2 j 0) := by
  have e : Vs m d main_v2 = (shapeCast S32 (val0 m d (Proc.devRef .tc main_arg6)) shapeCasts_S32x1_S32 : S32.Idx → EReal) := by
    show opW.result (opN.result (opX.result (val0 m d))) (Proc.devRef .tc main_v2) = _
    refine (StableHlo.reshape_result _ _ _ _ _ _ _).trans ?_
    rw [StableHlo.unary_result_ne (h := by decide), StableHlo.unary_result_ne (h := by decide)]
    rfl
  rw [e]
  refine shapeCast_apply _ shapeCasts_S32x1_S32 (ix1 j) (ix2 j 0) ?_
  rw [Shape.rowMajor_val_two, Shape.rowMajor_val_one]
  show j.val * 1 + 0 = j.val
  omega

/-! ## The blocks at a sample -/

theorem idxX0 : ∀ t : Fin cfg0.N, win0_0.index t = ![0, 0, t.val] := (by decide +kernel : ∀ t : Fin grid0.N, _)
theorem idxX1 : ∀ t : Fin cfg0.N, win0_1.index t = ![1, 0, t.val] := (by decide +kernel : ∀ t : Fin grid0.N, _)
theorem idxX2 : ∀ t : Fin cfg0.N, win0_2.index t = ![2, 0, t.val] := (by decide +kernel : ∀ t : Fin grid0.N, _)
theorem idxN0 : ∀ t : Fin cfg0.N, win0_3.index t = ![0, 0, t.val] := (by decide +kernel : ∀ t : Fin grid0.N, _)
theorem idxN1 : ∀ t : Fin cfg0.N, win0_4.index t = ![1, 0, t.val] := (by decide +kernel : ∀ t : Fin grid0.N, _)
theorem idxN2 : ∀ t : Fin cfg0.N, win0_5.index t = ![2, 0, t.val] := (by decide +kernel : ∀ t : Fin grid0.N, _)
theorem idxW1 : ∀ t : Fin cfg0.N, win0_6.index t = ![0, 0] := (by decide +kernel : ∀ t : Fin grid0.N, _)
theorem idxB1 : ∀ t : Fin cfg0.N, win0_7.index t = ![0] := (by decide +kernel : ∀ t : Fin grid0.N, _)
theorem idxW2 : ∀ t : Fin cfg0.N, win0_8.index t = ![0] := (by decide +kernel : ∀ t : Fin grid0.N, _)
theorem idxD : ∀ t : Fin cfg0.N, win0_9.index t = ![0, t.val] := (by decide +kernel : ∀ t : Fin grid0.N, _)

/-- A block's sample in the array. -/
def samp (t : Fin cfg0.N) (l : Fin 8192) : Fin 1048576 :=
  ⟨t.val * 8192 + l.val, by have h : t.val < 128 := t.isLt; have := l.isLt; omega⟩

theorem blkX (t : Fin cfg0.N) (r : Fin 4) (l : Fin 8192) (k : Fin 3) :
    ((![blkOf d (Vs m d) 0 t, blkOf d (Vs m d) 1 t, blkOf d (Vs m d) 2 t] : Fin 3 → S1x4x8192.Idx → BitVec 32) k) (ix3 0 r l)
      = (m ((SparseCore.T d).loc main_arg2) : S4x1048576x3.Idx → BitVec 32) (ix3 r (samp t l) k) := by
  refine Eq.trans ?_ (cells_arr m d k r (samp t l))
  fin_cases k
  · show blkOf d (Vs m d) 0 t (ix3 0 r l) = _
    blk_simp [blkOf]
    refine congrArg (Vs m d main_v0 : S3x4x1048576.Idx → BitVec 32) ?_
    blk_ext [idxX0] <;> rfl
  · show blkOf d (Vs m d) 1 t (ix3 0 r l) = _
    blk_simp [blkOf]
    refine congrArg (Vs m d main_v0 : S3x4x1048576.Idx → BitVec 32) ?_
    blk_ext [idxX1] <;> rfl
  · show blkOf d (Vs m d) 2 t (ix3 0 r l) = _
    blk_simp [blkOf]
    refine congrArg (Vs m d main_v0 : S3x4x1048576.Idx → BitVec 32) ?_
    blk_ext [idxX2] <;> rfl

theorem blkN (t : Fin cfg0.N) (r : Fin 4) (l : Fin 8192) (k : Fin 3) :
    ((![blkOf d (Vs m d) 3 t, blkOf d (Vs m d) 4 t, blkOf d (Vs m d) 5 t] : Fin 3 → S1x4x8192.Idx → EReal) k) (ix3 0 r l)
      = (m ((SparseCore.T d).loc main_arg3) : S4x1048576x3.Idx → EReal) (ix3 r (samp t l) k) := by
  refine Eq.trans ?_ (noise_arr m d k r (samp t l))
  fin_cases k
  · show blkOf d (Vs m d) 3 t (ix3 0 r l) = _
    blk_simp [blkOf]
    refine congrArg (Vs m d main_v1 : S3x4x1048576.Idx → EReal) ?_
    blk_ext [idxN0] <;> rfl
  · show blkOf d (Vs m d) 4 t (ix3 0 r l) = _
    blk_simp [blkOf]
    refine congrArg (Vs m d main_v1 : S3x4x1048576.Idx → EReal) ?_
    blk_ext [idxN1] <;> rfl
  · show blkOf d (Vs m d) 5 t (ix3 0 r l) = _
    blk_simp [blkOf]
    refine congrArg (Vs m d main_v1 : S3x4x1048576.Idx → EReal) ?_
    blk_ext [idxN2] <;> rfl

theorem blkW1 (t : Fin cfg0.N) (k : Fin 3) (j : Fin 32) :
    (blkOf d (Vs m d) 6 t : S3x32.Idx → EReal) (ix2 k j) = (m ((SparseCore.T d).loc main_arg4) : S3x32.Idx → EReal) (ix2 k j) := by
  have e := Vs_same m d (b := main_arg4) (by decide) (by decide) (by decide)
  rw [← e]
  blk_simp [blkOf]
  refine congrArg (Vs m d main_arg4 : S3x32.Idx → EReal) ?_
  blk_ext [idxW1]

theorem blkB1 (t : Fin cfg0.N) (j : Fin 32) :
    (blkOf d (Vs m d) 7 t : S32.Idx → EReal) (ix1 j) = (m ((SparseCore.T d).loc main_arg5) : S32.Idx → EReal) (ix1 j) := by
  have e := Vs_same m d (b := main_arg5) (by decide) (by decide) (by decide)
  rw [← e]
  blk_simp [blkOf]
  refine congrArg (Vs m d main_arg5 : S32.Idx → EReal) ?_
  blk_ext [idxB1]

theorem blkW2 (t : Fin cfg0.N) (j : Fin 32) :
    (blkOf d (Vs m d) 8 t : S32.Idx → EReal) (ix1 j) = (m ((SparseCore.T d).loc main_arg6) : S32x1.Idx → EReal) (ix2 j 0) := by
  refine Eq.trans ?_ (out_arr m d j)
  blk_simp [blkOf]
  refine congrArg (Vs m d main_v2 : S32.Idx → EReal) ?_
  blk_ext [idxW2]

/-- What a point of the grid leaves of its block, at a sample. -/
theorem outBlk_apply (t : Fin cfg0.N) (r : Fin 4) (l : Fin 8192) :
    outBlk d (Vs m d) t (ix2 r l)
      = densAt (m ((SparseCore.T d).loc main_arg2)) (m ((SparseCore.T d).loc main_arg3)) (m ((SparseCore.T d).loc main_arg4)) (m ((SparseCore.T d).loc main_arg5))
          (m ((SparseCore.T d).loc main_arg6)) r (samp t l) := by
  unfold outBlk
  rw [densVal_apply]
  unfold densAt
  have e1 := fun k => blkX m d t r l k
  have e2 := fun k => blkN m d t r l k
  congr 1
  · funext k j; exact blkW1 m d t k j
  · funext j; exact blkB1 m d t j
  · funext j; exact blkW2 m d t j
  · funext k; exact congrArg₂ (jtr _ _) (e1 k) (e2 k)

/-- The densities the region leaves. -/
theorem densOf_eq (r : Fin 4) (n : Fin 1048576) :
    densOf m d (ix2 r n)
      = densAt (m ((SparseCore.T d).loc main_arg2)) (m ((SparseCore.T d).loc main_arg3)) (m ((SparseCore.T d).loc main_arg4)) (m ((SparseCore.T d).loc main_arg5))
          (m ((SparseCore.T d).loc main_arg6)) r n := by
  refine congrFun ((dats (Vs m) 0 d).arrAt_eq_of_covers 9
    (fun y : S4x1048576.Idx => densAt (m ((SparseCore.T d).loc main_arg2)) (m ((SparseCore.T d).loc main_arg3)) (m ((SparseCore.T d).loc main_arg4))
      (m ((SparseCore.T d).loc main_arg5)) (m ((SparseCore.T d).loc main_arg6)) (y 0) (y 1)) (by decide +kernel) fun t hf y => ?_) (ix2 r n)
  blk_simp
  obtain ⟨r', l, hy⟩ : ∃ (r' : Fin 4) (l : Fin 8192), y = ix2 r' l := ⟨y 0, y 1, by funext a; match a with | ⟨0, _⟩ => rfl | ⟨1, _⟩ => rfl⟩
  subst hy
  refine (outBlk_apply m d t r' l).trans ?_
  refine congrArg₂ (densAt (m ((SparseCore.T d).loc main_arg2)) (m ((SparseCore.T d).loc main_arg3)) (m ((SparseCore.T d).loc main_arg4))
      (m ((SparseCore.T d).loc main_arg5)) (m ((SparseCore.T d).loc main_arg6))) (Fin.ext ?_) (Fin.ext ?_)
  · blk_simp [idxD]
  · blk_simp [idxD]
    rfl

end Cert.Proof.Dens

end
-- ==== Proof.Launch.lean ====
/-
  The program's run: @main's host operations, the TensorCore region, the SparseCore call.
-/
module

public import proofs.«01_k».proof.Proof.Deal

@[expose] public section

noncomputable section

namespace Cert.Proof.Dens

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main -/

/-- The result array at the end. -/
def resOf (d : Dev nD) : S4x2097152.Idx → F .f32 := outFn (indsOf m d) (densOf m d) (gridOf m d)

/-- What @main leaves the claim: the arguments as they were, the result at its value. -/
def FIN (d : Dev nD) : sProp 𝕄 :=
  iprop(rd ((SparseCore.T d).loc main_arg0) (m ((SparseCore.T d).loc main_arg0)) ∗ rd ((SparseCore.T d).loc main_arg1) (m ((SparseCore.T d).loc main_arg1))
    ∗ rd ((SparseCore.T d).loc main_arg2) (m ((SparseCore.T d).loc main_arg2)) ∗ rd ((SparseCore.T d).loc main_arg3) (m ((SparseCore.T d).loc main_arg3))
    ∗ rd ((SparseCore.T d).loc main_arg4) (m ((SparseCore.T d).loc main_arg4)) ∗ rd ((SparseCore.T d).loc main_arg5) (m ((SparseCore.T d).loc main_arg5))
    ∗ rd ((SparseCore.T d).loc main_arg6) (m ((SparseCore.T d).loc main_arg6)) ∗ rd ((SparseCore.T d).loc main_v4) (resOf m d))

theorem rd_of {ℓ : Loc nD τ sig} {f g : Buf (Elt F) ℓ} (h : f = g) : (ℓ ↦{fullShare} f : sProp 𝕄) ⊢ rd ℓ g := by
  subst h; unfold rd; iintro H; iexists _; iexact H

theorem rd_two {ℓ : Loc nD τ sig} {f g : Buf (Elt F) ℓ} (h : f = g) : (ℓ ↦{fullShare} f : sProp 𝕄) ⊢ iprop(rd ℓ g ∗ rd ℓ g) := by
  subst h; unfold rd
  iintro H
  ihave H' := (pointsTo_share (PosShare.mem_left_op_right fullShare)).1 $$ H
  icases H' with ⟨H1, H2⟩
  isplitl [H1]; · iexists _; iexact H1
  iexists _; iexact H2

/-- After the region: the call's operands apart, the arguments kept. -/
theorem parted (d : Dev nD) :
    (unscopedBufs d (Vafter (Vs m) d) : sProp 𝕄) ⊢ iprop((rd ((SparseCore.T d).loc main_arg1) (indsOf m d) ∗ rd ((SparseCore.T d).loc main_v3) (densOf m d)
        ∗ rd ((SparseCore.T d).loc main_arg0) (gridOf m d) ∗ ∃ f, (SparseCore.T d).loc main_v4 ↦{fullShare} f)
      ∗ (((SparseCore.T d).loc main_v4 ↦{fullShare} resOf m d) -∗ FIN m d)) := by
  rw [bufs_eq]
  iintro ⟨H0, H1, H2, H3, H4, H5, H6, -, -, -, Hd, Ho⟩
  ihave H0' := (rd_two (Vafter_arg m d (b := main_arg0) (by decide) (by decide) (by decide) (by decide))) $$ H0
  icases H0' with ⟨H0, H0'⟩
  ihave H1' := (rd_two (Vafter_arg m d (b := main_arg1) (by decide) (by decide) (by decide) (by decide))) $$ H1
  icases H1' with ⟨H1, H1'⟩
  ihave H2' := (rd_of (Vafter_arg m d (b := main_arg2) (by decide) (by decide) (by decide) (by decide))) $$ H2
  ihave H3' := (rd_of (Vafter_arg m d (b := main_arg3) (by decide) (by decide) (by decide) (by decide))) $$ H3
  ihave H4' := (rd_of (Vafter_arg m d (b := main_arg4) (by decide) (by decide) (by decide) (by decide))) $$ H4
  ihave H5' := (rd_of (Vafter_arg m d (b := main_arg5) (by decide) (by decide) (by decide) (by decide))) $$ H5
  ihave H6' := (rd_of (Vafter_arg m d (b := main_arg6) (by decide) (by decide) (by decide) (by decide))) $$ H6
  ihave Hd' := (rd_of (Vafter_dens m d)) $$ Hd
  isplitl [H0 H1 Hd' Ho]
  · isplitl [H1]; · iexact H1
    isplitl [Hd']; · iexact Hd'
    isplitl [H0]; · iexact H0
    iexists _; iexact Ho
  iintro Ho
  unfold FIN
  isplitl [H0']; · iexact H0'
  isplitl [H1']; · iexact H1'
  isplitl [H2']; · iexact H2'
  isplitl [H3']; · iexact H3'
  isplitl [H4']; · iexact H4'
  isplitl [H5']; · iexact H5'
  isplitl [H6']; · iexact H6'
  iapply (rd_of rfl); iexact Ho

theorem hX : (opX (F := F)).bufs ⊆ Pipeline.ucRefs τ sig :=
  show ({Proc.devRef .tc main_arg2, Proc.devRef .tc main_v0} : Finset (DevRef τ sig)) ⊆ Pipeline.ucRefs τ sig by decide
theorem hN : (opN (F := F)).bufs ⊆ Pipeline.ucRefs τ sig :=
  show ({Proc.devRef .tc main_arg3, Proc.devRef .tc main_v1} : Finset (DevRef τ sig)) ⊆ Pipeline.ucRefs τ sig by decide
theorem hW : (opW (F := F)).bufs ⊆ Pipeline.ucRefs τ sig :=
  show ({Proc.devRef .tc main_arg6, Proc.devRef .tc main_v2} : Finset (DevRef τ sig)) ⊆ Pipeline.ucRefs τ sig by decide

/-- The TensorCore's record of its dues lies in its state between calls. -/
theorem dues_out (d : Dev nD) : ((K (F := F)).tcSt EH d 0 : sProp 𝕄) ⊢ iprop(dues d ∗ (dues d -∗ (K (F := F)).tcSt EH d 0)) := by
  unfold SparseCore.Cfg.tcSt dues
  iintro ⟨Ho, Hr⟩
  isplitl [Ho]; · iexact Ho
  iintro Ho
  isplitl [Ho]; · iexact Ho
  iexact Hr

/-- The SparseCore call and the end of @main. -/
theorem callTail (κ : GSem nD τ sig → ℕ) (d : Dev nD) :
    iprop((K (F := F)).ctx EH (P m) κ ∗ (K (F := F)).tcSt EH d 0 ∗ boundary (SparseCore.T d) ∗ (K (F := F)).tcSems0 d ∗ unscopedBufs d (Vafter (Vs m) d))
      ⊢ wp frame (wpE ((K (F := F)).defs (D (F := F))) 𝒱 (SparseCore.T d) none) Set.univ (sc.run d 0) fun _ =>
          iprop(|={Set.univ}=> ((K (F := F)).tcSt EH d 1 ∗ FIN m d ∗ (K (F := F)).tcEnd d)) := by
  unfold SparseCore.Cfg.tcEnd
  iintro ⟨#Hctx, Hst, Hb, Hts, Hu⟩
  ihave Hp := (parted m d) $$ Hu
  icases Hp with ⟨⟨H1, H3, H0, %f, Ho⟩, Hfin⟩
  iapply ((K (F := F)).wp_run (D (F := F)) 𝒱 (EH := EH) (P := P m) κ d 0) $$ [Hst H1 H3 H0 Ho Hfin Hb Hts]
  isplitr; · iexact Hctx
  isplitl [Hst]; · iexact Hst
  isplitl [H1 H3 H0 Ho]
  · iapply (dealt m d f)
    isplitl [H1]; · iexact H1
    isplitl [H3]; · iexact H3
    isplitl [H0]; · iexact H0
    iexact Ho
  iintro ⟨Hst, Hdn⟩
  ihave Ho := (gathered m d) $$ Hdn
  imodintro
  isplitl [Hst]; · iexact Hst
  isplitl [Hfin Ho]; · iapply Hfin; iexact Ho
  isplitl [Hb] <;> iassumption

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes
  rw [show (unscopedBufs d (fun b => m ((SparseCore.T d).loc b)) : sProp 𝕄) = StableHlo.held (d.tc : Thread nD τ) (Pipeline.ucRefs τ sig) (val0 m d) from
    Pipeline.unscopedBufs_held d (val0 m d)]
  simp only [main, wp_bind, wp_pure]
  iintro ⟨#Hctx, Hst, ⟨Hb, Hheld, Hts, -⟩, HG⟩
  iapply (StableHlo.wp_hlo_within 𝒱 (SparseCore.T d) none Set.univ (op := opX) (S := Pipeline.ucRefs τ sig) hX (V := val0 m d)) $$ [Hb Hheld]
  · isplitl [Hb] <;> iassumption
  iintro ⟨Hb, Hheld⟩
  rw [wp_ret]; imodintro
  iapply (StableHlo.wp_hlo_within 𝒱 (SparseCore.T d) none Set.univ (op := opN) (S := Pipeline.ucRefs τ sig) hN (V := opX.result (val0 m d))) $$ [Hb Hheld]
  · isplitl [Hb] <;> iassumption
  iintro ⟨Hb, Hheld⟩
  rw [wp_ret]; imodintro
  iapply (StableHlo.wp_hlo_within 𝒱 (SparseCore.T d) none Set.univ (op := opW) (S := Pipeline.ucRefs τ sig) hW (V := opN.result (opX.result (val0 m d)))) $$ [Hb Hheld]
  · isplitl [Hb] <;> iassumption
  iintro ⟨Hb, Hheld⟩
  rw [wp_ret]; imodintro
  ihave Hu := (Entails.of_eq (show (StableHlo.held (SparseCore.T d) (Pipeline.ucRefs τ sig) (opW.result (opN.result (opX.result (val0 m d)))) : sProp 𝕄) = unscopedBufs d (Vs m d) from
    (Pipeline.unscopedBufs_held d (val3 m d)).symm)) $$ Hheld
  ihave Hd := (dues_out (F := F) d) $$ Hst
  icases Hd with ⟨Hd, Hst⟩
  ihave Hl := (SparseCore.Cfg.ctx_levAts (K := K (F := F)) (EH := EH) (P := P m) κ) $$ Hctx
  iapply (region m d _) $$ [Hl Hb Hu Hd HG Hst Hts]
  isplitl [Hl]; · iexact Hl
  isplitl [Hb]; · iexact Hb
  isplitl [Hu Hd]
  · isplitl [Hu] <;> iassumption
  isplitl [HG]; · iexact HG
  iintro ⟨Hb, Hu, Hd⟩
  ihave Hst := Hst $$ Hd
  iapply (callTail m κ d)
  isplitr; · iexact Hctx
  isplitl [Hst]; · iexact Hst
  isplitl [Hb]; · iexact Hb
  isplitl [Hts]; · iexact Hts
  iexact Hu

/-! ## The run -/

/-- What the claims read of a final memory. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4) ∧ s'.mem.mem ((SparseCore.T d).loc main_arg5) = m ((SparseCore.T d).loc main_arg5)
  ∧ s'.mem.mem ((SparseCore.T d).loc main_arg6) = m ((SparseCore.T d).loc main_arg6) ∧ s'.mem.mem ((SparseCore.T d).loc main_v4) = resOf m d

theorem rd_pure {ℓ : Loc nD τ sig} {f : Buf (Elt F) ℓ} (s' : Phys nD τ sig (Elt F)) : iprop(rd ℓ f ∗ SI s') ⊢ (⌜s'.mem.mem ℓ = f⌝ : sProp 𝕄) := by
  unfold rd
  iintro ⟨⟨%q, Hx⟩, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem rd_agree {ℓ : Loc nD τ sig} {f : Buf (Elt F) ℓ} (s' : Phys nD τ sig (Elt F)) : iprop(rd ℓ f ∗ SI s') ⊢ (iprop(⌜s'.mem.mem ℓ = f⌝ ∗ SI s') : sProp 𝕄) :=
  (persistent_entails_right (rd_pure s')).trans (sep_mono .rfl sep_elim_right)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, Ho⟩, HSI⟩
  ihave H := (rd_agree s') $$ [H0 HSI]; · isplitl [H0] <;> iassumption
  icases H with ⟨%h0, HSI⟩
  ihave H := (rd_agree s') $$ [H1 HSI]; · isplitl [H1] <;> iassumption
  icases H with ⟨%h1, HSI⟩
  ihave H := (rd_agree s') $$ [H2 HSI]; · isplitl [H2] <;> iassumption
  icases H with ⟨%h2, HSI⟩
  ihave H := (rd_agree s') $$ [H3 HSI]; · isplitl [H3] <;> iassumption
  icases H with ⟨%h3, HSI⟩
  ihave H := (rd_agree s') $$ [H4 HSI]; · isplitl [H4] <;> iassumption
  icases H with ⟨%h4, HSI⟩
  ihave H := (rd_agree s') $$ [H5 HSI]; · isplitl [H5] <;> iassumption
  icases H with ⟨%h5, HSI⟩
  ihave H := (rd_agree s') $$ [H6 HSI]; · isplitl [H6] <;> iassumption
  icases H with ⟨%h6, HSI⟩
  ihave H := (rd_agree s') $$ [Ho HSI]; · isplitl [Ho] <;> iassumption
  icases H with ⟨%h7, -⟩
  ipureintro; exact ⟨h0, h1, h2, h3, h4, h5, h6, h7⟩

def QC : PUnit × MemSt nD τ sig (Elt F) → Prop := fun r =>
  (∀ d : Dev nD,
    (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_arg4) = m ((SparseCore.T d).loc main_arg4) ∧ r.2.mem ((SparseCore.T d).loc main_arg5) = m ((SparseCore.T d).loc main_arg5)
    ∧ r.2.mem ((SparseCore.T d).loc main_arg6) = m ((SparseCore.T d).loc main_arg6)) ∧ r.2.mem ((SparseCore.T d).loc main_v4) = resOf m d) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m)
    (fun _ h hz => ⟨fun d => have ⟨h0, h1, h2, h3, h4, h5, h6, h7⟩ := h d; ⟨⟨h0, h1, h2, h3, h4, h5, h6⟩, h7⟩, hz⟩)

end Cert.Proof.Dens

end
-- ==== Proof.Frames.lean ====
/-
  The programs' frames.
-/
module

public import proofs.«01_k».proof.Proof.Launch
public import proofs.«01_k».proof.Proof.Gen.Kernel
public import proofs.«01_k».proof.Proof.Gen.Pre_nonneg
public import proofs.«01_k».proof.Proof.Gen.ReferenceIdeal
public import proofs.«01_k».proof.Proof.Gen.ReferenceIdeal.Run

@[expose] public section

noncomputable section

namespace Cert.Proof.Dens

open Idealize.ShloMosaic Idealize.ShloMosaic.Tactic Idealize.SL.Sem

/-- The frame of the one text at the machine's floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

theorem frame_bits : FrameBits := fun m ρ _ =>
  (θ_run Cert.KernelIdeal.defs _ _).mono (fun _ h => ⟨fun c => (h.1 c).1, h.2⟩) (run_main (F := Bits) m ρ)

theorem frame_eq : Cert.quiescent_Kernel = FrameBits := by sl_kernel_rfl

theorem frame_kernel : Cert.quiescent_Kernel := Eq.mpr frame_eq frame_bits

theorem frame_ideal : Cert.quiescent_KernelIdeal := fun m ρ _ =>
  (θ_run Cert.KernelIdeal.defs _ _).mono (fun _ h => ⟨fun c => (h.1 c).1, h.2⟩) (run_main (F := Ideal) m ρ)

theorem frame_ideal_pre : Cert.quiescent_KernelIdeal_pre_nonneg := fun m ρ _ =>
  (θ_run Cert.KernelIdeal.defs _ _).mono (fun _ h => ⟨fun c => (h.1 c).1, h.2⟩) (run_main (F := Ideal) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_nonneg := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Dens

end
-- ==== Proof.Value.lean ====
/-
  The kernel's result and the reference's, element by element, over the extended reals.
-/
module

public import proofs.«01_k».proof.Defs
public import proofs.«01_k».proof.Proof.DensArr
public import proofs.«01_k».proof.Proof.Frames
public import Idealize.ShloMosaic.Lib.ReduceAll
public import Idealize.ShloMosaic.Lib.Claim

@[expose] public section

noncomputable section

namespace Cert.Proof.Dens

open Cert.KernelIdeal Cert.KernelIdeal.Gen
open Idealize.ShloMosaic Idealize.ShloMosaic.TcCoe Idealize.ShloMosaic.ValueIdx Idealize.SL.Sem
open Cert.Proof.Dens.Ref (densAt)
open Cert.ReferenceIdeal.Read (val_main_v168 val_main_v169 val_main_v170 val_main_v171 val_main_v172 val_main_v173 val_main_v174)

/-! ## The sweep keeps the last density -/

/-- A sample's cell lies at a place of the block exactly when its word's difference with the block's start is that place. -/
theorem hit_iff (I : BitVec 32) (b x : ℕ) (h : b + x < 2097152) : (I - BitVec.ofNat 32 b).toNat = x ↔ I.toInt = ((b + x : ℕ) : ℤ) := by
  rw [BitVec.toNat_sub, BitVec.toNat_ofNat, BitVec.toInt_eq_toNat_cond, Nat.mod_eq_of_lt (show b < 2 ^ 32 by omega)]
  have := I.isLt
  split <;> omega

theorem sweep_eq (fI : S4x1048576.Idx → BitVec 32) (fD : S4x1048576.Idx → EReal) (c : Fin 4) (b : ℕ) (x : Fin 65536) (h : b + x.val < 2097152) (N : ℕ) :
    sweep (F := Ideal) (BitVec.ofNat 32 b) fI fD c N (ix1 x)
      = lastOf (fun n => (fI (ix2 c (Fin.ofNat 1048576 n))).toInt = ((b + x.val : ℕ) : ℤ)) (fun n => fD (ix2 c (Fin.ofNat 1048576 n))) (Ideal.ofBits .f32 0x00000000#32) N := by
  induction N with
  | zero => rfl
  | succ n ih =>
    show (if (at2 fI c n - BitVec.ofNat 32 b).toNat = x.val then at2 fD c n else sweep (F := Ideal) (BitVec.ofNat 32 b) fI fD c n (ix1 x)) = _
    rw [ih]
    exact if_congr (hit_iff _ _ _ h) rfl rfl

/-- The result at an element of the grid. -/
theorem outFn_apply (fI : S4x1048576.Idx → BitVec 32) (fD : S4x1048576.Idx → EReal) (fG : S4x2097152.Idx → EReal) (r : Fin 4) (c : Fin 2097152) :
    outFn (F := Ideal) fI fD fG (ix2 r c)
      = mrg (F := Ideal) (fG (ix2 r c)) (lastOf (fun n => (fI (ix2 r (Fin.ofNat 1048576 n))).toInt = (c.val : ℤ)) (fun n => fD (ix2 r (Fin.ofNat 1048576 n)))
          (Ideal.ofBits .f32 0x00000000#32) 1048576) := by
  have hc : c.val / 65536 * 65536 + c.val % 65536 = c.val := by omega
  unfold outFn
  refine congrArg (mrg (F := Ideal) (fG (ix2 r c))) ((sweep_eq fI fD r (c.val / 65536 * 65536) ⟨c.val % 65536, Nat.mod_lt _ (by decide)⟩ ?_ 1048576).trans ?_)
  · show c.val / 65536 * 65536 + c.val % 65536 < 2097152
    rw [hc]; exact c.isLt
  · show lastOf (fun n => (fI (ix2 r (Fin.ofNat 1048576 n))).toInt = ((c.val / 65536 * 65536 + c.val % 65536 : ℕ) : ℤ)) _ _ _ = _
    simp only [hc]

/-! ## The reference's result -/

/-- The reference's result at an element of the grid. -/
theorem ref_apply (x0 : S4x2097152.Idx → EReal) (x1 : S4x1048576.Idx → BitVec 32) (x2 : S4x1048576x3.Idx → BitVec 32) (x3 : S4x1048576x3.Idx → EReal)
    (x4 : S3x32.Idx → EReal) (x5 : S32.Idx → EReal) (x6 : S32x1.Idx → EReal) (hp : ∀ (r : Fin 4) (n : Fin 1048576), 0 ≤ (x1 (ix2 r n)).toInt) (r : Fin 4) (c : Fin 2097152) :
    val_main_v174 (F := Ideal) x0 x1 x2 x3 x4 x5 x6 (ix2 r c)
      = mrg (F := Ideal) (x0 (ix2 r c)) (lastOf (fun n => (x1 (ix2 r (Fin.ofNat 1048576 n))).toInt = (c.val : ℤ))
          (fun n => densAt x2 x3 x4 x5 x6 r (Fin.ofNat 1048576 n)) (Ideal.ofBits .f32 0x00000000#32) 1048576) := by
  rw [← Ref.table_eq x1 x2 x3 x4 x5 x6 hp r c, Cert.ReferenceIdeal.Read.val_main_v174_apply, Cert.ReferenceIdeal.Read.val_main_v173_apply,
    Cert.ReferenceIdeal.Read.val_main_v172_apply, Cert.ReferenceIdeal.Read.val_main_v170_apply, Cert.ReferenceIdeal.Read.val_main_v171_apply,
    Cert.ReferenceIdeal.Read.val_main_v169_apply]
  rfl

/-! ## The two results -/

/-- No cell's number is negative. -/
theorem nonneg_of_pre (m : (ℓ : Loc nD τ sig) → Buf (Elt Ideal) ℓ) (h : Cert.Pre_KernelIdeal_nonneg m) (d : Dev nD) (r : Fin 4) (n : Fin 1048576) :
    0 ≤ ((m ((SparseCore.T d).loc main_arg1) : S4x1048576.Idx → BitVec 32) (ix2 r n)).toInt :=
  IntOp.cmpi_sge.1 (Host.reduce_andi_all _ _ _ _ ix0 (congrFun (h d) ix0) (ix2 r n))

theorem res_eq (m : (ℓ : Loc nD τ sig) → Buf (Elt Ideal) ℓ) (h : Cert.Pre_KernelIdeal_nonneg m) (d : Dev nD) :
    resOf (F := Ideal) m d
      = val_main_v174 (F := Ideal) (m ((SparseCore.T d).loc main_arg0)) (m ((SparseCore.T d).loc main_arg1)) (m ((SparseCore.T d).loc main_arg2))
          (m ((SparseCore.T d).loc main_arg3)) (m ((SparseCore.T d).loc main_arg4)) (m ((SparseCore.T d).loc main_arg5)) (m ((SparseCore.T d).loc main_arg6)) := by
  funext y
  obtain ⟨r, c, hy⟩ : ∃ (r : Fin 4) (c : Fin 2097152), y = ix2 r c := ⟨y 0, y 1, by funext a; match a with | ⟨0, _⟩ => rfl | ⟨1, _⟩ => rfl⟩
  subst hy
  refine (outFn_apply (indsOf m d) (densOf m d) (gridOf m d) r c).trans ((ref_apply _ _ _ _ _ _ _ (nonneg_of_pre m h d) r c).trans ?_).symm
  refine congrArg (mrg (F := Ideal) _) ?_
  exact congrArg (fun v => lastOf _ v _ _) (funext fun n => (densOf_eq m d r (Fin.ofNat 1048576 n)).symm)

/-- The same, of a reference's memory that agrees on the arguments. -/
theorem res_eq_of (m : (ℓ : Loc nD τ sig) → Buf (Elt Ideal) ℓ) (h : Cert.Pre_KernelIdeal_nonneg m) (d : Dev nD)
    (x0 : S4x2097152.Idx → EReal) (x1 : S4x1048576.Idx → BitVec 32) (x2 : S4x1048576x3.Idx → BitVec 32) (x3 : S4x1048576x3.Idx → EReal)
    (x4 : S3x32.Idx → EReal) (x5 : S32.Idx → EReal) (x6 : S32x1.Idx → EReal)
    (e : x0 = m ((SparseCore.T d).loc main_arg0) ∧ x1 = m ((SparseCore.T d).loc main_arg1) ∧ x2 = m ((SparseCore.T d).loc main_arg2)
      ∧ x3 = m ((SparseCore.T d).loc main_arg3) ∧ x4 = m ((SparseCore.T d).loc main_arg4) ∧ x5 = m ((SparseCore.T d).loc main_arg5)
      ∧ x6 = m ((SparseCore.T d).loc main_arg6)) :
    val_main_v174 (F := Ideal) x0 x1 x2 x3 x4 x5 x6 = resOf (F := Ideal) m d := by
  obtain ⟨rfl, rfl, rfl, rfl, rfl, rfl, rfl⟩ := e
  exact (res_eq m h d).symm

/-- The kernel and the reference end with equal results. -/
theorem results : Cert.algebraic_KernelIdeal_ReferenceIdeal_pre_nonneg := fun m g m' g' hpre hag =>
  ⟨fun c => resOf (F := Ideal) m c,
    (θ_run Cert.KernelIdeal.defs _ _).mono (fun _ h c => ⟨(h.1 c).2, (h.1 c).1⟩) (run_main (F := Ideal) m g),
    (θ_run Cert.ReferenceIdeal.defs _ _).mono
      (fun _ h c => ⟨((h c).1.trans (Cert.ReferenceIdeal.Read.val_main_v174_eq (StableHlo.launchContents m' c))).trans
        (res_eq_of m hpre c _ _ _ _ _ _ _ (hag c)), (h c).2⟩) (Cert.ReferenceIdeal.Value.run (F := Ideal) m' g')⟩

end Cert.Proof.Dens

end
-- ==== Proof.lean ====
/-
  The claim: the program's frames, at the machine's floats and at the ideal ones, the reference's, and the equality of the two results.
-/
module

public import proofs.«01_k».proof.Defs
public import proofs.«01_k».proof.Proof.Value
public import proofs.«01_k».proof.Proof.Gen.ReferenceIdeal.Run
public import proofs.«01_k».proof.Proof.Gen.ReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_nonneg.Gen.facts, Dens.frame_kernel, Dens.frame_ideal,
    Dens.frame_ideal_pre, Dens.frame_ref, Dens.frame_ref_pre, trivial, Dens.results⟩

end Cert.Proof

end
